-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tables_ok : Cert.Pre_tables_ok.Facts] (m : (ℓ : Loc Cert.Experts.nD Cert.Experts.τ Cert.Experts.sig) → Buf (Elt Bits) ℓ) : Prop :=
  ∀ c : Dev Cert.Experts.nD,
    (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsReferenceIdeal [hPre_tables_ok : Cert.Pre_tables_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_tables_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Experts [hExperts : Cert.Experts.Facts] [hPre_tables_ok : Cert.Pre_tables_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] [hPre_tables_ok : Cert.Pre_tables_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "underflow" .f32 0xC3200000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v24)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v24) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v60) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inproj_InprojIdeal : Prop :=
  IdealRules.named_const.Statement Cert.InprojIdeal.κ "q_scale" .f32 0x3E38AA3B#32 (((Real.log 256)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)) (v2 : (c : Dev Cert.InprojIdeal.nD) → Buf (Elt Ideal) ((c.tc : Thread Cert.InprojIdeal.nD Cert.InprojIdeal.τ).loc Cert.InprojIdeal.main_v6_2)) (v3 : (c : Dev Cert.InprojIdeal.nD) → Buf (Elt Ideal) ((c.tc : Thread Cert.InprojIdeal.nD Cert.InprojIdeal.τ).loc Cert.InprojIdeal.main_v6_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_v6_2) = v2 c
          ∧ r.2.mem ((c.tc : Thread Cert.InprojIdeal.nD Cert.InprojIdeal.τ).loc Cert.InprojIdeal.main_v6_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v90) = v0 c
          ∧ r.2.mem ((c.tc : Thread Cert.InprojReferenceIdeal.nD Cert.InprojReferenceIdeal.τ).loc Cert.InprojReferenceIdeal.main_v91) = v1 c
          ∧ r.2.mem ((c.tc : Thread Cert.InprojReferenceIdeal.nD Cert.InprojReferenceIdeal.τ).loc Cert.InprojReferenceIdeal.main_v99) = v2 c
          ∧ r.2.mem ((c.tc : Thread Cert.InprojReferenceIdeal.nD Cert.InprojReferenceIdeal.τ).loc Cert.InprojReferenceIdeal.main_v107) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hPre_tables_ok : Cert.Pre_tables_ok.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tables_ok := hPre_tables_ok)
    ∧ quiescent_ExpertsIdeal (hExpertsIdeal := hExpertsIdeal) (hPre_tables_ok := hPre_tables_ok)
    ∧ quiescent_ExpertsReferenceIdeal (hExpertsReferenceIdeal := hExpertsReferenceIdeal) (hPre_tables_ok := hPre_tables_ok)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_tables_ok := hPre_tables_ok)
    ∧ preserves_Inproj_InprojIdeal
    ∧ algebraic_InprojIdeal_InprojReferenceIdeal (hInprojIdeal := hInprojIdeal) (hInprojReferenceIdeal := hInprojReferenceIdeal)
-- ==== Pre_tables_ok.lean ====
abbrev S316 : Shape := ⟨1, ![316]⟩
abbrev S1 : Shape := ⟨1, ![1]⟩
abbrev S161792x1024 : Shape := ⟨2, ![161792, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S316 : S_.BroadcastsInDim S316 (![] : Fin 0 → Fin S316.rank)
  bcast_S_S1 : S_.BroadcastsInDim S1 (![] : Fin 0 → Fin S1.rank)

variable [Facts]

def fn {F : FTy → Type} [FloatOps F] (main_arg0 : IVec S316 32) (main_arg1 : IVec S1 32) (main_arg2 : FVec F S161792x1024 .f32) (main_arg3 : FVec F S32x1024x2048 .f32) (main_arg4 : FVec F S32x2048 .f32) (main_arg5 : FVec F S32x1024x1024 .f32) (main_arg6 : FVec F S32x1024 .f32) : IVec S316 1 × IVec S1 1 :=
  let main_c : IVec S_ 32 := constantI S_ 32 0#32
  let main_v0 : IVec S316 32 := broadcastInDim S316 ![] bcast_S_S316 main_c
  let main_v1 : IVec S316 1 := cmpi .sge main_arg0 main_v0
  let main_c_0 : IVec S_ 32 := constantI S_ 32 32#32
  let main_v2 : IVec S316 32 := broadcastInDim S316 ![] bcast_S_S316 main_c_0
  let main_v3 : IVec S316 1 := cmpi .slt main_arg0 main_v2
  let main_v4 : IVec S316 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S8x4096x1536 : Shape := ⟨3, ![8, 4096, 1536]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x512 : Shape := ⟨3, ![8, 4096, 512]⟩
abbrev S_ : Shape := ⟨0, ![]⟩
abbrev S8x4096x1024 : Shape := ⟨3, ![8, 4096, 1024]⟩
abbrev S1x1024x128 : Shape := ⟨3, ![1, 1024, 128]⟩
abbrev S1x4096x128 : Shape := ⟨3, ![1, 4096, 128]⟩
abbrev S2x512x128 : Shape := ⟨3, ![2, 512, 128]⟩
abbrev S256x128 : Shape := ⟨2, ![256, 128]⟩
abbrev S512x256 : Shape := ⟨2, ![512, 256]⟩
abbrev S1x512x128 : Shape := ⟨3, ![1, 512, 128]⟩
abbrev S512x128 : Shape := ⟨2, ![512, 128]⟩
abbrev S1x256x128 : Shape := ⟨3, ![1, 256, 128]⟩
abbrev S512x1 : Shape := ⟨2, ![512, 1]⟩
abbrev S1x2x512x128 : Shape := ⟨4, ![1, 2, 512, 128]⟩
abbrev S1 : Shape := ⟨1, ![1]⟩
abbrev S1x1x1x1 : Shape := ⟨4, ![1, 1, 1, 1]⟩

abbrev nBuf : Space → Nat
  | .hbm => 22
  | .vmem => 11
  | .smem => 0
  | _ => 0

abbrev bufTy : (tb : Table) → Fin (tcTables nBuf tb) → BufTy
  | .hbm, ⟨0, _⟩ => ⟨S8x4096x1536, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S256x256, .bf16⟩
  | .hbm, ⟨9, _⟩ => ⟨S8x4096x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x1024, .f32⟩
  | .hbm, ⟨19, _⟩ => ⟨S8x4096x1536, .f32⟩
  | .hbm, ⟨20, _⟩ => ⟨S8x4096x1536, .bf16⟩
  | .hbm, ⟨21, _⟩ => ⟨S8x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x256, .bf16⟩
  | .local _ .vmem, ⟨7, _⟩ => ⟨S1x1024x128, .bf16⟩
  | .local _ .vmem, ⟨8, _⟩ => ⟨S1x1024x128, .bf16⟩
  | .local _ .vmem, ⟨9, _⟩ => ⟨S2x512x128, .f32⟩
  | .local _ .vmem, ⟨10, _⟩ => ⟨S2x512x128, .f32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 4], ![false, false, false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v11 : BitVec 32 := Scalar.muli arg10 c512_i32
  v11
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c512_i32 : BitVec 32 := 512#32
  let v11 : BitVec 32 := Scalar.muli arg10 c512_i32
  let v12 : BitVec 32 := v11
  let v13 : Index := Scalar.indexCast v12
  let c0_2 : Index := 0#32
  ![0, v13.toNat, 0]
def k0_mult2 (i : grid0.Coords) (k0_t1 : Fin k0_t1_loop.trips) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_12 : BitVec 32 := 1#32
  let v39 : BitVec 32 := Scalar.addi v38 c1_i32_12
  let c256_i32 : BitVec 32 := 256#32
  let v40 : BitVec 32 := Scalar.muli v39 c256_i32
  v40
def k0_off2 (i : grid0.Coords) (k0_t1 : Fin k0_t1_loop.trips) (c1_i32_12 : BitVec 32) : Fin 3 → Nat :=
  let c0_13 : Index := 0#32
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let v39 : BitVec 32 := Scalar.addi v38 c1_i32_12
  let c256_i32 : BitVec 32 := 256#32
  let v40 : BitVec 32 := Scalar.muli v39 c256_i32
  let v41 : BitVec 32 := v40
  let v42 : Index := Scalar.indexCast v41
  let c0_14 : Index := 0#32
  ![0, v42.toNat, 0]
def k0_mult3 (i : grid0.Coords) (k0_t1 : Fin k0_t1_loop.trips) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c0_i32_24 : BitVec 32 := 0#32
  let v64 : BitVec 32 := Scalar.addi v38 c0_i32_24
  let c256_i32_25 : BitVec 32 := 256#32
  let v65 : BitVec 32 := Scalar.muli v64 c256_i32_25
  v65
def k0_mult4 (i : grid0.Coords) (k0_t1 : Fin k0_t1_loop.trips) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c0_i32_37 : BitVec 32 := 0#32
  let v89 : BitVec 32 := Scalar.addi v38 c0_i32_37
  let c256_i32_38 : BitVec 32 := 256#32
  let v90 : BitVec 32 := Scalar.muli v89 c256_i32_38
  v90
def k0_mult5 (i : grid0.Coords) (k0_t1 : Fin k0_t1_loop.trips) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_49 : BitVec 32 := 1#32
  let v112 : BitVec 32 := Scalar.subi v38 c1_i32_49
  let c0_i32_50 : BitVec 32 := 0#32
  let v113 : BitVec 32 := Scalar.subi v112 c0_i32_50
  let c0_i32_51 : BitVec 32 := 0#32
  let v114 : BitVec 32 := Scalar.maxsi v113 c0_i32_51
  let c256_i32_53 : BitVec 32 := 256#32
  let v116 : BitVec 32 := Scalar.muli v114 c256_i32_53
  v116
def k0_off3 (i : grid0.Coords) (k0_t1 : Fin k0_t1_loop.trips) : Fin 3 → Nat :=
  let c0_54 : Index := 0#32
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_49 : BitVec 32 := 1#32
  let v112 : BitVec 32 := Scalar.subi v38 c1_i32_49
  let c0_i32_50 : BitVec 32 := 0#32
  let v113 : BitVec 32 := Scalar.subi v112 c0_i32_50
  let c0_i32_51 : BitVec 32 := 0#32
  let v114 : BitVec 32 := Scalar.maxsi v113 c0_i32_51
  let c256_i32_53 : BitVec 32 := 256#32
  let v116 : BitVec 32 := Scalar.muli v114 c256_i32_53
  let v117 : BitVec 32 := v116
  let v118 : Index := Scalar.indexCast v117
  let c0_55 : Index := 0#32
  ![0, v118.toNat, 0]
def k0_mult6 (i : grid0.Coords) (k0_t1 : Fin k0_t1_loop.trips) (arg11 : BitVec 32) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_141 : BitVec 32 := 1#32
  let v266 : BitVec 32 := Scalar.subi v38 c1_i32_141
  let c1_i32_140 : BitVec 32 := 1#32
  let v265 : BitVec 32 := Scalar.addi c1_i32_140 arg11
  let v267 : BitVec 32 := Scalar.subi v266 v265
  let c0_i32_142 : BitVec 32 := 0#32
  let v268 : BitVec 32 := Scalar.maxsi v267 c0_i32_142
  let c256_i32_143 : BitVec 32 := 256#32
  let v270 : BitVec 32 := Scalar.muli v268 c256_i32_143
  v270

def k0_off4 (i : grid0.Coords) (k0_t1 : Fin k0_t1_loop.trips) (arg11 : BitVec 32) (c1_i32_140 : BitVec 32) : Fin 3 → Nat :=
  let c0_144 : Index := 0#32
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_141 : BitVec 32 := 1#32
  let v266 : BitVec 32 := Scalar.subi v38 c1_i32_141
  let v265 : BitVec 32 := Scalar.addi c1_i32_140 arg11
  let v267 : BitVec 32 := Scalar.subi v266 v265
  let c0_i32_142 : BitVec 32 := 0#32
  let v268 : BitVec 32 := Scalar.maxsi v267 c0_i32_142
  let c256_i32_143 : BitVec 32 := 256#32
  let v270 : BitVec 32 := Scalar.muli v268 c256_i32_143
  let v271 : BitVec 32 := v270
  let v272 : Index := Scalar.indexCast v271
  let c0_145 : Index := 0#32
  ![0, v272.toNat, 0]
def k0_mult7 (i : grid0.Coords) (k0_t1 : Fin k0_t1_loop.trips) (arg11 : BitVec 32) : BitVec 32 :=
  let arg2 : BitVec 32 := BitVec.ofNat 32 (i 2).val
  let c2_i32_1 : BitVec 32 := 2#32
  let v9 : BitVec 32 := Scalar.muli arg2 c2_i32_1
  let c0_i32 : BitVec 32 := 0#32
  let c1_i32 : BitVec 32 := 1#32
  let arg10 : BitVec 32 := Scf.iv c0_i32 c1_i32 k0_t1
  let v10 : BitVec 32 := Scalar.addi v9 arg10
  let c2_i32_11 : BitVec 32 := 2#32
  let v38 : BitVec 32 := Scalar.muli v10 c2_i32_11
  let c1_i32_156 : BitVec 32 := 1#32
  let v295 : BitVec 32 := Scalar.subi v38 c1_i32_156
  let c0_i32_155 : BitVec 32 := 0#32
  let v294 : BitVec 32 := Scalar.addi c0_i32_155 arg11
  let v296 : BitVec 32 := Scalar.subi v295 v294
  let c0_i32_157 : BitVec 32 := 0#32
  let v297 : BitVec 32 := Scalar.maxsi v296 c0_i32_157
  let c256_i32_158 : BitVec 32 := 256#32
  let v299 : BitVec 32 := Scalar.muli v297 c256_i32_158
  v299

def k0_chk1 (i : grid0.Coords) (k0_t1 : Fin k0_t1_loop.trips) (arg11 : BitVec 32) : Prop :=
  (256 ∣ (k0_mult6 i k0_t1 arg11).toNat) ∧
  (∀ (r : Fin 2), ∀ a, (k0_off4 i k0_t1 arg11 (BitVec.ofNat 32 r.val)) a + S1x256x128.size a ≤ S1x4096x128.size a) ∧
  (256 ∣ (k0_mult7 i k0_t1 arg11).toNat)
theorem k0_mult6_dvd : ∀ (i : grid0.Coords) (k0_t1 : Fin k0_t1_loop.trips) (arg11 : BitVec 32) (k0_hw1 : k0_chk1 i k0_t1 arg11), 256 ∣ (k0_mult6 i k0_t1 arg11).toNat := fun i k0_t1 arg11 k0_hw1 => k0_hw1.1
theorem k0_off4_inb : ∀ (i : grid0.Coords) (k0_t1 : Fin k0_t1_loop.trips) (arg11 : BitVec 32) (k0_hw1 : k0_chk1 i k0_t1 arg11), ∀ (r : Fin 2), ∀ a, (k0_off4 i k0_t1 arg11 (BitVec.ofNat 32 r.val)) a + S1x256x128.size a ≤ S1x4096x128.size a := fun i k0_t1 arg11 k0_hw1 r => k0_hw1.2.1 r
theorem k0_mult7_dvd : ∀ (i : grid0.Coords) (k0_t1 : Fin k0_t1_loop.trips) (arg11 : BitVec 32) (k0_hw1 : k0_chk1 i k0_t1 arg11), 256 ∣ (k0_mult7 i k0_t1 arg11).toNat := fun i k0_t1 arg11 k0_hw1 => k0_hw1.2.2

def k0_off5 (k0_t1 : Fin k0_t1_loop.trips) (c0_i32_131 : BitVec 32) : Fin 3 → Nat :=
  let c0_132 : Index := 0#32
  let c0_i32 : BitVec 32 := 0#32
  let c1_i32 : BitVec 32 := 1#32
  let arg10 : BitVec 32 := Scf.iv c0_i32 c1_i32 k0_t1
  let c512_i32 : BitVec 32 := 512#32
  let v11 : BitVec 32 := Scalar.muli arg10 c512_i32
  let v12 : BitVec 32 := v11
  let v249 : BitVec 32 := Scalar.addi v12 c0_i32_131
  let v250 : Index := Scalar.indexCast v249
  let c0_133 : Index := 0#32
  ![0, v250.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | "underflow" => some ⊥
  | _ => none
-- ==== ReferenceIdeal.lean ====
abbrev S8x4096x1536 : Shape := ⟨3, ![8, 4096, 1536]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1536, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x8x64, .f32⟩
  | .hbm, ⟨5, _⟩ => ⟨S8x8x4096x64, .f32⟩
  | .hbm, ⟨6, _⟩ => ⟨S8x4096x8x64, .f32⟩
  | .hbm, ⟨7, _⟩ => ⟨S8x8x4096x64, .f32⟩
  | .hbm, ⟨8, _⟩ => ⟨S8x4096x8x64, .f32⟩
  | .hbm, ⟨9, _⟩ => ⟨S8x8x4096x64, .f32⟩
  | .hbm, ⟨10, _⟩ => ⟨S8x8x4096x4096, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x8x4096x4096, .f32⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x4096x64, .f32⟩
  | .hbm, ⟨70, _⟩ => ⟨S8x4096x8x64, .f32⟩
  | .hbm, ⟨71, _⟩ => ⟨S8x4096x512, .f32⟩
  | .hbm, ⟨72, _⟩ => ⟨S8x4096x512, .bf16⟩
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Experts.lean ====
abbrev S316 : Shape := ⟨1, ![316]⟩
abbrev S1 : Shape := ⟨1, ![1]⟩
abbrev S161792x1024 : Shape := ⟨2, ![161792, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S32x1x1024 : Shape := ⟨3, ![32, 1, 1024]⟩
abbrev S512x1024 : Shape := ⟨2, ![512, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 35
  | .vmem => 18
  | .smem => 2
  | _ => 0

abbrev bufTy : (tb : Table) → Fin (tcTables nBuf tb) → BufTy
  | .hbm, ⟨0, _⟩ => ⟨S161792x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S256, .i32⟩
  | .hbm, ⟨6, _⟩ => ⟨S256x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S1x256, .i32⟩
  | .hbm, ⟨11, _⟩ => ⟨S1x256, .i1⟩
  | .hbm, ⟨12, _⟩ => ⟨S_, .i32⟩
  | .hbm, ⟨13, _⟩ => ⟨S1x256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i32⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .bf16⟩
  | .hbm, ⟨29, _⟩ => ⟨S32x1024, .f32⟩
  | .hbm, ⟨30, _⟩ => ⟨S32x1x1024, .f32⟩
  | .hbm, ⟨31, _⟩ => ⟨S32x1024, .f32⟩
  | .hbm, ⟨32, _⟩ => ⟨S32x1x1024, .f32⟩
  | .hbm, ⟨33, _⟩ => ⟨S32x1x1024, .f32⟩
  | .hbm, ⟨34, _⟩ => ⟨S161792x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S316, .i32⟩
  | .local _ .smem, ⟨1, _⟩ => ⟨S1, .i32⟩
  | _, _ => ⟨S161792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![316], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S316 : Shape := ⟨1, ![316]⟩
abbrev S1 : Shape := ⟨1, ![1]⟩
abbrev S161792x1024 : Shape := ⟨2, ![161792, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S316x512x1024 : Shape := ⟨3, ![316, 512, 1024]⟩
abbrev S_ : Shape := ⟨0, ![]⟩
abbrev S316x1 : Shape := ⟨2, ![316, 1]⟩
abbrev S316x1024x2048 : Shape := ⟨3, ![316, 1024, 2048]⟩
abbrev S316x512x2048 : Shape := ⟨3, ![316, 512, 2048]⟩
abbrev S316x2048 : Shape := ⟨2, ![316, 2048]⟩
abbrev S316x1x2048 : Shape := ⟨3, ![316, 1, 2048]⟩
abbrev S316x1024x1024 : Shape := ⟨3, ![316, 1024, 1024]⟩
abbrev S316x1024 : Shape := ⟨2, ![316, 1024]⟩
abbrev S316x1x1024 : Shape := ⟨3, ![316, 1, 1024]⟩
abbrev S316x1x1 : Shape := ⟨3, ![316, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S316, .i32⟩
  | .hbm, ⟨1, _⟩ => ⟨S1, .i32⟩
  | .hbm, ⟨2, _⟩ => ⟨S161792x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S316x512x1024, .f32⟩
  | .hbm, ⟨8, _⟩ => ⟨S_, .i32⟩
  | .hbm, ⟨9, _⟩ => ⟨S316, .i32⟩
  | .hbm, ⟨10, _⟩ => ⟨S316, .i1⟩
  | .hbm, ⟨11, _⟩ => ⟨S_, .i32⟩
  | .hbm, ⟨12, _⟩ => ⟨S316, .i32⟩
  | .hbm, ⟨13, _⟩ => ⟨S316, .i32⟩
  | .hbm, ⟨14, _⟩ => ⟨S316, .i32⟩
  | .hbm, ⟨15, _⟩ => ⟨S316x1, .i32⟩
  | .hbm, ⟨16, _⟩ => ⟨S316x1024x2048, .f32⟩
  | .hbm, ⟨17, _⟩ => ⟨S316x512x2048, .f32⟩
  | .hbm, ⟨18, _⟩ => ⟨S_, .i32⟩
  | .hbm, ⟨19, _⟩ => ⟨S316, .i32⟩
  | .hbm, ⟨20, _⟩ => ⟨S316, .i1⟩
  | .hbm, ⟨21, _⟩ => ⟨S_, .i32⟩
  | .hbm, ⟨22, _⟩ => ⟨S316, .i32⟩
  | .hbm, ⟨23, _⟩ => ⟨S316, .i32⟩
  | .hbm, ⟨24, _⟩ => ⟨S316, .i32⟩
  | .hbm, ⟨25, _⟩ => ⟨S316x1, .i32⟩
  | .hbm, ⟨26, _⟩ => ⟨S316x2048, .f32⟩
  | .hbm, ⟨27, _⟩ => ⟨S316x1x2048, .f32⟩
  | .hbm, ⟨28, _⟩ => ⟨S316x512x2048, .f32⟩
  | .hbm, ⟨29, _⟩ => ⟨S316x512x2048, .f32⟩
  | .hbm, ⟨30, _⟩ => ⟨S316x512x1024, .f32⟩
  | .hbm, ⟨31, _⟩ => ⟨S_, .f32⟩
  | .hbm, ⟨32, _⟩ => ⟨S316x512x1024, .f32⟩
  | .hbm, ⟨33, _⟩ => ⟨S316x512x1024, .f32⟩
  | .hbm, ⟨34, _⟩ => ⟨S316x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S316x512x1024, .f32⟩
  | .hbm, ⟨39, _⟩ => ⟨S316x512x1024, .f32⟩
  | .hbm, ⟨40, _⟩ => ⟨S_, .f32⟩
  | .hbm, ⟨41, _⟩ => ⟨S316x512x1024, .f32⟩
  | .hbm, ⟨42, _⟩ => ⟨S316x512x1024, .f32⟩
  | .hbm, ⟨43, _⟩ => ⟨S_, .f32⟩
  | .hbm, ⟨44, _⟩ => ⟨S316x512x1024, .f32⟩
  | .hbm, ⟨45, _⟩ => ⟨S316x512x1024, .f32⟩
  | .hbm, ⟨46, _⟩ => ⟨S316x512x1024, .f32⟩
  | .hbm, ⟨47, _⟩ => ⟨S316x512x1024, .f32⟩
  | .hbm, ⟨48, _⟩ => ⟨S_, .f32⟩
  | .hbm, ⟨49, _⟩ => ⟨S316x512x1024, .f32⟩
  | .hbm, ⟨50, _⟩ => ⟨S316x512x1024, .f32⟩
  | .hbm, ⟨51, _⟩ => ⟨S_, .f32⟩
  | .hbm, ⟨52, _⟩ => ⟨S316x512x1024, .f32⟩
  | .hbm, ⟨53, _⟩ => ⟨S316x512x1024, .f32⟩
  | .hbm, ⟨54, _⟩ => ⟨S316x512x1024, .f32⟩
  | .hbm, ⟨55, _⟩ => ⟨S_, .f32⟩
  | .hbm, ⟨56, _⟩ => ⟨S316x512x1024, .f32⟩
  | .hbm, ⟨57, _⟩ => ⟨S316x512x1024, .f32⟩
  | .hbm, ⟨58, _⟩ => ⟨S316x512x1024, .f32⟩
  | .hbm, ⟨59, _⟩ => ⟨S_, .i32⟩
  | .hbm, ⟨60, _⟩ => ⟨S316, .i32⟩
  | .hbm, ⟨61, _⟩ => ⟨S316, .i1⟩
  | .hbm, ⟨62, _⟩ => ⟨S_, .i32⟩
  | .hbm, ⟨63, _⟩ => ⟨S316, .i32⟩
  | .hbm, ⟨64, _⟩ => ⟨S316, .i32⟩
  | .hbm, ⟨65, _⟩ => ⟨S316, .i32⟩
  | .hbm, ⟨66, _⟩ => ⟨S316x1, .i32⟩
  | .hbm, ⟨67, _⟩ => ⟨S316x1024x1024, .f32⟩
  | .hbm, ⟨68, _⟩ => ⟨S316x512x1024, .f32⟩
  | .hbm, ⟨69, _⟩ => ⟨S_, .i32⟩
  | .hbm, ⟨70, _⟩ => ⟨S316, .i32⟩
  | .hbm, ⟨71, _⟩ => ⟨S316, .i1⟩
  | .hbm, ⟨72, _⟩ => ⟨S_, .i32⟩
  | .hbm, ⟨73, _⟩ => ⟨S316, .i32⟩
  | .hbm, ⟨74, _⟩ => ⟨S316, .i32⟩
  | .hbm, ⟨75, _⟩ => ⟨S316, .i32⟩
  | .hbm, ⟨76, _⟩ => ⟨S316x1, .i32⟩
  | .hbm, ⟨77, _⟩ => ⟨S316x1024, .f32⟩
  | .hbm, ⟨78, _⟩ => ⟨S316x1x1024, .f32⟩
  | .hbm, ⟨79, _⟩ => ⟨S316x512x1024, .f32⟩
  | .hbm, ⟨80, _⟩ => ⟨S316x512x1024, .f32⟩
  | .hbm, ⟨81, _⟩ => ⟨S316, .i32⟩
  | .hbm, ⟨82, _⟩ => ⟨S_, .i32⟩
  | .hbm, ⟨83, _⟩ => ⟨S316, .i32⟩
  | .hbm, ⟨84, _⟩ => ⟨S316, .i1⟩
  | .hbm, ⟨85, _⟩ => ⟨S316x1x1, .i1⟩
  | .hbm, ⟨86, _⟩ => ⟨S_, .f32⟩
  | .hbm, ⟨87, _⟩ => ⟨S_, .f32⟩
  | .hbm, ⟨88, _⟩ => ⟨S316x512x1024, .i1⟩
  | .hbm, ⟨89, _⟩ => ⟨S316x512x1024, .f32⟩
  | .hbm, ⟨90, _⟩ => ⟨S316x512x1024, .f32⟩
  | .hbm, ⟨91, _⟩ => ⟨S161792x1024, .f32⟩
  | _, _ => ⟨S316, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x4608 : Shape := ⟨2, ![1024, 4608]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1x512 : Shape := ⟨2, ![1, 512]⟩
abbrev S32768x1536 : Shape := ⟨2, ![32768, 1536]⟩
abbrev S32768x512 : Shape := ⟨2, ![32768, 512]⟩
abbrev S512x1024 : Shape := ⟨2, ![512, 1024]⟩
abbrev S512x1536 : Shape := ⟨2, ![512, 1536]⟩
abbrev S512x512 : Shape := ⟨2, ![512, 512]⟩
abbrev S512x1 : Shape := ⟨2, ![512, 1]⟩
abbrev S1024x512 : Shape := ⟨2, ![1024, 512]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩

abbrev nBuf : Space → Nat
  | .hbm => 16
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4608, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x64, .f32⟩
  | .hbm, ⟨8, _⟩ => ⟨S128x512, .f32⟩
  | .hbm, ⟨9, _⟩ => ⟨S1x1024, .f32⟩
  | .hbm, ⟨10, _⟩ => ⟨S1024x4608, .bf16⟩
  | .hbm, ⟨11, _⟩ => ⟨S1x512, .f32⟩
  | .hbm, ⟨12, _⟩ => ⟨S32768x1536, .bf16⟩
  | .hbm, ⟨13, _⟩ => ⟨S32768x512, .bf16⟩
  | .hbm, ⟨14, _⟩ => ⟨S32768x1024, .bf16⟩
  | .hbm, ⟨15, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S8x128x128, .f32⟩
  | .local _ .vmem, ⟨5, _⟩ => ⟨S128x512, .f32⟩
  | .local _ .vmem, ⟨6, _⟩ => ⟨S1x512, .f32⟩
  | .local _ .vmem, ⟨7, _⟩ => ⟨S512x1536, .bf16⟩
  | .local _ .vmem, ⟨8, _⟩ => ⟨S512x1536, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojIdeal.lean ====
variable {F : FTy → Type} [FloatOps F] [Named F]
def κ : String → Option EReal := fun
  | "q_scale" => some (((Real.log 256)⁻¹ : ℝ) : EReal)
  | _ => none
-- ==== InprojReferenceIdeal.lean ====
abbrev S32768x1024 : Shape := ⟨2, ![32768, 1024]⟩
abbrev S1024 : Shape := ⟨1, ![1024]⟩
abbrev S1024x4608 : Shape := ⟨2, ![1024, 4608]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4608 : Shape := ⟨2, ![32768, 4608]⟩
abbrev S32768x512 : Shape := ⟨2, ![32768, 512]⟩
abbrev S1x512 : Shape := ⟨2, ![1, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S256x128x8x64 : Shape := ⟨4, ![256, 128, 8, 64]⟩
abbrev S8x256x64x128 : Shape := ⟨4, ![8, 256, 64, 128]⟩
abbrev S128x8 : Shape := ⟨2, ![128, 8]⟩
abbrev S1x128x8x1 : Shape := ⟨4, ![1, 128, 8, 1]⟩
abbrev S32768x1536 : Shape := ⟨2, ![32768, 1536]⟩

abbrev nBuf : Space → Nat
  | .hbm => 175
  | .vmem => 0
  | .smem => 0
  | _ => 0

abbrev hbmTy0_0 (i : Nat) : BufTy := match i % 128 with
  | 0 => ⟨S32768x1024, .f32⟩
  | 1 => ⟨S1024, .f32⟩
  | 2 => ⟨S1024x4608, .f32⟩
  | 3 => ⟨S512, .f32⟩
  | 4 => ⟨S8x128x128, .f32⟩
  | 5 => ⟨S8x128, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S32768x4608, .f32⟩
  | 23 => ⟨S32768x512, .f32⟩
  | 24 => ⟨S32768x512, .f32⟩
  | 25 => ⟨S32768x512, .f32⟩
  | 26 => ⟨S_, .f32⟩
  | 27 => ⟨S32768x512, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S32768x512, .f32⟩
  | 41 => ⟨S32768x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S32768x512, .f32⟩
  | 48 => ⟨S_, .f32⟩
  | 49 => ⟨S32768x512, .f32⟩
  | 50 => ⟨S32768x512, .f32⟩
  | 51 => ⟨S32768x512, .f32⟩
  | 52 => ⟨S_, .f32⟩
  | 53 => ⟨S32768x512, .f32⟩
  | 54 => ⟨S32768x512, .f32⟩
  | 55 => ⟨S_, .f32⟩
  | 56 => ⟨S32768x512, .f32⟩
  | 57 => ⟨S32768x512, .f32⟩
  | 58 => ⟨S32768x512, .f32⟩
  | 59 => ⟨S_, .f32⟩
  | 60 => ⟨S32768, .f32⟩
  | 61 => ⟨S32768x1, .f32⟩
  | 62 => ⟨S_, .f32⟩
  | 63 => ⟨S32768x1, .f32⟩
  | 64 => ⟨S32768x1, .f32⟩
  | 65 => ⟨S32768x512, .f32⟩
  | 66 => ⟨S32768x512, .f32⟩
  | 67 => ⟨S32768x512, .f32⟩
  | 68 => ⟨S_, .f32⟩
  | 69 => ⟨S32768, .f32⟩
  | 70 => ⟨S32768x1, .f32⟩
  | 71 => ⟨S_, .f32⟩
  | 72 => ⟨S32768x1, .f32⟩
  | 73 => ⟨S32768x1, .f32⟩
  | 74 => ⟨S32768x512, .f32⟩
  | 75 => ⟨S32768x512, .f32⟩
  | 76 => ⟨S_, .f32⟩
  | 77 => ⟨S32768x1, .f32⟩
  | 78 => ⟨S32768x1, .f32⟩
  | 79 => ⟨S32768x1, .f32⟩
  | 80 => ⟨S32768x512, .f32⟩
  | 81 => ⟨S32768x512, .f32⟩
  | 82 => ⟨S1x512, .f32⟩
  | 83 => ⟨S32768x512, .f32⟩
  | 84 => ⟨S32768x512, .f32⟩
  | 85 => ⟨S128, .i32⟩
  | 86 => ⟨S1x128, .i32⟩
  | 87 => ⟨S_, .i32⟩
  | 88 => ⟨S_, .i32⟩
  | 89 => ⟨S1x128, .i32⟩
  | 90 => ⟨S1x128, .i32⟩
  | 91 => ⟨S1x128, .i32⟩
  | 92 => ⟨S_, .i32⟩
  | 93 => ⟨S1x128, .i32⟩
  | 94 => ⟨S1x128, .i1⟩
  | 95 => ⟨S1x128, .i32⟩
  | 96 => ⟨S1x128, .i32⟩
  | 97 => ⟨S_, .i32⟩
  | 98 => ⟨S1x128, .i32⟩
  | 99 => ⟨S1x128, .i1⟩
  | 100 => ⟨S1x128, .i1⟩
  | 101 => ⟨S_, .i32⟩
  | 102 => ⟨S1x128, .i32⟩
  | 103 => ⟨S1x128, .i32⟩
  | 104 => ⟨S1x128, .i32⟩
  | 105 => ⟨S128x1, .i32⟩
  | 106 => ⟨S_, .i32⟩
  | 107 => ⟨S_, .i32⟩
  | 108 => ⟨S128x1, .i32⟩
  | 109 => ⟨S128x1, .i32⟩
  | 110 => ⟨S128x1, .i32⟩
  | 111 => ⟨S_, .i32⟩
  | 112 => ⟨S128x1, .i32⟩
  | 113 => ⟨S128x1, .i1⟩
  | 114 => ⟨S128x1, .i32⟩
  | 115 => ⟨S128x1, .i32⟩
  | 116 => ⟨S_, .i32⟩
  | 117 => ⟨S128x1, .i32⟩
  | 118 => ⟨S128x1, .i1⟩
  | 119 => ⟨S128x1, .i1⟩
  | 120 => ⟨S_, .i32⟩
  | 121 => ⟨S128x1, .i32⟩
  | 122 => ⟨S128x1, .i32⟩
  | 123 => ⟨S128x1, .i32⟩
  | 124 => ⟨S128x128, .i32⟩
  | 125 => ⟨S128x128, .i32⟩
  | 126 => ⟨S128x128, .i1⟩
  | 127 => ⟨S1x128x128, .i1⟩
  | _ => ⟨S32768x1024, .f32⟩

abbrev hbmTy0_1 (i : Nat) : BufTy := match i % 128 with
  | 0 => ⟨S_, .f32⟩
  | 1 => ⟨S_, .f32⟩
  | 2 => ⟨S8x128x128, .i1⟩
  | 3 => ⟨S8x128x128, .f32⟩
  | 4 => ⟨S8x128x128, .f32⟩
  | 5 => ⟨S256x128x8x64, .f32⟩
  | 6 => ⟨S8x256x64x128, .f32⟩
  | 7 => ⟨S256x128x8x64, .f32⟩
  | 8 => ⟨S128x8, .f32⟩
  | 9 => ⟨S1x128x8x1, .f32⟩
  | 10 => ⟨S256x128x8x64, .f32⟩
  | 11 => ⟨S256x128x8x64, .f32⟩
  | 12 => ⟨S32768x512, .f32⟩
  | 13 => ⟨S32768x512, .f32⟩
  | 14 => ⟨S32768x512, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S32768x512, .f32⟩
  | 22 => ⟨S32768x512, .f32⟩
  | 23 => ⟨S32768x1024, .f32⟩
  | 24 => ⟨S32768x1536, .f32⟩
  | 25 => ⟨S32768x1536, .bf16⟩
  | 26 => ⟨S32768x512, .bf16⟩
  | 27 => ⟨S32768x1024, .f32⟩
  | 28 => ⟨S32768x1024, .f32⟩
  | 29 => ⟨S32768x1024, .f32⟩
  | 30 => ⟨S_, .f32⟩
  | 31 => ⟨S32768x1024, .f32⟩
  | 32 => ⟨S32768x1024, .f32⟩
  | 33 => ⟨S_, .f32⟩
  | 34 => ⟨S32768x1024, .f32⟩
  | 35 => ⟨S32768x1024, .f32⟩
  | 36 => ⟨S32768x1024, .bf16⟩
  | 37 => ⟨S32768x1024, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S_, .f32⟩
  | 44 => ⟨S32768x1024, .f32⟩
  | 45 => ⟨S32768x1024, .f32⟩
  | 46 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_c : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_0 : Ref sig .tc := ⟨.hbm, 101, rfl⟩
abbrev main_call0_v12 : Ref sig .tc := ⟨.hbm, 102, rfl⟩
abbrev main_call0_v13 : Ref sig .tc := ⟨.hbm, 103, rfl⟩
abbrev main_v65 : Ref sig .tc := ⟨.hbm, 104, rfl⟩
abbrev main_v66 : Ref sig .tc := ⟨.hbm, 105, rfl⟩
abbrev main_c_15 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_c : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_0 : Ref sig .tc := ⟨.hbm, 120, rfl⟩
abbrev main_call1_v12 : Ref sig .tc := ⟨.hbm, 121, rfl⟩
abbrev main_call1_v13 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_16 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_17 : Ref sig .tc := ⟨.hbm, 143, rfl⟩
abbrev main_v83 : Ref sig .tc := ⟨.hbm, 144, rfl⟩
abbrev main_cst_18 : Ref sig .tc := ⟨.hbm, 145, rfl⟩
abbrev main_v84 : Ref sig .tc := ⟨.hbm, 146, rfl⟩
abbrev main_cst_19 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_20 : Ref sig .tc := ⟨.hbm, 158, rfl⟩
abbrev main_v95 : Ref sig .tc := ⟨.hbm, 159, rfl⟩
abbrev main_v96 : Ref sig .tc := ⟨.hbm, 160, rfl⟩
abbrev main_cst_21 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_22 : Ref sig .tc := ⟨.hbm, 168, rfl⟩
abbrev main_v103 : Ref sig .tc := ⟨.hbm, 169, rfl⟩
abbrev main_v104 : Ref sig .tc := ⟨.hbm, 170, rfl⟩
abbrev main_cst_23 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩

abbrev nD : Nat := 1
abbrev τ : Topo := Topo.v7x

variable {F : FTy → Type} [FloatOps F]
-- ==== Proof.KI.Step.lean ====
/-
  Loads and stores on memrefs owned at values. A memref owned at `x` read through a unit-stride rectangle gives the window
  of `x` there and stays owned at `x`; an unmasked store through it leaves `x` with the payload put over the window. The
  two scratch buffers hold two planes each, one per row block of queries: `pair X Y` is the buffer whose planes are `X` and
  `Y`, and the loads and stores of one plane are stated on it.
-/
module

public import proofs.«01_k».proof.KernelIdeal
public import Idealize.ShloMosaic.Lib.Pipeline.Sound
public import Idealize.ShloMosaic.Lib.Tactic
public import Idealize.ShloMosaic.Lib.VecWindow
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's variants: the naturals, bounding the trips its while loop still has to run. -/
abbrev 𝒱₀ : Variants := Variants.nat

section Steps

variable (c : Dev nD) (bd : Option 𝒱₀.V) (E : Set ℕ)

/-- A load through a unit-stride rectangle of a memref owned at `x` gives the window of `x`. -/
theorem wp_ld {s : Shape} {e : EltTy} {α : Type} {m : Memref sig .tc .vmem s e} {off size : Fin s.rank → ℕ} {inb : ∀ a, off a + size a ≤ s.size a}
    {hl : m.view.LoadsAt (Rect.unit off size inb).toLoadRect} {q : PosShare TreeShare} {x : s.Idx → Elt F e}
    {k : ((Rect.unit off size inb).toLoadRect.shape.Idx → Elt F e) → Prog (TpuEff nD τ sig (Elt F) (Λ₀ F) .tc) α} {Q : α → sProp 𝕄} :
    (owns (c : Thread nD τ) m q x : sProp 𝕄)
      ⊢ iprop((owns (c : Thread nD τ) m q x -∗ wp frame (wpE (defs₀ (F := F)) 𝒱₀ (c : Thread nD τ) bd) E (k (VecWindow.window x off size inb)) Q)
        -∗ wp frame (wpE (defs₀ (F := F)) 𝒱₀ (c : Thread nD τ) bd) E (.op (.load m (Rect.unit off size inb).toLoadRect hl) k) Q) := by
  unfold owns
  iintro ⟨%f, %hf, H⟩ Hk
  subst hf
  iapply (wp_load 𝒱₀ (c : Thread nD τ) bd E (m := m) (r := (Rect.unit off size inb).toLoadRect) (View.setOn_subset_set ..)) $$ H
  iintro H
  rw [View.readAt_unit m.view f inb rfl inb]
  iapply Hk
  iexists f
  isplitr; · ipureintro; rfl
  iexact H

/-- An unmasked store through a unit-stride rectangle of a memref owned at `x` puts the payload over the window of `x`. -/
theorem wp_st {s : Shape} {e : EltTy} {α : Type} {m : Memref sig .tc .vmem s e} {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} {x : s.Idx → Elt F e}
    {k : PUnit → Prog (TpuEff nD τ sig (Elt F) (Λ₀ F) .tc) α} {Q : α → sProp 𝕄} :
    (owns (c : Thread nD τ) m fullShare x : sProp 𝕄)
      ⊢ iprop((owns (c : Thread nD τ) m fullShare (VecWindow.put x off size w) -∗ wp frame (wpE (defs₀ (F := F)) 𝒱₀ (c : Thread nD τ) bd) E (k ⟨⟩) Q)
        -∗ wp frame (wpE (defs₀ (F := F)) 𝒱₀ (c : Thread nD τ) bd) E (.op (.store m (Rect.unit off size inb) w Finset.univ hx hm) k) Q) := by
  unfold owns
  iintro ⟨%f, %hf, H⟩ Hk
  subst hf
  iapply (wp_store 𝒱₀ (c : Thread nD τ) bd E (m := m) (r := Rect.unit off size inb) (w := w) (Mk := Finset.univ) (View.set_slice_subset ..)) $$ H
  iintro H
  iapply Hk
  iexists _
  isplitr; swap; · iexact H
  ipureintro
  exact (View.read_writes_cons_put m.view f inb w [] rfl).trans (by rw [View.writes_nil])

end Steps

/-! ## The two planes of a scratch buffer -/

section Planes

variable {α : Type}

/-- The position of an index of the two-plane buffer within its plane. -/
def inPlane (j : S2x512x128.Idx) : S1x512x128.Idx := fun a => match a with
  | ⟨0, _⟩ => ⟨0, Nat.one_pos⟩
  | ⟨1, _⟩ => ⟨(j 1).val, (j 1).isLt⟩
  | ⟨2, _⟩ => ⟨(j 2).val, (j 2).isLt⟩

/-- The two-plane buffer whose planes are `X` and `Y`. -/
def pair (X Y : S1x512x128.Idx → α) : S2x512x128.Idx → α := fun j => if (j 0).val = 0 then X (inPlane j) else Y (inPlane j)

theorem window_pair_zero (X Y : S1x512x128.Idx → α) (inb) : VecWindow.window (pair X Y) ![0, 0, 0] S1x512x128.size inb = X := by
  funext y
  have h0 : (y 0).val = 0 := by have : (y 0).val < 1 := (y 0).isLt; omega
  show pair X Y _ = X y
  unfold pair
  rw [if_pos (by show 0 + 1 * (y 0).val = 0; omega)]
  congr 1
  funext a
  fin_cases a
  · exact Fin.ext (by show 0 = (y 0).val; omega)
  · exact Fin.ext (by show 0 + 1 * (y 1).val = (y 1).val; omega)
  · exact Fin.ext (by show 0 + 1 * (y 2).val = (y 2).val; omega)

theorem window_pair_one (X Y : S1x512x128.Idx → α) (inb) : VecWindow.window (pair X Y) ![1, 0, 0] S1x512x128.size inb = Y := by
  funext y
  have h0 : (y 0).val = 0 := by have : (y 0).val < 1 := (y 0).isLt; omega
  show pair X Y _ = Y y
  unfold pair
  rw [if_neg (by show ¬ 1 + 1 * (y 0).val = 0; omega)]
  congr 1
  funext a
  fin_cases a
  · exact Fin.ext (by show 0 = (y 0).val; omega)
  · exact Fin.ext (by show 0 + 1 * (y 1).val = (y 1).val; omega)
  · exact Fin.ext (by show 0 + 1 * (y 2).val = (y 2).val; omega)

theorem window_full {s : Shape} (x : s.Idx → α) (off : Fin s.rank → ℕ) (inb : ∀ a, off a + s.size a ≤ s.size a) :
    VecWindow.window x off s.size inb = x := by
  funext y
  exact congrArg x (funext fun a => Fin.ext (by
    show off a + 1 * (y a).val = (y a).val
    have := inb a; omega))

theorem put_pair_zero (X Y P : S1x512x128.Idx → α) : VecWindow.put (pair X Y) ![0, 0, 0] S1x512x128.size P = pair P Y := by
  funext j
  have h1 : (j 1).val < 512 := (j 1).isLt
  have h2 : (j 2).val < 128 := (j 2).isLt
  unfold VecWindow.put
  split
  · next h =>
    have h0 : (j 0).val < 0 + 1 := (h 0).2
    unfold pair
    rw [if_pos (by omega)]
    congr 1
    funext a
    fin_cases a
    · exact Fin.ext (by show (j 0).val - 0 = 0; omega)
    · rfl
    · rfl
  · next h =>
    have h0 : (j 0).val ≠ 0 := fun h0 => h fun a => by
      fin_cases a
      · exact ⟨Nat.zero_le _, by show (j 0).val < 0 + 1; omega⟩
      · exact ⟨Nat.zero_le _, by show (j 1).val < 0 + 512; omega⟩
      · exact ⟨Nat.zero_le _, by show (j 2).val < 0 + 128; omega⟩
    unfold pair
    rw [if_neg h0, if_neg h0]

theorem put_pair_one (X Y P : S1x512x128.Idx → α) : VecWindow.put (pair X Y) ![1, 0, 0] S1x512x128.size P = pair X P := by
  funext j
  have h00 : (j 0).val < 2 := (j 0).isLt
  have h1 : (j 1).val < 512 := (j 1).isLt
  have h2 : (j 2).val < 128 := (j 2).isLt
  unfold VecWindow.put
  split
  · next h =>
    have h0 : 1 ≤ (j 0).val := (h 0).1
    unfold pair
    rw [if_neg (by omega)]
    congr 1
    funext a
    fin_cases a
    · exact Fin.ext (by show (j 0).val - 1 = 0; omega)
    · rfl
    · rfl
  · next h =>
    have h0 : (j 0).val = 0 := by
      by_contra h0
      exact h fun a => by
        fin_cases a
        · exact ⟨by show 1 ≤ (j 0).val; omega, by show (j 0).val < 1 + 1; omega⟩
        · exact ⟨Nat.zero_le _, by show (j 1).val < 0 + 512; omega⟩
        · exact ⟨Nat.zero_le _, by show (j 2).val < 0 + 128; omega⟩
    unfold pair
    rw [if_pos h0, if_pos h0]

/-- A store over the whole two-plane buffer leaves the payload, as the pair of its planes. -/
theorem put_whole (x P : S2x512x128.Idx → α) (inb0 inb1) :
    VecWindow.put x ![0, 0, 0] S2x512x128.size P
      = pair (VecWindow.window P ![0, 0, 0] S1x512x128.size inb0) (VecWindow.window P ![1, 0, 0] S1x512x128.size inb1) := by
  funext j
  have h00 : (j 0).val < 2 := (j 0).isLt
  have h1 : (j 1).val < 512 := (j 1).isLt
  have h2 : (j 2).val < 128 := (j 2).isLt
  unfold VecWindow.put
  rw [dif_pos (fun a => by
    fin_cases a
    · exact ⟨Nat.zero_le _, by show (j 0).val < 0 + 2; omega⟩
    · exact ⟨Nat.zero_le _, by show (j 1).val < 0 + 512; omega⟩
    · exact ⟨Nat.zero_le _, by show (j 2).val < 0 + 128; omega⟩)]
  unfold pair
  split
  · next h =>
    show P _ = P _
    congr 1
    funext a
    fin_cases a
    · exact Fin.ext (by show (j 0).val - 0 = 0 + 1 * 0; omega)
    · exact Fin.ext (by show (j 1).val - 0 = 0 + 1 * (j 1).val; omega)
    · exact Fin.ext (by show (j 2).val - 0 = 0 + 1 * (j 2).val; omega)
  · next h =>
    show P _ = P _
    congr 1
    funext a
    fin_cases a
    · exact Fin.ext (by show (j 0).val - 0 = 1 + 1 * 0; omega)
    · exact Fin.ext (by show (j 1).val - 0 = 0 + 1 * (j 1).val; omega)
    · exact Fin.ext (by show (j 2).val - 0 = 0 + 1 * (j 2).val; omega)

end Planes

end Cert.Proof.KI

end
-- ==== Proof.KI.Model.lean ====
/-
  What one trip of the kernel's loop computes, as functions of the blocks it loads. A trip takes two row blocks of 256
  queries, each for two heads (512 rows); its state is a carry and an accumulator for each of the two. It first runs
  the diagonal blocks of both, then one earlier block of both, and then a while loop that takes both one block to the left.
-/
module

public import proofs.«01_k».proof.Proof.KI.Step

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The state of a trip: the carries and the accumulators of the two row blocks. -/
structure St (F : FTy → Type) where
  C0 : Vec F S1x512x128 .f32
  C1 : Vec F S1x512x128 .f32
  A0 : Vec F S1x512x128 .f32
  A1 : Vec F S1x512x128 .f32

/-- The zero the queries of the other head are replaced by. -/
abbrev cz : F .bf16 := Scalar.ofBits .bf16 0x0000#16

section Model

variable (i : grid0.Coords) (t1 : Fin k0_t1_loop.trips)

/-- The number of key blocks to the left of the trip's first row block, as the kernel's word. -/
abbrev npw : BitVec 32 := Scalar.muli (Scalar.addi (Scalar.muli (BitVec.ofNat 32 (i 2).val) 2#32) (Scf.iv 0#32 1#32 t1)) 2#32

/-- The trip's queries. -/
def qB (x0 : Vec F S1x1024x128 .bf16) : Vec F S1x512x128 .bf16 := VecWindow.window x0 (k0_off1 t1) S1x512x128.size (k0_off1_inb t1)
/-- The key block of the trip's second row block. -/
def kv1 (x : Vec F S1x4096x128 .bf16) : Vec F S1x256x128 .bf16 := VecWindow.window x (k0_off2 i t1 1#32) S1x256x128.size (k0_off2_inb i t1 1)
/-- The key block of the trip's first row block. -/
def kv0 (x : Vec F S1x4096x128 .bf16) : Vec F S1x256x128 .bf16 := VecWindow.window x (k0_off2 i t1 0#32) S1x256x128.size (k0_off2_inb i t1 0)
/-- The key block just to the left of the first row block. -/
def kvm (x : Vec F S1x4096x128 .bf16) : Vec F S1x256x128 .bf16 := VecWindow.window x (k0_off3 i t1) S1x256x128.size (k0_off3_inb i t1)
/-- The while loop's key block of the first row block. -/
def kw1 (x : Vec F S1x4096x128 .bf16) (a : BitVec 32) (h : k0_chk1 i t1 a) : Vec F S1x256x128 .bf16 :=
  VecWindow.window x (k0_off4 i t1 a 1#32) S1x256x128.size (k0_off4_inb i t1 a h 1)
/-- The while loop's key block of the second row block. -/
def kw0 (x : Vec F S1x4096x128 .bf16) (a : BitVec 32) (h : k0_chk1 i t1 a) : Vec F S1x256x128 .bf16 :=
  VecWindow.window x (k0_off4 i t1 a 0#32) S1x256x128.size (k0_off4_inb i t1 a h 0)

/-- The zero carry (one plane of the kernel's fill). -/
def zC : Vec F S1x512x128 .f32 := VecWindow.window (k0_pay10 (F := F)) ![0, 0, 0] S1x512x128.size (by decide)
def zC1 : Vec F S1x512x128 .f32 := VecWindow.window (k0_pay10 (F := F)) ![1, 0, 0] S1x512x128.size (by decide)
/-- The zero accumulator. -/
def zA : Vec F S1x512x128 .f32 := VecWindow.window (k0_pay11 (F := F)) ![0, 0, 0] S1x512x128.size (by decide)
def zA1 : Vec F S1x512x128 .f32 := VecWindow.window (k0_pay11 (F := F)) ![1, 0, 0] S1x512x128.size (by decide)

variable (q : Vec F S1x512x128 .bf16) (kb vb : Vec F S1x256x128 .bf16) (tri : Vec F S256x256 .bf16) (C A : Vec F S1x512x128 .f32)

/-- The diagonal block of the second row block: the carry and the accumulator after it. -/
def gAC : Vec F S1x512x128 .f32 := k0_pay26 (k0_pay14 k0_pay2 (k0_pay12 k0_pay1 cz q kb) (k0_pay13 (F := F)) tri) C
def gAA : Vec F S1x512x128 .f32 :=
  k0_pay28 (k0_pay27 k0_pay2 (k0_pay12 k0_pay1 cz q kb) (k0_pay14 k0_pay2 (k0_pay12 k0_pay1 cz q kb) (k0_pay13 (F := F)) tri) C A vb)
/-- The diagonal block of the first row block. -/
def gBC : Vec F S1x512x128 .f32 := k0_pay30 (k0_pay18 (k0_pay16 k0_pay2 (k0_pay8 k0_pay1 cz q) kb) (k0_pay17 tri)) C
def gBA : Vec F S1x512x128 .f32 :=
  k0_pay31 k0_pay2 (k0_pay15 (k0_pay8 k0_pay1 cz q) kb) (k0_pay18 (k0_pay16 k0_pay2 (k0_pay8 k0_pay1 cz q) kb) (k0_pay17 tri)) C A vb
/-- The second row block's first block to the left. -/
def gCC : Vec F S1x512x128 .f32 := k0_pay35 (k0_pay32 C) (k0_pay34 (k0_pay20 (k0_pay9 k0_pay1 cz q) kb tri))
def gCA : Vec F S1x512x128 .f32 :=
  k0_pay36 (k0_pay33 (k0_pay19 (k0_pay9 k0_pay1 cz q) kb) (k0_pay20 (k0_pay9 k0_pay1 cz q) kb tri) C) A vb
/-- The first row block's first block to the left, under the gate `g`. -/
def gDs (g : BitVec 1) : FVec F S512x256 .f32 :=
  k0_pay24 g (k0_pay22 (k0_pay8 k0_pay1 cz q) kb) (k0_pay23 (k0_pay8 k0_pay1 cz q) kb) (Scalar.ofBits .f32 0x00000000#32) tri
def gDC (g : BitVec 1) : Vec F S1x512x128 .f32 := k0_pay38 (gDs q kb tri g) C
def gDA (g : BitVec 1) : Vec F S1x512x128 .f32 :=
  k0_pay3 (k0_pay39 A) (k0_pay40 g (k0_pay21 (k0_pay8 k0_pay1 cz q) kb) (gDs q kb tri g) C) vb
/-- The while loop's block of the first row block, at the counter `a` with `n` blocks to the left. -/
def gEC (a n : BitVec 32) : Vec F S1x512x128 .f32 := k0_pay46 (k0_pay42 (k0_pay8 k0_pay1 cz q) a n kb tri) C
def gEA (a n : BitVec 32) : Vec F S1x512x128 .f32 :=
  k0_pay49 (k0_pay47 A) (k0_pay48 (Scalar.cmpi .slt (Scalar.addi 1#32 a) n) (k0_pay41 (k0_pay8 k0_pay1 cz q) kb)
    (k0_pay42 (k0_pay8 k0_pay1 cz q) a n kb tri) C) vb
/-- The while loop's block of the second row block. -/
def gFC (g : BitVec 1) : Vec F S1x512x128 .f32 := k0_pay51 (k0_pay44 (k0_pay9 k0_pay1 cz q) g kb tri) C
def gFA (g : BitVec 1) : Vec F S1x512x128 .f32 :=
  k0_pay52 g (k0_pay43 (k0_pay9 k0_pay1 cz q) kb) (k0_pay44 (k0_pay9 k0_pay1 cz q) g kb tri) C A vb

variable (x0 : Vec F S1x1024x128 .bf16) (x1 x2 : Vec F S1x4096x128 .bf16) (x3 : Vec F S256x256 .bf16)

/-- The state before the while loop. -/
def headSt : St F where
  C0 := gDC (qB t1 x0) (kvm i t1 x1) x3 (gBC (qB t1 x0) (kv0 i t1 x1) x3 zC) (Scalar.cmpi .sgt (npw i t1) 0#32)
  C1 := gCC (qB t1 x0) (kv0 i t1 x1) x3 (gAC (qB t1 x0) (kv1 i t1 x1) x3 zC1)
  A0 := gDA (qB t1 x0) (kvm i t1 x1) (kvm i t1 x2) x3 (gBC (qB t1 x0) (kv0 i t1 x1) x3 zC)
    (gBA (qB t1 x0) (kv0 i t1 x1) (kv0 i t1 x2) x3 zC zA) (Scalar.cmpi .sgt (npw i t1) 0#32)
  A1 := gCA (qB t1 x0) (kv0 i t1 x1) (kv0 i t1 x2) x3 (gAC (qB t1 x0) (kv1 i t1 x1) x3 zC1)
    (gAA (qB t1 x0) (kv1 i t1 x1) (kv1 i t1 x2) x3 zC1 zA1)

/-- One trip of the while loop. -/
def wStep (a : BitVec 32) (h : k0_chk1 i t1 a) (s : St F) : St F where
  C0 := gEC (qB t1 x0) (kw1 i t1 x1 a h) x3 s.C0 a (npw i t1)
  C1 := gFC (qB t1 x0) (kw0 i t1 x1 a h) x3 s.C1 (Scalar.cmpi .slt (Scalar.addi 0#32 a) (npw i t1))
  A0 := gEA (qB t1 x0) (kw1 i t1 x1 a h) (kw1 i t1 x2 a h) x3 s.C0 s.A0 a (npw i t1)
  A1 := gFA (qB t1 x0) (kw0 i t1 x1 a h) (kw0 i t1 x2 a h) x3 s.C1 s.A1 (Scalar.cmpi .slt (Scalar.addi 0#32 a) (npw i t1))

/-- The early exit's test: the largest carry is above the threshold. -/
def alive (s : St F) : BitVec 1 := Scalar.cmpf .ogt (k0_pay6 (pair s.C0 s.C1)) (Named.named κ "underflow" 0xC3200000#32 : F .f32)

/-- The blocks to the left of the trip's first row block. -/
abbrev np : ℕ := ((i 2).val * 2 + t1.val) * 2

/-- The while loop from the counter `t` on, `n` more trips at most. -/
def wFrom : ℕ → ℕ → St F → St F
  | 0, _, s => s
  | n + 1, t, s =>
    if alive s = 1#1 then
      if h : k0_chk1 i t1 (BitVec.ofNat 32 t) then wFrom n (t + 1) (wStep i t1 x0 x1 x2 x3 (BitVec.ofNat 32 t) h s) else s
    else s

/-- The state after a trip. -/
def endSt : St F := wFrom i t1 x0 x1 x2 x3 (np i t1) 0 (headSt i t1 x0 x1 x2 x3)

/-- What a trip leaves of the output block. -/
def tripOut (y : Vec F S1x1024x128 .bf16) : Vec F S1x1024x128 .bf16 :=
  VecWindow.put (VecWindow.put y (k0_off5 t1 0#32) S1x256x128.size (k0_pay4 (endSt i t1 x0 x1 x2 x3).A0))
    (k0_off5 t1 256#32) S1x256x128.size (k0_pay5 (endSt i t1 x0 x1 x2 x3).A1)

end Model

/-- The output block after `k` trips. -/
def outTo (i : grid0.Coords) (x0 : Vec F S1x1024x128 .bf16) (x1 x2 : Vec F S1x4096x128 .bf16) (x3 : Vec F S256x256 .bf16)
    (y : Vec F S1x1024x128 .bf16) : ℕ → Vec F S1x1024x128 .bf16
  | 0 => y
  | k + 1 => if h : k < k0_t1_loop.trips then tripOut i ⟨k, h⟩ x0 x1 x2 x3 (outTo i x0 x1 x2 x3 y k) else outTo i x0 x1 x2 x3 y k

/-! ## The words -/

theorem np_lt (i : grid0.Coords) (t1 : Fin k0_t1_loop.trips) : np i t1 < 16 := by
  have h2 : (i 2).val < 4 := (i 2).isLt
  have h1 : t1.val < 2 := lt_of_lt_of_eq t1.isLt (by decide)
  unfold np
  omega

theorem npw_word : ∀ a < 4, ∀ b : Fin k0_t1_loop.trips,
    Scalar.muli (Scalar.addi (Scalar.muli (BitVec.ofNat 32 a) 2#32) (Scf.iv 0#32 1#32 b)) 2#32 = BitVec.ofNat 32 ((a * 2 + b.val) * 2) := by
  decide

theorem npw_eq (i : grid0.Coords) (t1 : Fin k0_t1_loop.trips) : npw i t1 = BitVec.ofNat 32 (np i t1) := npw_word _ (i 2).isLt t1

theorem off4_word : ∀ n < 16, ∀ r < 2, ∀ t < 16,
    (Scalar.muli (Scalar.maxsi (Scalar.subi (Scalar.subi (BitVec.ofNat 32 n) 1#32) (Scalar.addi (BitVec.ofNat 32 r) (BitVec.ofNat 32 t))) 0#32) 256#32).toNat
      = (n - 1 - (r + t)) * 256 := by
  decide

theorem off4_eq (i : grid0.Coords) (t1 : Fin k0_t1_loop.trips) (r : ℕ) (hr : r < 2) (t : ℕ) (ht : t < 16) :
    k0_off4 i t1 (BitVec.ofNat 32 t) (BitVec.ofNat 32 r) = ![0, (np i t1 - 1 - (r + t)) * 256, 0] := by
  have h := off4_word _ (np_lt i t1) r hr t ht
  rw [← npw_eq] at h
  funext a
  fin_cases a
  · rfl
  · exact h
  · rfl

theorem chk_of (i : grid0.Coords) (t1 : Fin k0_t1_loop.trips) (t : ℕ) (h : t < np i t1) : k0_chk1 i t1 (BitVec.ofNat 32 t) := by
  have hn := np_lt i t1
  refine ⟨?_, fun r a => ?_, ?_⟩
  · have h := off4_word _ (np_lt i t1) 1 (by omega) t (by omega)
    rw [← npw_eq] at h
    exact ⟨_, (h.trans (Nat.mul_comm _ _) : (k0_mult6 i t1 (BitVec.ofNat 32 t)).toNat = _)⟩
  · rw [off4_eq i t1 r.val r.isLt t (by omega)]
    fin_cases a
    · exact (by decide : 0 + 1 ≤ 1)
    · exact (by omega : (np i t1 - 1 - (r.val + t)) * 256 + 256 ≤ 4096)
    · exact (by decide : 0 + 128 ≤ 128)
  · have h := off4_word _ (np_lt i t1) 0 (by omega) t (by omega)
    rw [← npw_eq] at h
    exact ⟨_, (h.trans (Nat.mul_comm _ _) : (k0_mult7 i t1 (BitVec.ofNat 32 t)).toNat = _)⟩

theorem off2_word : ∀ n < 16, ∀ r < 2,
    (Scalar.muli (Scalar.addi (BitVec.ofNat 32 n) (BitVec.ofNat 32 r)) 256#32).toNat = (n + r) * 256 := by
  decide

theorem off2_eq (i : grid0.Coords) (t1 : Fin k0_t1_loop.trips) (r : ℕ) (hr : r < 2) :
    k0_off2 i t1 (BitVec.ofNat 32 r) = ![0, (np i t1 + r) * 256, 0] := by
  have h := off2_word _ (np_lt i t1) r hr
  rw [← npw_eq] at h
  funext a
  fin_cases a
  · rfl
  · exact h
  · rfl

theorem off3_eq (i : grid0.Coords) (t1 : Fin k0_t1_loop.trips) : k0_off3 i t1 = ![0, (np i t1 - 1) * 256, 0] := by
  have h := off4_word _ (np_lt i t1) 0 (by omega) 0 (by omega)
  rw [← npw_eq] at h
  funext a
  fin_cases a
  · rfl
  · exact h
  · rfl

theorem off1_word : ∀ b : Fin k0_t1_loop.trips, (Scalar.muli (Scf.iv 0#32 1#32 b) 512#32).toNat = b.val * 512 := by decide

theorem off1_eq (t1 : Fin k0_t1_loop.trips) : k0_off1 t1 = ![0, t1.val * 512, 0] := by
  have h := off1_word t1
  funext a
  fin_cases a
  · rfl
  · exact h
  · rfl

theorem off5_word : ∀ b : Fin k0_t1_loop.trips, ∀ r < 2,
    (Scalar.addi (Scalar.muli (Scf.iv 0#32 1#32 b) 512#32) (BitVec.ofNat 32 (256 * r))).toNat = b.val * 512 + 256 * r := by decide

theorem off5_eq (t1 : Fin k0_t1_loop.trips) (r : ℕ) (hr : r < 2) :
    k0_off5 t1 (BitVec.ofNat 32 (256 * r)) = ![0, t1.val * 512 + 256 * r, 0] := by
  have h := off5_word t1 r hr
  funext a
  fin_cases a
  · rfl
  · exact h
  · rfl

theorem slt_lit : ∀ n < 16, ∀ t < 16, Scalar.cmpi .slt (BitVec.ofNat 32 t) (BitVec.ofNat 32 n) = if t < n then 1#1 else 0#1 := by
  decide

theorem and_true : ∀ b : BitVec 1, Scalar.andi 1#1 b = b := by decide
theorem and_false : ∀ b : BitVec 1, Scalar.andi 0#1 b = 0#1 := by decide
theorem succ_lit : ∀ t < 16, Scalar.addi (BitVec.ofNat 32 t) 1#32 = BitVec.ofNat 32 (t + 1) := by decide

end Cert.Proof.KI

end
-- ==== Proof.KI.While.lean ====
/-
  The while loop of a trip. Its label is answered by a specification at the trips it may still run: entered holding the
  keys, the values, the triangle and the two scratch buffers at a state, it leaves the scratch buffers at the state the
  model's recursion gives.
-/
module

public import proofs.«01_k».proof.Proof.KI.Model

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Planes

variable (c : Dev nD) (bd : Option 𝒱₀.V) (E : Set ℕ)

/-- A load of the whole of a memref. -/
theorem wp_ldF {s : Shape} {e : EltTy} {α : Type} {m : Memref sig .tc .vmem s e} {off : Fin s.rank → ℕ} {inb : ∀ a, off a + s.size a ≤ s.size a}
    {hl : m.view.LoadsAt (Rect.unit off s.size inb).toLoadRect} {q : PosShare TreeShare} {x : s.Idx → Elt F e}
    {k : (s.Idx → Elt F e) → Prog (TpuEff nD τ sig (Elt F) (Λ₀ F) .tc) α} {Q : α → sProp 𝕄} :
    (owns (c : Thread nD τ) m q x : sProp 𝕄)
      ⊢ iprop((owns (c : Thread nD τ) m q x -∗ wp frame (wpE (defs₀ (F := F)) 𝒱₀ (c : Thread nD τ) bd) E (k x) Q)
        -∗ wp frame (wpE (defs₀ (F := F)) 𝒱₀ (c : Thread nD τ) bd) E (.op (.load m (Rect.unit off s.size inb).toLoadRect hl) k) Q) := by
  have h := wp_ld c bd E (m := m) (inb := inb) (hl := hl) (q := q) (x := x) (k := k) (Q := Q)
  rwa [window_full] at h

variable {α : Type} {m : Memref sig .tc .vmem S2x512x128 .f32} {X Y : Vec F S1x512x128 .f32}

/-- A load of the first plane. -/
theorem wp_ld0 {inb : ∀ a, (![0, 0, 0] : Fin 3 → ℕ) a + S1x512x128.size a ≤ S2x512x128.size a}
    {hl : m.view.LoadsAt (Rect.unit (s := S2x512x128) ![0, 0, 0] S1x512x128.size inb).toLoadRect}
    {k : Vec F S1x512x128 .f32 → Prog (TpuEff nD τ sig (Elt F) (Λ₀ F) .tc) α} {Q : α → sProp 𝕄} :
    (owns (c : Thread nD τ) m fullShare (pair X Y) : sProp 𝕄)
      ⊢ iprop((owns (c : Thread nD τ) m fullShare (pair X Y) -∗ wp frame (wpE (defs₀ (F := F)) 𝒱₀ (c : Thread nD τ) bd) E (k X) Q)
        -∗ wp frame (wpE (defs₀ (F := F)) 𝒱₀ (c : Thread nD τ) bd) E (.op (.load m (Rect.unit (s := S2x512x128) ![0, 0, 0] S1x512x128.size inb).toLoadRect hl) k) Q) := by
  have h := wp_ld c bd E (m := m) (inb := inb) (hl := hl) (q := fullShare) (x := pair X Y) (k := k) (Q := Q)
  rwa [window_pair_zero] at h

/-- A load of the second plane. -/
theorem wp_ld1 {inb : ∀ a, (![1, 0, 0] : Fin 3 → ℕ) a + S1x512x128.size a ≤ S2x512x128.size a}
    {hl : m.view.LoadsAt (Rect.unit (s := S2x512x128) ![1, 0, 0] S1x512x128.size inb).toLoadRect}
    {k : Vec F S1x512x128 .f32 → Prog (TpuEff nD τ sig (Elt F) (Λ₀ F) .tc) α} {Q : α → sProp 𝕄} :
    (owns (c : Thread nD τ) m fullShare (pair X Y) : sProp 𝕄)
      ⊢ iprop((owns (c : Thread nD τ) m fullShare (pair X Y) -∗ wp frame (wpE (defs₀ (F := F)) 𝒱₀ (c : Thread nD τ) bd) E (k Y) Q)
        -∗ wp frame (wpE (defs₀ (F := F)) 𝒱₀ (c : Thread nD τ) bd) E (.op (.load m (Rect.unit (s := S2x512x128) ![1, 0, 0] S1x512x128.size inb).toLoadRect hl) k) Q) := by
  have h := wp_ld c bd E (m := m) (inb := inb) (hl := hl) (q := fullShare) (x := pair X Y) (k := k) (Q := Q)
  rwa [window_pair_one] at h

/-- A store of the first plane. -/
theorem wp_st0 {inb : ∀ a, (![0, 0, 0] : Fin 3 → ℕ) a + S1x512x128.size a ≤ S2x512x128.size a} {w : Vec F S1x512x128 .f32}
    {hx : (m.access (Rect.unit (s := S2x512x128) ![0, 0, 0] S1x512x128.size inb)).Stores Finset.univ}
    {hm : (Finset.univ : Finset (Rect.unit (s := S2x512x128) ![0, 0, 0] S1x512x128.size inb).shape.Idx) = Finset.univ ∨ ∀ a, (Rect.unit (s := S2x512x128) ![0, 0, 0] S1x512x128.size inb).stride a = 1}
    {k : PUnit → Prog (TpuEff nD τ sig (Elt F) (Λ₀ F) .tc) α} {Q : α → sProp 𝕄} :
    (owns (c : Thread nD τ) m fullShare (pair X Y) : sProp 𝕄)
      ⊢ iprop((owns (c : Thread nD τ) m fullShare (pair w Y) -∗ wp frame (wpE (defs₀ (F := F)) 𝒱₀ (c : Thread nD τ) bd) E (k ⟨⟩) Q)
        -∗ wp frame (wpE (defs₀ (F := F)) 𝒱₀ (c : Thread nD τ) bd) E (.op (.store m (Rect.unit (s := S2x512x128) ![0, 0, 0] S1x512x128.size inb) w Finset.univ hx hm) k) Q) := by
  have h := wp_st c bd E (m := m) (inb := inb) (w := w) (hx := hx) (hm := hm) (x := pair X Y) (k := k) (Q := Q)
  rwa [put_pair_zero] at h

/-- A store of the second plane. -/
theorem wp_st1 {inb : ∀ a, (![1, 0, 0] : Fin 3 → ℕ) a + S1x512x128.size a ≤ S2x512x128.size a} {w : Vec F S1x512x128 .f32}
    {hx : (m.access (Rect.unit (s := S2x512x128) ![1, 0, 0] S1x512x128.size inb)).Stores Finset.univ}
    {hm : (Finset.univ : Finset (Rect.unit (s := S2x512x128) ![1, 0, 0] S1x512x128.size inb).shape.Idx) = Finset.univ ∨ ∀ a, (Rect.unit (s := S2x512x128) ![1, 0, 0] S1x512x128.size inb).stride a = 1}
    {k : PUnit → Prog (TpuEff nD τ sig (Elt F) (Λ₀ F) .tc) α} {Q : α → sProp 𝕄} :
    (owns (c : Thread nD τ) m fullShare (pair X Y) : sProp 𝕄)
      ⊢ iprop((owns (c : Thread nD τ) m fullShare (pair X w) -∗ wp frame (wpE (defs₀ (F := F)) 𝒱₀ (c : Thread nD τ) bd) E (k ⟨⟩) Q)
        -∗ wp frame (wpE (defs₀ (F := F)) 𝒱₀ (c : Thread nD τ) bd) E (.op (.store m (Rect.unit (s := S2x512x128) ![1, 0, 0] S1x512x128.size inb) w Finset.univ hx hm) k) Q) := by
  have h := wp_st c bd E (m := m) (inb := inb) (w := w) (hx := hx) (hm := hm) (x := pair X Y) (k := k) (Q := Q)
  rwa [put_pair_one] at h

/-- A store of both planes. -/
theorem wp_stW {inb : ∀ a, (![0, 0, 0] : Fin 3 → ℕ) a + S2x512x128.size a ≤ S2x512x128.size a} {w x : Vec F S2x512x128 .f32}
    {hx : (m.access (Rect.unit (s := S2x512x128) ![0, 0, 0] S2x512x128.size inb)).Stores Finset.univ}
    {hm : (Finset.univ : Finset (Rect.unit (s := S2x512x128) ![0, 0, 0] S2x512x128.size inb).shape.Idx) = Finset.univ ∨ ∀ a, (Rect.unit (s := S2x512x128) ![0, 0, 0] S2x512x128.size inb).stride a = 1}
    {k : PUnit → Prog (TpuEff nD τ sig (Elt F) (Λ₀ F) .tc) α} {Q : α → sProp 𝕄} :
    (owns (c : Thread nD τ) m fullShare x : sProp 𝕄)
      ⊢ iprop((owns (c : Thread nD τ) m fullShare (pair (VecWindow.window w ![0, 0, 0] S1x512x128.size (by decide)) (VecWindow.window w ![1, 0, 0] S1x512x128.size (by decide))) -∗ wp frame (wpE (defs₀ (F := F)) 𝒱₀ (c : Thread nD τ) bd) E (k ⟨⟩) Q)
        -∗ wp frame (wpE (defs₀ (F := F)) 𝒱₀ (c : Thread nD τ) bd) E (.op (.store m (Rect.unit (s := S2x512x128) ![0, 0, 0] S2x512x128.size inb) w Finset.univ hx hm) k) Q) := by
  have h := wp_st c bd E (m := m) (inb := inb) (w := w) (hx := hx) (hm := hm) (x := x) (k := k) (Q := Q)
  rwa [put_whole x w (by decide) (by decide)] at h

end Planes

section While

variable (c : Dev nD) (i : grid0.Coords) (t1 : Fin k0_t1_loop.trips)
  (arg4 : Memref sig .tc .vmem S1x4096x128 .bf16) (harg4 : arg4.IsWhole) (arg5 : Memref sig .tc .vmem S1x4096x128 .bf16) (harg5 : arg5.IsWhole)
  (arg6 : Memref sig .tc .vmem S256x256 .bf16) (harg6 : arg6.IsWhole)
  (arg8 : Memref sig .tc .vmem S2x512x128 .f32) (harg8 : arg8.IsWhole) (arg9 : Memref sig .tc .vmem S2x512x128 .f32) (harg9 : arg9.IsWhole)
  (x0 : Vec F S1x1024x128 .bf16) (x1 x2 : Vec F S1x4096x128 .bf16) (x3 : Vec F S256x256 .bf16)

/-- What the while loop holds: the keys, the values, the triangle, and the scratch at the state `s`. -/
def held (s : St F) : sProp 𝕄 :=
  iprop(owns (c : Thread nD τ) arg4 fullShare x1 ∗ owns (c : Thread nD τ) arg5 fullShare x2 ∗ owns (c : Thread nD τ) arg6 fullShare x3
    ∗ owns (c : Thread nD τ) arg8 fullShare (pair s.C0 s.C1) ∗ owns (c : Thread nD τ) arg9 fullShare (pair s.A0 s.A1))

/-- The while loop's specification with `n` trips to run from the counter `t`. -/
def spec (n t : ℕ) (s : St F) : sWPT 𝕄 (BitVec 32) := do
  sWPT.consume (held c arg4 arg5 arg6 arg8 arg9 x1 x2 x3 s)
  let r ← sWPT.arbitrary
  sWPT.produce (held c arg4 arg5 arg6 arg8 arg9 x1 x2 x3 (wFrom i t1 x0 x1 x2 x3 n t s))
  pure r

theorem spec_apply (n t : ℕ) (s : St F) (K : BitVec 32 → sProp 𝕄) :
    spec c i t1 arg4 arg5 arg6 arg8 arg9 x0 x1 x2 x3 n t s K
      = iprop(held c arg4 arg5 arg6 arg8 arg9 x1 x2 x3 s
        ∗ ∀ r, held c arg4 arg5 arg6 arg8 arg9 x1 x2 x3 (wFrom i t1 x0 x1 x2 x3 n t s) -∗ K r) := rfl

theorem spec_le (E : Set ℕ) : ∀ (n t : ℕ), t + n = np i t1 → ∀ (s : St F) (K : BitVec 32 → sProp 𝕄),
    spec c i t1 arg4 arg5 arg6 arg8 arg9 x0 x1 x2 x3 n t s K
      ⊢ wp frame (wpE (defs₀ (F := F)) 𝒱₀ (c : Thread nD τ) (some n)) E
          (defs₀ (F := F) .tc 1 ⟨i, t1, arg8, harg8, arg4, harg4, k0_pay8 k0_pay1 cz (qB t1 x0), arg6, harg6, k0_pay9 k0_pay1 cz (qB t1 x0), arg9, harg9, arg5, harg5, BitVec.ofNat 32 t⟩) K := by
  intro n
  induction n with
  | zero =>
    intro t ht s K
    rw [spec_apply]
    show _ ⊢ wp frame _ E (cc0_while1 (F := F) i t1 arg8 harg8 arg4 harg4 (k0_pay8 k0_pay1 cz (qB t1 x0)) arg6 harg6 (k0_pay9 k0_pay1 cz (qB t1 x0)) arg9 harg9 arg5 harg5 (BitVec.ofNat 32 t)) K
    simp only [cc0_while1_eq_skeleton]
    unfold cc0_while1_skel
    have hn := np_lt i t1
    have hlt : Scalar.cmpi .slt (BitVec.ofNat 32 t) (npw i t1) = 0#1 := by
      rw [npw_eq, slt_lit _ hn _ (by omega), if_neg (by omega)]
    simp only [hlt, and_false, show ¬ (0#1 = 1#1) by decide, ↓reduceIte, Prog.lift, Prog.bind_op, Prog.bind_ret, Prog.pure_eq_ret]
    unfold held
    iintro ⟨⟨H4, H5, H6, H8, H9⟩, Hk⟩
    iapply (wp_ldF c (some 0) E) $$ H8; iintro H8
    rw [wp_ret]
    imodintro
    iapply Hk
    isplitl [H4]; · iexact H4
    isplitl [H5]; · iexact H5
    isplitl [H6]; · iexact H6
    isplitl [H8]; · iexact H8
    iexact H9
  | succ n ih =>
    intro t ht s K
    rw [spec_apply]
    show _ ⊢ wp frame _ E (cc0_while1 (F := F) i t1 arg8 harg8 arg4 harg4 (k0_pay8 k0_pay1 cz (qB t1 x0)) arg6 harg6 (k0_pay9 k0_pay1 cz (qB t1 x0)) arg9 harg9 arg5 harg5 (BitVec.ofNat 32 t)) K
    simp only [cc0_while1_eq_skeleton]
    unfold cc0_while1_skel
    have hn := np_lt i t1
    have hlt : Scalar.cmpi .slt (BitVec.ofNat 32 t) (npw i t1) = 1#1 := by
      rw [npw_eq, slt_lit _ hn _ (by omega), if_pos (by omega)]
    have hchk := chk_of i t1 t (by omega)
    simp only [hlt, and_true, Prog.lift, Prog.bind_op, Prog.bind_ret, Prog.pure_eq_ret]
    unfold held
    iintro ⟨⟨H4, H5, H6, H8, H9⟩, Hk⟩
    iapply (wp_ldF c (some (n + 1)) E) $$ H8; iintro H8
    by_cases ha : alive s = 1#1
    · have hw : wFrom i t1 x0 x1 x2 x3 (n + 1) t s = wFrom i t1 x0 x1 x2 x3 n (t + 1) (wStep i t1 x0 x1 x2 x3 (BitVec.ofNat 32 t) hchk s) := by
        rw [wFrom, if_pos ha, dif_pos hchk]
      rw [hw]
      have ha' : Scalar.cmpf .ogt (k0_pay6 (pair s.C0 s.C1)) (Named.named κ "underflow" 0xC3200000#32 : F .f32) = 1#1 := ha
      simp only [ha', ↓reduceIte, k0_part9_eq_skeleton]
      unfold k0_part9_skel
      simp only [k0_part7_eq_skeleton, k0_part8_eq_skeleton]
      unfold k0_part7_skel k0_part8_skel
      simp only [Prog.lift, Prog.bind_op, Prog.bind_ret, Prog.pure_eq_ret]
      iapply (wp_assume 𝒱₀ (c : Thread nD τ) (some (n + 1)) E hchk)
      iapply (wp_ld c (some (n + 1)) E) $$ H4; iintro H4
      iapply (wp_ldF c (some (n + 1)) E) $$ H6; iintro H6
      iapply (wp_ld c (some (n + 1)) E) $$ H4; iintro H4
      iapply (wp_ldF c (some (n + 1)) E) $$ H6; iintro H6
      iapply (wp_ld0 c (some (n + 1)) E) $$ H8; iintro H8
      iapply (wp_ld0 c (some (n + 1)) E) $$ H8; iintro H8
      iapply (wp_st0 c (some (n + 1)) E) $$ H8; iintro H8
      iapply (wp_ld0 c (some (n + 1)) E) $$ H9; iintro H9
      iapply (wp_ld c (some (n + 1)) E) $$ H5; iintro H5
      iapply (wp_ld0 c (some (n + 1)) E) $$ H9; iintro H9
      iapply (wp_st0 c (some (n + 1)) E) $$ H9; iintro H9
      iapply (wp_ld1 c (some (n + 1)) E) $$ H8; iintro H8
      iapply (wp_ld1 c (some (n + 1)) E) $$ H8; iintro H8
      iapply (wp_st1 c (some (n + 1)) E) $$ H8; iintro H8
      iapply (wp_ld1 c (some (n + 1)) E) $$ H9; iintro H9
      iapply (wp_ld c (some (n + 1)) E) $$ H5; iintro H5
      iapply (wp_ld1 c (some (n + 1)) E) $$ H9; iintro H9
      iapply (wp_st1 c (some (n + 1)) E) $$ H9; iintro H9
      rw [succ_lit t (by omega)]
      iapply (wp_call_spec 𝒱₀ (c : Thread nD τ) (some (n + 1)) E
        (spec c i t1 arg4 arg5 arg6 arg8 arg9 x0 x1 x2 x3 n (t + 1) (wStep i t1 x0 x1 x2 x3 (BitVec.ofNat 32 t) hchk s)) n
        (fun u hu => by cases hu; exact Nat.lt_succ_self n) (ih (t + 1) (by omega) _))
      rw [spec_apply]
      unfold held
      isplitr [Hk]
      · isplitl [H4]; · iexact H4
        isplitl [H5]; · iexact H5
        isplitl [H6]; · iexact H6
        isplitl [H8]; · iexact H8
        iexact H9
      iintro %r H
      rw [wp_ret]
      imodintro
      iapply Hk
      iexact H
    · have hw : wFrom i t1 x0 x1 x2 x3 (n + 1) t s = s := by rw [wFrom, if_neg ha]
      rw [hw]
      have ha' : ¬ Scalar.cmpf .ogt (k0_pay6 (pair s.C0 s.C1)) (Named.named κ "underflow" 0xC3200000#32 : F .f32) = 1#1 := ha
      simp only [ha', ↓reduceIte]
      rw [wp_ret]
      imodintro
      iapply Hk
      isplitl [H4]; · iexact H4
      isplitl [H5]; · iexact H5
      isplitl [H6]; · iexact H6
      isplitl [H8]; · iexact H8
      iexact H9

end While

end Cert.Proof.KI

end
-- ==== Proof.KI.Trip.lean ====
/-
  A trip of the kernel's loop, and the kernel's body at a grid point: the trips one after the other leave the output
  block at the model's value and the scratch buffers at some contents.
-/
module

public import proofs.«01_k».proof.Proof.KI.While

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Trip

variable (c : Dev nD) (i : grid0.Coords)
  (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole)
  (arg6 : Memref sig .tc .vmem S256x256 .bf16) (harg6 : arg6.IsWhole)
  (arg7 : Memref sig .tc .vmem S1x1024x128 .bf16) (harg7 : arg7.IsWhole) (arg8 : Memref sig .tc .vmem S2x512x128 .f32) (harg8 : arg8.IsWhole) (arg9 : Memref sig .tc .vmem S2x512x128 .f32) (harg9 : arg9.IsWhole)
  (x0 : Vec F S1x1024x128 .bf16) (x1 x2 : Vec F S1x4096x128 .bf16) (x3 : Vec F S256x256 .bf16)

/-- What the loop holds after `k` trips: the inputs, the output block at the model's value, the scratch at some state. -/
def loopInv (y : Vec F S1x1024x128 .bf16) (k : ℕ) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare (outTo i x0 x1 x2 x3 y k)
    ∗ (∃ C, owns (c : Thread nD τ) arg8 fullShare C) ∗ (∃ A, owns (c : Thread nD τ) arg9 fullShare A))

theorem trip_sound (y : Vec F S1x1024x128 .bf16) (k : Fin k0_t1_loop.trips) (u : Unit) :
    loopInv c i arg3 arg4 arg5 arg6 arg7 arg8 arg9 x0 x1 x2 x3 y k.val
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 (BitVec.ofNat 32 (i 2).val) cz k u)
          (fun _ => loopInv c i arg3 arg4 arg5 arg6 arg7 arg8 arg9 x0 x1 x2 x3 y (k.val + 1)) := by
  have ho : outTo i x0 x1 x2 x3 y (k.val + 1) = tripOut i k x0 x1 x2 x3 (outTo i x0 x1 x2 x3 y k.val) := by
    rw [outTo, dif_pos k.isLt]
  unfold loopInv
  rw [ho]
  generalize outTo i x0 x1 x2 x3 y k.val = y'
  unfold k0_t1_body
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret]
  iintro ⟨H3, H4, H5, H6, H7, ⟨%C, H8⟩, ⟨%A, H9⟩⟩
  iapply (wp_ld c none Set.univ) $$ H3; iintro H3
  iapply (wp_ldF c none Set.univ) $$ H8; iintro H8
  iapply (wp_stW c none Set.univ) $$ H8; iintro H8
  iapply (wp_ldF c none Set.univ) $$ H9; iintro H9
  iapply (wp_stW c none Set.univ) $$ H9; iintro H9
  iapply (wp_ld c none Set.univ) $$ H4; iintro H4
  iapply (wp_ldF c none Set.univ) $$ H6; iintro H6
  iapply (wp_ld c none Set.univ) $$ H4; iintro H4
  iapply (wp_ldF c none Set.univ) $$ H6; iintro H6
  iapply (wp_ld c none Set.univ) $$ H4; iintro H4
  iapply (wp_ldF c none Set.univ) $$ H6; iintro H6
  iapply (wp_ld c none Set.univ) $$ H4; iintro H4
  iapply (wp_ldF c none Set.univ) $$ H6; iintro H6
  iapply (wp_ld1 c none Set.univ) $$ H8; iintro H8
  iapply (wp_ld1 c none Set.univ) $$ H8; iintro H8
  iapply (wp_st1 c none Set.univ) $$ H8; iintro H8
  iapply (wp_ld1 c none Set.univ) $$ H9; iintro H9
  iapply (wp_ld c none Set.univ) $$ H5; iintro H5
  iapply (wp_ld1 c none Set.univ) $$ H9; iintro H9
  iapply (wp_st1 c none Set.univ) $$ H9; iintro H9
  iapply (wp_ld0 c none Set.univ) $$ H8; iintro H8
  iapply (wp_ld0 c none Set.univ) $$ H8; iintro H8
  iapply (wp_st0 c none Set.univ) $$ H8; iintro H8
  iapply (wp_ld0 c none Set.univ) $$ H9; iintro H9
  iapply (wp_ld c none Set.univ) $$ H5; iintro H5
  iapply (wp_ld0 c none Set.univ) $$ H9; iintro H9
  iapply (wp_st0 c none Set.univ) $$ H9; iintro H9
  iapply (wp_ld1 c none Set.univ) $$ H8; iintro H8
  iapply (wp_ld1 c none Set.univ) $$ H8; iintro H8
  iapply (wp_st1 c none Set.univ) $$ H8; iintro H8
  iapply (wp_ld1 c none Set.univ) $$ H9; iintro H9
  iapply (wp_ld c none Set.univ) $$ H5; iintro H5
  iapply (wp_ld1 c none Set.univ) $$ H9; iintro H9
  iapply (wp_st1 c none Set.univ) $$ H9; iintro H9
  iapply (wp_ld0 c none Set.univ) $$ H8; iintro H8
  iapply (wp_ld0 c none Set.univ) $$ H8; iintro H8
  iapply (wp_st0 c none Set.univ) $$ H8; iintro H8
  iapply (wp_ld0 c none Set.univ) $$ H9; iintro H9
  iapply (wp_ld c none Set.univ) $$ H5; iintro H5
  iapply (wp_ld0 c none Set.univ) $$ H9; iintro H9
  iapply (wp_st0 c none Set.univ) $$ H9; iintro H9
  iapply (wp_call_spec 𝒱₀ (c : Thread nD τ) none Set.univ
    (spec c i k arg4 arg5 arg6 arg8 arg9 x0 x1 x2 x3 (np i k) 0 (headSt i k x0 x1 x2 x3)) (np i k)
    (fun u hu => nomatch hu) (spec_le c i k arg4 harg4 arg5 harg5 arg6 harg6 arg8 harg8 arg9 harg9 x0 x1 x2 x3 Set.univ (np i k) 0 (by omega) _))
  rw [spec_apply]
  unfold held
  isplitr [H3 H7]
  · isplitl [H4]; · iexact H4
    isplitl [H5]; · iexact H5
    isplitl [H6]; · iexact H6
    isplitl [H8]; · iexact H8
    iexact H9
  iintro %r ⟨H4, H5, H6, H8, H9⟩
  iapply (wp_ld0 c none Set.univ) $$ H9; iintro H9
  iapply (wp_ld c none Set.univ) $$ H7; iintro H7
  iapply (wp_st c none Set.univ) $$ H7; iintro H7
  iapply (wp_ld1 c none Set.univ) $$ H9; iintro H9
  iapply (wp_ld c none Set.univ) $$ H7; iintro H7
  iapply (wp_st c none Set.univ) $$ H7; iintro H7
  rw [wp_ret]
  imodintro
  isplitl [H3]; · iexact H3
  isplitl [H4]; · iexact H4
  isplitl [H5]; · iexact H5
  isplitl [H6]; · iexact H6
  isplitl [H7]; · iexact H7
  isplitl [H8]; · iexists _; iexact H8
  iexists _; iexact H9

/-- The kernel's body at a point: it leaves the output block at the model's value and its inputs as they were. -/
theorem kernel_sound (y : Vec F S1x1024x128 .bf16) (C A : Vec F S2x512x128 .f32) (Q : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare x3 ∗ owns (c : Thread nD τ) arg7 fullShare y
      ∗ owns (c : Thread nD τ) arg8 fullShare C ∗ owns (c : Thread nD τ) arg9 fullShare A
      ∗ (loopInv c i arg3 arg4 arg5 arg6 arg7 arg8 arg9 x0 x1 x2 x3 y k0_t1_loop.trips -∗ Q ⟨⟩))
      ⊢ wp frame (wpE (defs₀ (F := F)) 𝒱₀ (c : Thread nD τ) none) Set.univ
          (cc0_stickbreak_attn (F := F) i arg3 harg3 arg4 harg4 arg5 harg5 arg6 harg6 arg7 harg7 arg8 harg8 arg9 harg9) Q := by
  simp only [cc0_stickbreak_attn_eq_skeleton]
  unfold cc0_stickbreak_attn_skel
  simp only [Prog.pure_eq_ret]
  iintro ⟨H3, H4, H5, H6, H7, H8, H9, Hk⟩
  iapply (Scf.wp_for_bind frame (wpE (defs₀ (F := F)) 𝒱₀ (c : Thread nD τ) none) Set.univ _ _ _ k0_t1_ok _ _
    (fun k _ => loopInv c i arg3 arg4 arg5 arg6 arg7 arg8 arg9 x0 x1 x2 x3 y k)
    (trip_sound c i arg3 harg3 arg4 harg4 arg5 harg5 arg6 harg6 arg7 harg7 arg8 harg8 arg9 harg9 x0 x1 x2 x3 y)) $$ [H3 H4 H5 H6 H7 H8 H9]
  · unfold loopInv
    isplitl [H3]; · iexact H3
    isplitl [H4]; · iexact H4
    isplitl [H5]; · iexact H5
    isplitl [H6]; · iexact H6
    isplitl [H7]; · iexact H7
    isplitl [H8]; · iexists C; iexact H8
    iexists A; iexact H9
  iintro %u H
  rw [wp_ret]
  imodintro
  iapply Hk
  iexact H

end Trip

end Cert.Proof.KI

end
-- ==== Proof.KI.Run.lean ====
/-
  The kernel's launch: the host operations, the pipeline's proof data, the body at a generic point, and the run. The
  output block of a point is the model's (`outV`), a function of the four input blocks alone.
-/
module

public import Idealize.ShloMosaic.Adequacy
public import Idealize.ShloMosaic.Init
public import Idealize.ShloMosaic.Lib.Pipeline.Value
public import Idealize.ShloMosaic.Lib.StableHlo.RunRead
public import Idealize.ShloMosaic.Lib.Pipeline.FrameBody
public import proofs.«01_k».proof.Proof.KI.Trip

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The output block as one function of the input blocks -/

/-- The index of a row and a lane in a block of 256 rows. -/
def rowIx (r l : ℕ) (hr : r < 256) (hl : l < 128) : S1x256x128.Idx := fun a => match a with
  | 0 => ⟨0, Nat.one_pos⟩
  | 1 => ⟨r, hr⟩
  | 2 => ⟨l, hl⟩

theorem put_rows {α : Type} (y : S1x1024x128.Idx → α) (r : ℕ) (w : S1x256x128.Idx → α) (j : S1x1024x128.Idx) :
    VecWindow.put y ![0, r, 0] S1x256x128.size w j
      = if h : r ≤ (j 1).val ∧ (j 1).val < r + 256 then w (rowIx ((j 1).val - r) (j 2).val (by omega) (j 2).isLt) else y j := by
  have h0 : (j 0).val < 1 := (j 0).isLt
  have h2 : (j 2).val < 128 := (j 2).isLt
  unfold VecWindow.put
  by_cases h : r ≤ (j 1).val ∧ (j 1).val < r + 256
  · rw [dif_pos h, dif_pos (fun a => by
      fin_cases a
      · exact ⟨Nat.zero_le _, by show (j 0).val < 0 + 1; omega⟩
      · exact h
      · exact ⟨Nat.zero_le _, by show (j 2).val < 0 + 128; omega⟩)]
    congr 1
    funext a
    fin_cases a
    · exact Fin.ext (by show (j 0).val - 0 = 0; omega)
    · rfl
    · rfl
  · rw [dif_neg h, dif_neg (fun h' => h (h' 1))]

section Out

variable (i : grid0.Coords) (x0 : Vec F S1x1024x128 .bf16) (x1 x2 : Vec F S1x4096x128 .bf16) (x3 : Vec F S256x256 .bf16)

/-- The trip that writes a row of the output block. -/
def tripOf (n : ℕ) : Fin k0_t1_loop.trips := ⟨n % 2, lt_of_lt_of_eq (Nat.mod_lt _ (by decide)) (by decide)⟩

/-- The output block of a point. -/
def outV : Vec F S1x1024x128 .bf16 := fun j =>
  if (j 1).val % 512 < 256 then
    k0_pay4 (endSt i (tripOf ((j 1).val / 512)) x0 x1 x2 x3).A0 (rowIx ((j 1).val % 256) (j 2).val (Nat.mod_lt _ (by decide)) (j 2).isLt)
  else
    k0_pay5 (endSt i (tripOf ((j 1).val / 512)) x0 x1 x2 x3).A1 (rowIx ((j 1).val % 256) (j 2).val (Nat.mod_lt _ (by decide)) (j 2).isLt)

theorem tripOut_apply (t1 : Fin k0_t1_loop.trips) (y : Vec F S1x1024x128 .bf16) (j : S1x1024x128.Idx) :
    tripOut i t1 x0 x1 x2 x3 y j = if (j 1).val / 512 = t1.val then outV i x0 x1 x2 x3 j else y j := by
  have h1 : (j 1).val < 1024 := (j 1).isLt
  have ht : t1.val < 2 := lt_of_lt_of_eq t1.isLt (by decide)
  unfold tripOut
  have e0 : k0_off5 t1 0#32 = ![0, t1.val * 512, 0] := off5_eq t1 0 (by decide)
  have e1 : k0_off5 t1 256#32 = ![0, t1.val * 512 + 256, 0] := off5_eq t1 1 (by decide)
  rw [e0, e1, put_rows, put_rows]
  by_cases h : (j 1).val / 512 = t1.val
  · have htr : tripOf ((j 1).val / 512) = t1 := Fin.ext (by show (j 1).val / 512 % 2 = t1.val; omega)
    rw [if_pos h]
    unfold outV
    rw [htr]
    by_cases hh : (j 1).val % 512 < 256
    · rw [dif_neg (by omega), dif_pos (by omega), if_pos hh]
      congr 2
      omega
    · rw [dif_pos (by omega), if_neg hh]
      congr 2
      omega
  · rw [if_neg h, dif_neg (by omega), dif_neg (by omega)]

/-- Two trips write the whole block, whatever it held. -/
theorem outTo_trips (y : Vec F S1x1024x128 .bf16) : outTo i x0 x1 x2 x3 y k0_t1_loop.trips = outV i x0 x1 x2 x3 := by
  have ht : k0_t1_loop.trips = 2 := by decide
  have hs : ∀ k (h : k < k0_t1_loop.trips), outTo i x0 x1 x2 x3 y (k + 1) = tripOut i ⟨k, h⟩ x0 x1 x2 x3 (outTo i x0 x1 x2 x3 y k) := fun k h => by
    rw [outTo, dif_pos h]
  have : outTo i x0 x1 x2 x3 y k0_t1_loop.trips = outTo i x0 x1 x2 x3 y (0 + 1 + 1) := congrArg _ ht
  rw [this, hs (0 + 1) (by rw [ht]; decide), hs 0 (by rw [ht]; decide)]
  funext j
  have h1 : (j 1).val < 1024 := (j 1).isLt
  rw [tripOut_apply, tripOut_apply]
  by_cases h : (j 1).val / 512 = 0 + 1
  · rw [if_pos h]
  · rw [if_neg h, if_pos (by show (j 1).val / 512 = 0; omega)]

end Out

section Body

variable (c : Dev nD) (i : grid0.Coords)
  (arg3 : Memref sig .tc .vmem S1x1024x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S256x256 .bf16) (harg6 : arg6.IsWhole)
  (arg7 : Memref sig .tc .vmem S1x1024x128 .bf16) (harg7 : arg7.IsWhole)
  (arg8 : Memref sig .tc .vmem S2x512x128 .f32) (harg8 : arg8.IsWhole) (arg9 : Memref sig .tc .vmem S2x512x128 .f32) (harg9 : arg9.IsWhole)
  (x0 : Vec F S1x1024x128 .bf16) (x1 x2 : Vec F S1x4096x128 .bf16) (x3 : Vec F S256x256 .bf16)

/-- The kernel's body, its output block the model's. -/
theorem body_sound (y : Vec F S1x1024x128 .bf16) (C A : Vec F S2x512x128 .f32) (Q : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare x3 ∗ owns (c : Thread nD τ) arg7 fullShare y
      ∗ owns (c : Thread nD τ) arg8 fullShare C ∗ owns (c : Thread nD τ) arg9 fullShare A
      ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (outV i x0 x1 x2 x3)
        ∗ (∃ C, owns (c : Thread nD τ) arg8 fullShare C) ∗ (∃ A, owns (c : Thread nD τ) arg9 fullShare A)) -∗ Q ⟨⟩))
      ⊢ wp frame (wpE (defs₀ (F := F)) 𝒱₀ (c : Thread nD τ) none) Set.univ
          (cc0_stickbreak_attn (F := F) i arg3 harg3 arg4 harg4 arg5 harg5 arg6 harg6 arg7 harg7 arg8 harg8 arg9 harg9) Q := by
  have h := kernel_sound c i arg3 harg3 arg4 harg4 arg5 harg5 arg6 harg6 arg7 harg7 arg8 harg8 arg9 harg9 x0 x1 x2 x3 y C A Q
  unfold loopInv at h
  rw [outTo_trips] at h
  exact h

end Body

/-! ## The launch -/

variable (m : (ℓ : Loc nD τ sig) → Buf (Elt F) ℓ) (ρ : Dev nD → PrngReg)

/-- The buffers as the pipeline finds them, after the host operations. -/
def V (c : Dev nD) (b : Ref sig .tc) : Buf (Elt F) ((c : Thread nD τ).loc b) := StableHlo.after hostOps0 (fun b => m (c, b)) b

/-- The block of window `w` at point `t`. -/
def iblk (c : Dev nD) (w : Fin (cfg0 (F := F)).W) (t : Fin (cfg0 (F := F)).N) : ((((cfg0 (F := F)).win w).xblock ((cfg0 (F := F)).grid.coords t)).Idx → Elt F ((cfg0 (F := F)).win w).elt) :=
  (((cfg0 (F := F)).win w).blk t).view.read (Elt F) (V m c (Pipeline.arrRef spec0 w))

/-- The output block of point `t`. -/
def oblk (c : Dev nD) (t : Fin (cfg0 (F := F)).N) : Vec F S1x1024x128 .bf16 :=
  outV (grid0.coords t) (iblk m c 0 t) (iblk m c 1 t) (iblk m c 2 t) (iblk m c 3 t)

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = oblk m c t := by dsimp only [dats]; rfl

theorem before0_0 (c : Dev nD) (t : Fin (cfg0 (F := F)).N) (d) : (dats m 0 c).before 0 t d = iblk m c 0 t :=
  (dats m 0 c).before_in_eq_fetched 0 rfl (fun _ => rfl) (fun _ _ _ => rfl) (fun t => by rw [after0_0]; rfl) t d
theorem before0_1 (c : Dev nD) (t : Fin (cfg0 (F := F)).N) (d) : (dats m 0 c).before 1 t d = iblk m c 1 t :=
  (dats m 0 c).before_in_eq_fetched 1 rfl (fun _ => rfl) (fun _ _ _ => rfl) (fun t => by rw [after0_1]; rfl) t d
theorem before0_2 (c : Dev nD) (t : Fin (cfg0 (F := F)).N) (d) : (dats m 0 c).before 2 t d = iblk m c 2 t :=
  (dats m 0 c).before_in_eq_fetched 2 rfl (fun _ => rfl) (fun _ _ _ => rfl) (fun t => by rw [after0_2]; rfl) t d
theorem before0_3 (c : Dev nD) (t : Fin (cfg0 (F := F)).N) (d) : (dats m 0 c).before 3 t d = iblk m c 3 t :=
  (dats m 0 c).before_in_eq_fetched 3 rfl (fun _ => rfl) (fun _ _ _ => rfl) (fun t => by rw [after0_3]; rfl) t d

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq, ← (Memref.isWhole_whole cc0_scratch0).exists_owns_eq (c := (c : Thread nD τ)) fullShare,
    ← (Memref.isWhole_whole cc0_scratch1).exists_owns_eq (c := (c : Thread nD τ)) fullShare]
  iintro ⟨⟨⟨⟨%C, HC⟩, ⟨%A, HA⟩⟩, Hr⟩, Ho, ⟨%d0, H0⟩, ⟨%d1, H1⟩, ⟨%d2, H2⟩, ⟨%d3, H3⟩, ⟨%d4, H4⟩⟩
  iapply (body_sound c (grid0.coords t) _ _ _ _ _ _ _ _ _ _ _ _ _ _ (iblk m c 0 t) (iblk m c 1 t) (iblk m c 2 t) (iblk m c 3 t) _ C A _)
  isplitl [H0]; · iexact H0
  isplitl [H1]; · iexact H1
  isplitl [H2]; · iexact H2
  isplitl [H3]; · iexact H3
  isplitl [H4]; · iexact H4
  isplitl [HC]; · iexact HC
  isplitl [HA]; · iexact HA
  iintro ⟨H0, H1, H2, H3, H4, HC, HA⟩
  isplitl [HC HA Hr]
  · isplitl [HC HA]
    · isplitl [HC]; · iexact HC
      iexact HA
    iexact Hr
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hostOps0_fresh : (hostOps0 (F := F)).Forall fun op => op.fresh = ∅ := by
  simp only [hostOps0, List.Forall]
  repeat' constructor

set_option backward.isDefEq.respectTransparency.types false in
/-- The run: every array of the pipeline ends at what the proof data gives, every other buffer as the pipeline found it,
    and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := Pipeline.hmain_prefix cfgs 0 defs₀ 𝒱₀ m main hostOps0 hostOps0_sub hostOps0_fresh main_chain)
    (hA := A_eq m) (hΦ := fun _ _ => rfl)

theorem V_arg0 (c : Dev nD) : V m c main_arg0 = m ((c.tc : Thread nD τ).loc main_arg0) := by
  unfold V
  exact StableHlo.after_unwritten [main_v0, main_v1, main_v2, main_v3, main_v4, main_v5, main_v6, main_v7, main_v8, main_cst, main_v9, main_cst_0, main_v10, main_cst_1, main_v11, main_v12, main_v13, main_v14, main_v15, main_v16] rfl (by decide) _

theorem arg0_rest : main_arg0 ∈ Pipeline.restRefs sig spec0 := by decide

/-- The frame: every execution terminates, the argument as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => ((h.1 c).2 main_arg0 arg0_rest).trans (V_arg0 m c), h.2⟩) (run_main m ρ)

end Cert.Proof.KI

end
-- ==== Proof.Sb.Math.lean ====
/-
  The arithmetic of stick-breaking attention over the extended reals: the softplus in base two against the softplus,
  and one query row's sums over the keys, taken block by block from the right.
-/
module

public import Idealize.ShloMosaic.PureOps.Ideal
public import Idealize.ShloMosaic.PureOps.Ideal.Laws
public import Mathlib.Algebra.BigOperators.Fin
public import Mathlib.Algebra.BigOperators.Intervals

@[expose] public section

noncomputable section

namespace Cert.Proof.Sb

open Idealize.ShloMosaic

/-- The reciprocal of the logarithm of two. -/
abbrev il2 : EReal := (((Real.log 2)⁻¹ : ℝ) : EReal)

/-- The softplus in base two. -/
def sp2 (z : EReal) : EReal := max z 0 + Ideal.log (1 + Ideal.exp2 (0 - max z (-z))) * il2

/-- The softplus. -/
def sp (z : EReal) : EReal := max z 0 + Ideal.log1p (Ideal.exp (-(max z (-z))))

theorem log2_pos : 0 < Real.log 2 := Real.log_pos (by norm_num)
theorem il2_pos : (0 : ℝ) < (Real.log 2)⁻¹ := inv_pos.mpr log2_pos

theorem rpow_scale (x : ℝ) : Real.rpow 2 ((Real.log 2)⁻¹ * x) = Real.exp x := by
  show (2 : ℝ) ^ ((Real.log 2)⁻¹ * x) = Real.exp x
  rw [Real.rpow_def_of_pos (by norm_num), ← mul_assoc, mul_inv_cancel₀ log2_pos.ne', one_mul]

theorem exp2_scale (x : EReal) : Ideal.exp2 (il2 * x) = Ideal.exp x := by
  induction x with
  | bot => rw [EReal.coe_mul_bot_of_pos il2_pos]; rfl
  | top => rw [EReal.coe_mul_top_of_pos il2_pos]; rfl
  | coe x =>
    rw [← EReal.coe_mul]
    show ((Real.rpow 2 ((Real.log 2)⁻¹ * x) : ℝ) : EReal) = ((Real.exp x : ℝ) : EReal)
    rw [rpow_scale]

theorem sp_coe (x : ℝ) : sp (x : EReal) = ((max x 0 + Real.log (1 + Real.exp (-|x|)) : ℝ) : EReal) := by
  have h1 : max (x : EReal) (-(x : EReal)) = ((|x| : ℝ) : EReal) := by
    rw [← EReal.coe_neg]; exact (EReal.coe_strictMono.monotone.map_max).symm
  have h2 : max (x : EReal) 0 = ((max x 0 : ℝ) : EReal) := (EReal.coe_strictMono.monotone.map_max).symm
  unfold sp Ideal.log1p
  rw [h1, h2, ← EReal.coe_neg]
  show _ + Ideal.log (1 + ((Real.exp (-|x|) : ℝ) : EReal)) = _
  rw [← EReal.coe_one, ← EReal.coe_add]
  show _ + (if 1 + Real.exp (-|x|) ≤ 0 then (⊥ : EReal) else ((Real.log (1 + Real.exp (-|x|)) : ℝ) : EReal)) = _
  rw [if_neg (by have := Real.exp_pos (-|x|); linarith), ← EReal.coe_add]

theorem sp2_coe (x : ℝ) : sp2 (((Real.log 2)⁻¹ * x : ℝ) : EReal) = il2 * sp (x : EReal) := by
  have hk := il2_pos
  set k := (Real.log 2)⁻¹ with hkd
  have h1 : max ((k * x : ℝ) : EReal) (-((k * x : ℝ) : EReal)) = ((k * |x| : ℝ) : EReal) := by
    rw [← EReal.coe_neg]
    refine (EReal.coe_strictMono.monotone.map_max).symm.trans ?_
    show ((|k * x| : ℝ) : EReal) = _
    rw [abs_mul, abs_of_pos hk]
  have h2 : max ((k * x : ℝ) : EReal) 0 = ((k * max x 0 : ℝ) : EReal) := by
    refine (EReal.coe_strictMono.monotone.map_max (a := k * x) (b := 0)).symm.trans ?_
    rw [mul_max_of_nonneg _ _ hk.le, mul_zero]
  rw [sp_coe]
  unfold sp2
  rw [h1, h2, ← EReal.coe_zero, ← EReal.coe_sub]
  show _ + Ideal.log (1 + ((Real.rpow 2 (0 - k * |x|) : ℝ) : EReal)) * ((k : ℝ) : EReal) = _
  have h3 : (0 - k * |x|) = k * (-|x|) := by ring
  rw [h3, rpow_scale, ← EReal.coe_one, ← EReal.coe_add]
  show _ + (if 1 + Real.exp (-|x|) ≤ 0 then (⊥ : EReal) else ((Real.log (1 + Real.exp (-|x|)) : ℝ) : EReal)) * ((k : ℝ) : EReal) = _
  rw [if_neg (by have := Real.exp_pos (-|x|); linarith), ← EReal.coe_mul, ← EReal.coe_add, ← EReal.coe_mul]
  congr 1
  ring

theorem log_one_ideal : Ideal.log 1 = 0 := by
  rw [← EReal.coe_one]
  show (if (1 : ℝ) ≤ 0 then (⊥ : EReal) else ((Real.log 1 : ℝ) : EReal)) = 0
  rw [if_neg (by norm_num), Real.log_one]; rfl

theorem sp_top : sp ⊤ = ⊤ := by
  unfold sp Ideal.log1p
  rw [EReal.neg_top, max_eq_left bot_le, max_eq_left le_top, EReal.neg_top]
  show _ + Ideal.log (1 + 0) = _
  rw [add_zero, log_one_ideal, add_zero]
theorem sp_bot : sp ⊥ = 0 := by
  unfold sp Ideal.log1p
  rw [EReal.neg_bot, max_eq_right bot_le, max_eq_right le_top, EReal.neg_top]
  show _ + Ideal.log (1 + 0) = _
  rw [add_zero, log_one_ideal, add_zero]
theorem sp2_top : sp2 ⊤ = ⊤ := by
  unfold sp2
  rw [EReal.neg_top, max_eq_left bot_le, max_eq_left le_top]
  show _ + Ideal.log (1 + 0) * _ = _
  rw [add_zero, log_one_ideal, zero_mul, add_zero]
theorem sp2_bot : sp2 ⊥ = 0 := by
  unfold sp2
  rw [EReal.neg_bot, max_eq_right bot_le, max_eq_right le_top]
  show _ + Ideal.log (1 + 0) * _ = _
  rw [add_zero, log_one_ideal, zero_mul, add_zero]

theorem sp2_scale (z : EReal) : sp2 (il2 * z) = il2 * sp z := by
  induction z with
  | bot => rw [EReal.coe_mul_bot_of_pos il2_pos, sp2_bot, sp_bot, mul_zero]
  | top => rw [EReal.coe_mul_top_of_pos il2_pos, sp2_top, sp_top, EReal.coe_mul_top_of_pos il2_pos]
  | coe x => rw [← EReal.coe_mul, sp2_coe]

theorem il2_mul_add (a b : EReal) : il2 * (a + b) = il2 * a + il2 * b :=
  EReal.left_distrib_of_nonneg_of_ne_top (by exact_mod_cast il2_pos.le) (EReal.coe_ne_top _) a b

theorem il2_mul_neg (a : EReal) : il2 * (-a) = -(il2 * a) := mul_neg _ _

theorem il2_mul_sum {ι : Type} (s : Finset ι) (f : ι → EReal) : il2 * ∑ i ∈ s, f i = ∑ i ∈ s, il2 * f i := by
  classical
  induction s using Finset.induction_on with
  | empty => simp
  | insert a s ha ih => rw [Finset.sum_insert ha, Finset.sum_insert ha, il2_mul_add, ih]

/-- The weight of one key, with the key's own term in the sum or taken out of it. -/
theorem weight_eq (z S : EReal) :
    Ideal.exp (z + (-sp z + S)) = Ideal.exp (-sp (-z) + ((-sp z + S) - (-sp z))) := by
  induction z with
  | bot =>
    rw [EReal.neg_bot, sp_top, EReal.neg_top, EReal.bot_add, EReal.bot_add]
  | top =>
    rw [EReal.neg_top, sp_top, sp_bot, EReal.neg_top, EReal.bot_add, EReal.add_bot, sub_eq_add_neg, EReal.neg_bot, EReal.bot_add, EReal.add_bot]
  | coe x =>
    have hn : sp (-(x : EReal)) = ((max (-x) 0 + Real.log (1 + Real.exp (-|x|)) : ℝ) : EReal) := by
      rw [← EReal.coe_neg, sp_coe, abs_neg]
    rw [hn, sp_coe]
    congr 1
    induction S with
    | bot => simp only [EReal.add_bot, sub_eq_add_neg, EReal.bot_add]
    | top =>
      have : ((x : EReal)) ≠ ⊥ := EReal.coe_ne_bot x
      rw [← EReal.coe_neg, ← EReal.coe_neg, EReal.coe_add_top, EReal.coe_add_top, sub_eq_add_neg, ← EReal.coe_neg, EReal.top_add_coe, EReal.coe_add_top]
    | coe S =>
      norm_cast
      have : max x 0 = x + max (-x) 0 := by
        rcases le_total x 0 with h | h
        · rw [max_eq_right h, max_eq_left (by linarith)]; ring
        · rw [max_eq_left h, max_eq_right (by linarith)]; ring
      rw [this]; ring

/-! ## One query row -/

section Row

variable (N t : ℕ) (z v : ℕ → EReal)

/-- A key's term in the running sums: minus its softplus, at the keys before the query. -/
def pP (u : ℕ) : EReal := if u < t then -sp2 (z u) else 0
/-- The sum of the terms from a key on. -/
def pT (u : ℕ) : EReal := ∑ a ∈ Finset.Ico u N, pP t z a
/-- A key's weight. -/
def pW (u : ℕ) : EReal := if u < t then Ideal.exp2 (z u + pT N t z u) else 0
/-- The weighted sum of the values from a key on. -/
def pA (u : ℕ) : EReal := ∑ a ∈ Finset.Ico u N, pW N t z a * v a

theorem pT_block (lo j : ℕ) (h : lo + 256 ≤ N) (hj : j < 256) :
    (∑ k : Fin 256, if j ≤ k.val then pP t z (lo + k.val) else 0) + pT N t z (lo + 256) = pT N t z (lo + j) := by
  unfold pT
  rw [← Finset.sum_Ico_consecutive _ (show lo + j ≤ lo + 256 by omega) h]
  congr 1
  rw [Finset.sum_fin_eq_sum_range, ← Finset.sum_filter_add_sum_filter_not (Finset.range 256) (fun k => j ≤ k)]
  rw [Finset.sum_eq_zero (s := Finset.filter (fun k => ¬ j ≤ k) _), add_zero]
  · rw [Finset.sum_Ico_eq_sum_range, show lo + 256 - (lo + j) = 256 - j by omega]
    have : Finset.filter (fun k => j ≤ k) (Finset.range 256) = Finset.Ico j 256 := by
      ext k; simp [Finset.mem_Ico]; omega
    rw [this, Finset.sum_Ico_eq_sum_range]
    refine Finset.sum_congr rfl fun k hk => ?_
    have hk := Finset.mem_range.mp hk
    rw [dif_pos (by omega), if_pos (by simp), add_assoc]
  · intro k hk
    have := (Finset.mem_filter.mp hk).2
    simp [this]

theorem pT_of_le (u : ℕ) (h : t ≤ u) : pT N t z u = 0 :=
  Finset.sum_eq_zero fun a ha => if_neg (by have := (Finset.mem_Ico.mp ha).1; omega)

theorem pA_of_le (u : ℕ) (h : t ≤ u) : pA N t z v u = 0 :=
  Finset.sum_eq_zero fun a ha => by
    rw [show pW N t z a = 0 from if_neg (by have := (Finset.mem_Ico.mp ha).1; omega), zero_mul]

theorem pA_block (lo : ℕ) (h : lo + 256 ≤ N) :
    pA N t z v (lo + 256) + (∑ j : Fin 256, pW N t z (lo + j.val) * v (lo + j.val)) = pA N t z v lo := by
  unfold pA
  rw [← Finset.sum_Ico_consecutive _ (show lo ≤ lo + 256 by omega) h, add_comm]
  congr 1
  rw [Finset.sum_fin_eq_sum_range, Finset.sum_Ico_eq_sum_range, show lo + 256 - lo = 256 by omega]
  exact Finset.sum_congr rfl fun k hk => dif_pos (Finset.mem_range.mp hk)

/-- Once the carry is `⊥` the keys further left carry no weight. -/
theorem pA_dead (lo : ℕ) (h : lo ≤ N) (hb : pT N t z lo = ⊥) : pA N t z v 0 = pA N t z v lo := by
  unfold pA
  rw [← Finset.sum_Ico_consecutive _ (Nat.zero_le lo) h, Finset.sum_eq_zero, zero_add]
  intro a ha
  have ha := (Finset.mem_Ico.mp ha).2
  have hT : pT N t z a = ⊥ := by
    unfold pT
    rw [← Finset.sum_Ico_consecutive _ ha.le h]
    unfold pT at hb
    rw [hb, EReal.add_bot]
  unfold pW
  rw [hT, EReal.add_bot]
  show (if a < t then (0 : EReal) else 0) * v a = 0
  rw [ite_self, zero_mul]

/-- A row's state over the keys from `lo` on, and its step over the block of 256 keys to the left. -/
theorem row_step (lo : ℕ) (h : lo + 256 ≤ N) (C A : EReal) (hC : C = pT N t z (lo + 256)) (hA : A = pA N t z v (lo + 256))
    (g tr : Fin 256 → EReal) (tri : Fin 256 → Fin 256 → EReal)
    (htri : ∀ k j, tri k j = if j.val ≤ k.val then -1 else 0)
    (hg : ∀ k : Fin 256, g k = if lo + k.val < t then sp2 (z (lo + k.val)) else 0) :
    C + (∑ k, g k * tri k 0) = pT N t z lo
      ∧ A + (∑ j : Fin 256, (if lo + j.val < t then Ideal.exp2 (z (lo + j.val) + (∑ k, g k * tri k j) + C) else 0) * v (lo + j.val))
        = pA N t z v lo := by
  have hsum : ∀ j : Fin 256, (∑ k, g k * tri k j) = ∑ k : Fin 256, if j.val ≤ k.val then pP t z (lo + k.val) else 0 := by
    intro j
    refine Finset.sum_congr rfl fun k _ => ?_
    rw [htri, hg]
    unfold pP
    by_cases h1 : j.val ≤ k.val
    · rw [if_pos h1, if_pos h1, mul_neg, mul_one]
      split
      · rfl
      · exact neg_zero
    · rw [if_neg h1, if_neg h1, mul_zero]
  refine ⟨?_, ?_⟩
  · rw [hsum, hC, add_comm]
    exact pT_block N t z lo 0 h (by omega)
  · rw [hA, ← pA_block N t z v lo h]
    congr 1
    refine Finset.sum_congr rfl fun j _ => ?_
    congr 1
    unfold pW
    rw [hsum, hC, add_assoc, pT_block N t z lo j.val h j.isLt]

/-- The whole row of the base-two sums is the row of the plain ones. -/
theorem pA_scale (zr : ℕ → EReal) (hz : ∀ u, z u = il2 * zr u) :
    pA N t z v 0 = ∑ u ∈ Finset.range N,
      (if u < t then Ideal.exp (-sp (-(zr u)) + ((∑ a ∈ Finset.Ico u N, if a < t then -sp (zr a) else 0) - (if u < t then -sp (zr u) else 0))) else 0) * v u := by
  unfold pA
  rw [← Finset.range_eq_Ico]
  refine Finset.sum_congr rfl fun u hu => ?_
  have hu := Finset.mem_range.mp hu
  congr 1
  unfold pW
  by_cases h : u < t
  · rw [if_pos h, if_pos h, if_pos h]
    have hT : pT N t z u = il2 * ∑ a ∈ Finset.Ico u N, if a < t then -sp (zr a) else 0 := by
      unfold pT
      rw [il2_mul_sum]
      refine Finset.sum_congr rfl fun a _ => ?_
      unfold pP
      rw [hz, sp2_scale]
      split
      · rw [il2_mul_neg]
      · rw [mul_zero]
    rw [hT, hz, ← il2_mul_add, exp2_scale, Finset.sum_eq_sum_Ico_succ_bot hu, if_pos h]
    exact weight_eq _ _
  · rw [if_neg h, if_neg h]

end Row

end Cert.Proof.Sb

end
-- ==== Proof.KI.Block.lean ====
/-
  One block of keys, read at an element over the extended reals.
-/
module

public import proofs.«01_k».proof.Proof.KI.Model
public import proofs.«01_k».proof.Proof.Sb.Math
public import Idealize.ShloMosaic.Lib.Pointwise
public import Idealize.ShloMosaic.PureOps.Ideal.Laws

@[expose] public section

noncomputable section

namespace Cert.Proof.KI

open Cert.KernelIdeal Cert.KernelIdeal.Gen
open Idealize.ShloMosaic
open Cert.Proof.Sb (il2 sp2)

/-- The products of the queries with a block of keys. -/
abbrev bZ (qm : FVec Ideal S512x128 .bf16) (kb : Vec Ideal S1x256x128 .bf16) : FVec Ideal S512x256 .f32 := k0_pay15 qm kb
/-- The block's own running sums of the masked softplus terms, negated. -/
abbrev bS (M : IVec S512x256 1) (qm : FVec Ideal S512x128 .bf16) (kb : Vec Ideal S1x256x128 .bf16) (tri : Vec Ideal S256x256 .bf16) :
    FVec Ideal S512x256 .f32 := k0_pay14 M (bZ qm kb) (k0_pay13 (F := Ideal)) tri
/-- The carry after a block. -/
def bC (M : IVec S512x256 1) (qm : FVec Ideal S512x128 .bf16) (kb : Vec Ideal S1x256x128 .bf16) (tri : Vec Ideal S256x256 .bf16)
    (C : Vec Ideal S1x512x128 .f32) : Vec Ideal S1x512x128 .f32 := k0_pay26 (bS M qm kb tri) C
/-- The accumulator after a block. -/
def bA (M : IVec S512x256 1) (qm : FVec Ideal S512x128 .bf16) (kb vb : Vec Ideal S1x256x128 .bf16) (tri : Vec Ideal S256x256 .bf16)
    (C A : Vec Ideal S1x512x128 .f32) : Vec Ideal S1x512x128 .f32 := k0_pay28 (k0_pay27 M (bZ qm kb) (bS M qm kb tri) C A vb)

theorem gAC_eq (q : Vec Ideal S1x512x128 .bf16) (kb : Vec Ideal S1x256x128 .bf16) (tri : Vec Ideal S256x256 .bf16) (C : Vec Ideal S1x512x128 .f32) :
    gAC q kb tri C = bC k0_pay2 (k0_pay9 k0_pay1 cz q) kb tri C := rfl
theorem gAA_eq (q : Vec Ideal S1x512x128 .bf16) (kb vb : Vec Ideal S1x256x128 .bf16) (tri : Vec Ideal S256x256 .bf16) (C A : Vec Ideal S1x512x128 .f32) :
    gAA q kb vb tri C A = bA k0_pay2 (k0_pay9 k0_pay1 cz q) kb vb tri C A := rfl
theorem gBC_eq (q : Vec Ideal S1x512x128 .bf16) (kb : Vec Ideal S1x256x128 .bf16) (tri : Vec Ideal S256x256 .bf16) (C : Vec Ideal S1x512x128 .f32) :
    gBC q kb tri C = bC k0_pay2 (k0_pay8 k0_pay1 cz q) kb tri C := rfl
theorem gBA_eq (q : Vec Ideal S1x512x128 .bf16) (kb vb : Vec Ideal S1x256x128 .bf16) (tri : Vec Ideal S256x256 .bf16) (C A : Vec Ideal S1x512x128 .f32) :
    gBA q kb vb tri C A = bA k0_pay2 (k0_pay8 k0_pay1 cz q) kb vb tri C A := rfl
theorem gCC_eq (q : Vec Ideal S1x512x128 .bf16) (kb : Vec Ideal S1x256x128 .bf16) (tri : Vec Ideal S256x256 .bf16) (C : Vec Ideal S1x512x128 .f32) :
    gCC q kb tri C = bC (fun _ => 1#1) (k0_pay9 k0_pay1 cz q) kb tri C := rfl
theorem gCA_eq (q : Vec Ideal S1x512x128 .bf16) (kb vb : Vec Ideal S1x256x128 .bf16) (tri : Vec Ideal S256x256 .bf16) (C A : Vec Ideal S1x512x128 .f32) :
    gCA q kb vb tri C A = bA (fun _ => 1#1) (k0_pay9 k0_pay1 cz q) kb vb tri C A := rfl
theorem gate_cases (g : BitVec 1) : g = 0#1 ∨ g = 1#1 := by revert g; decide
theorem gDC_eq (q : Vec Ideal S1x512x128 .bf16) (kb : Vec Ideal S1x256x128 .bf16) (tri : Vec Ideal S256x256 .bf16) (C : Vec Ideal S1x512x128 .f32) (g : BitVec 1) :
    gDC q kb tri C g = bC (fun _ => g) (k0_pay8 k0_pay1 cz q) kb tri C := by
  rcases gate_cases g with rfl | rfl <;> rfl
theorem gDA_eq (q : Vec Ideal S1x512x128 .bf16) (kb vb : Vec Ideal S1x256x128 .bf16) (tri : Vec Ideal S256x256 .bf16) (C A : Vec Ideal S1x512x128 .f32) (g : BitVec 1) :
    gDA q kb vb tri C A g = bA (fun _ => g) (k0_pay8 k0_pay1 cz q) kb vb tri C A := by
  rcases gate_cases g with rfl | rfl <;> rfl
theorem pay42_eq (qm : FVec Ideal S512x128 .bf16) (kb : Vec Ideal S1x256x128 .bf16) (tri : Vec Ideal S256x256 .bf16) (a n : BitVec 32) :
    k0_pay42 qm a n kb tri = k0_pay44 qm (Scalar.cmpi .slt (Scalar.addi 1#32 a) n) kb tri := rfl
theorem gEC_eq (q : Vec Ideal S1x512x128 .bf16) (kb : Vec Ideal S1x256x128 .bf16) (tri : Vec Ideal S256x256 .bf16) (C : Vec Ideal S1x512x128 .f32) (a n : BitVec 32) :
    gEC q kb tri C a n = bC (fun _ => Scalar.cmpi .slt (Scalar.addi 1#32 a) n) (k0_pay8 k0_pay1 cz q) kb tri C := by
  unfold gEC
  rw [pay42_eq]
  generalize Scalar.cmpi .slt (Scalar.addi 1#32 a) n = g
  rcases gate_cases g with rfl | rfl <;> rfl
theorem gEA_eq (q : Vec Ideal S1x512x128 .bf16) (kb vb : Vec Ideal S1x256x128 .bf16) (tri : Vec Ideal S256x256 .bf16) (C A : Vec Ideal S1x512x128 .f32) (a n : BitVec 32) :
    gEA q kb vb tri C A a n = bA (fun _ => Scalar.cmpi .slt (Scalar.addi 1#32 a) n) (k0_pay8 k0_pay1 cz q) kb vb tri C A := by
  unfold gEA
  rw [pay42_eq]
  generalize Scalar.cmpi .slt (Scalar.addi 1#32 a) n = g
  rcases gate_cases g with rfl | rfl <;> rfl
theorem gFC_eq (q : Vec Ideal S1x512x128 .bf16) (kb : Vec Ideal S1x256x128 .bf16) (tri : Vec Ideal S256x256 .bf16) (C : Vec Ideal S1x512x128 .f32) (g : BitVec 1) :
    gFC q kb tri C g = bC (fun _ => g) (k0_pay9 k0_pay1 cz q) kb tri C := by
  rcases gate_cases g with rfl | rfl <;> rfl
theorem gFA_eq (q : Vec Ideal S1x512x128 .bf16) (kb vb : Vec Ideal S1x256x128 .bf16) (tri : Vec Ideal S256x256 .bf16) (C A : Vec Ideal S1x512x128 .f32) (g : BitVec 1) :
    gFA q kb vb tri C A g = bA (fun _ => g) (k0_pay9 k0_pay1 cz q) kb vb tri C A := by
  rcases gate_cases g with rfl | rfl <;> rfl

theorem named_il2 : (Named.named κ "inv_ln2" 0x3FB8AA3B#32 : Ideal .f32) = il2 := rfl
theorem named_bot : (Named.named κ "underflow" 0xC3200000#32 : Ideal .f32) = (⊥ : EReal) := rfl

theorem select_mul (c : BitVec 1) (a b : EReal) : Scalar.select c (a * b) 0 = (if c = 1#1 then a else 0) * b := by
  show (if c = 1#1 then a * b else 0) = _
  split
  · rfl
  · rw [zero_mul]

theorem bZ_apply (qm : FVec Ideal S512x128 .bf16) (kb : Vec Ideal S1x256x128 .bf16) (r : Fin 512) (j : Fin 256) :
    bZ qm kb (ix2 r j) = ∑ d : Fin 128, qm (ix2 r d) * kb (ix3 0 j d) := by
  pointwise [k0_pay15]
theorem bS_apply (M : IVec S512x256 1) (qm : FVec Ideal S512x128 .bf16) (kb : Vec Ideal S1x256x128 .bf16) (tri : Vec Ideal S256x256 .bf16) (r : Fin 512) (j : Fin 256) :
    bS M qm kb tri (ix2 r j) = ∑ k : Fin 256, (if M (ix2 r k) = 1#1 then sp2 (bZ qm kb (ix2 r k)) else 0) * tri (ix2 k j) := by
  unfold bS
  generalize bZ qm kb = z
  pointwise [k0_pay14, k0_pay13]
  exact Finset.sum_congr rfl fun k _ => select_mul _ _ _
theorem bC_apply (M : IVec S512x256 1) (qm : FVec Ideal S512x128 .bf16) (kb : Vec Ideal S1x256x128 .bf16) (tri : Vec Ideal S256x256 .bf16)
    (C : Vec Ideal S1x512x128 .f32) (r : Fin 512) (l : Fin 128) :
    bC M qm kb tri C (ix3 0 r l) = C (ix3 0 r l) + bS M qm kb tri (ix2 r 0) := by
  unfold bC
  generalize bS M qm kb tri = z
  pointwise [k0_pay26, k0_pay25]
theorem bA_apply (M : IVec S512x256 1) (qm : FVec Ideal S512x128 .bf16) (kb vb : Vec Ideal S1x256x128 .bf16) (tri : Vec Ideal S256x256 .bf16)
    (C A : Vec Ideal S1x512x128 .f32) (hC : ∀ r l, C (ix3 0 r l) = C (ix3 0 r 0)) (r : Fin 512) (l : Fin 128) :
    bA M qm kb vb tri C A (ix3 0 r l) = A (ix3 0 r l) + ∑ j : Fin 256,
      (if M (ix2 r j) = 1#1 then Ideal.exp2 (bZ qm kb (ix2 r j) + bS M qm kb tri (ix2 r j) + C (ix3 0 r 0)) else 0) * vb (ix3 0 j l) := by
  unfold bA
  generalize bS M qm kb tri = s
  generalize bZ qm kb = z
  pointwise [k0_pay27, k0_pay28, k0_pay25]
  simp only [hC, select_mul]
  rw [Fin.sum_univ_two_halves 128 128 rfl (fun j : Fin 256 =>
    (if M (ix2 r j) = 1#1 then Ideal.exp2 (z (ix2 r j) + s (ix2 r j) + C (ix3 0 r 0)) else 0) * vb (ix3 0 j l))]
  rfl

end Cert.Proof.KI

end
-- ==== Proof.KI.Alive.lean ====
/-
  The early exit's test over the extended reals: when it fails every carry is the bottom element.
-/
module

public import proofs.«01_k».proof.Proof.KI.Block

@[expose] public section

noncomputable section

namespace Cert.Proof.KI

open Cert.KernelIdeal Cert.KernelIdeal.Gen
open Idealize.ShloMosaic

theorem fold_le {ι : Type} [DecidableEq ι] (s : Finset ι) (f : ι → EReal) (b : EReal) : ∀ i ∈ s, f i ≤ s.fold max b f := by
  intro i hi
  induction s using Finset.induction_on with
  | empty => exact absurd hi (Finset.notMem_empty i)
  | insert a s ha ih =>
    rw [Finset.fold_insert ha]
    rcases Finset.mem_insert.mp hi with rfl | h
    · exact le_max_left _ _
    · exact (ih h).trans (le_max_right _ _)

theorem mr_ge (Y : FVec Ideal S1x2x512x128 .f32) (acc : BitVec FTy.f32.bits) (h : S1x2x512x128.Reduces [1, 2, 3] S1) (hφ : FKind.Formats .f32)
    (hacc : acc = FKind.maximumf.neutral .f32 hφ) (k : S1x2x512x128.Idx) (o : S1.Idx) :
    (Y k : EReal) ≤ multiReduction .maximumf [1, 2, 3] S1 Y acc h hφ hacc o := by
  rw [multiReduction_maximumf_eq_fold]
  refine fold_le _ Y _ k (Finset.mem_filter.mpr ⟨Finset.mem_univ _, ?_⟩)
  funext a
  have ha : a = 0 := Fin.ext (Nat.lt_one_iff.mp a.isLt)
  subst ha
  have h1 : (h.drop k 0).val < 1 := (h.drop k 0).isLt
  have h2 : (o 0).val < 1 := (o 0).isLt
  exact Fin.ext (by omega)

theorem cast_surj (X : Vec Ideal S2x512x128 .f32) (j : S2x512x128.Idx) :
    ∃ k, shapeCast S1x2x512x128 X shapeCasts_S2x512x128_S1x2x512x128 k = X j := by
  obtain ⟨k, hk⟩ := (Shape.reshapeEquiv shapeCasts_S2x512x128_S1x2x512x128).surjective j
  exact ⟨k, congrArg X hk⟩

theorem pay6_ge (X : Vec Ideal S2x512x128 .f32) (j : S2x512x128.Idx) : (X j : EReal) ≤ k0_pay6 X := by
  obtain ⟨k, hk⟩ := cast_surj X j
  rw [← hk]
  unfold k0_pay6
  generalize shapeCast S1x2x512x128 X shapeCasts_S2x512x128_S1x2x512x128 = Y
  unfold extractAt shapeCast
  refine mr_ge Y _ _ _ _ k _

theorem pair_at0 (X Y : S1x512x128.Idx → EReal) (r : Fin 512) (l : Fin 128) : pair X Y (ix3 0 r l) = X (ix3 0 r l) := by
  unfold pair
  refine (if_pos rfl).trans (congrArg X (funext fun a => ?_))
  match a with
  | 0 => rfl
  | 1 => rfl
  | 2 => rfl
theorem pair_at1 (X Y : S1x512x128.Idx → EReal) (r : Fin 512) (l : Fin 128) : pair X Y (ix3 1 r l) = Y (ix3 0 r l) := by
  unfold pair
  refine (if_neg (fun h : (1 : ℕ) = 0 => Nat.one_ne_zero h)).trans (congrArg Y (funext fun a => ?_))
  match a with
  | 0 => rfl
  | 1 => rfl
  | 2 => rfl

theorem above_bot (m : Ideal .f32) (h : Scalar.cmpf .ogt m (Named.named κ "underflow" 0xC3200000#32 : Ideal .f32) ≠ 1#1) : (m : EReal) = ⊥ := by
  by_contra hne
  apply h
  rw [named_bot, Ideal.scalar_cmpf_def]
  unfold Ideal.cmp
  simp [bot_lt_iff_ne_bot, hne]

theorem dead_carry (s : St Ideal) (h : alive s ≠ 1#1) (r : Fin 512) (l : Fin 128) :
    (s.C0 (ix3 0 r l) : EReal) = ⊥ ∧ (s.C1 (ix3 0 r l) : EReal) = ⊥ := by
  have hb : (k0_pay6 (pair s.C0 s.C1) : EReal) = ⊥ := by
    unfold alive at h
    revert h
    generalize k0_pay6 (pair s.C0 s.C1) = m
    intro h
    exact above_bot m h
  have hle := fun j => le_of_le_of_eq (pay6_ge (pair s.C0 s.C1) j) hb
  exact ⟨le_bot_iff.mp (le_of_eq_of_le (pair_at0 s.C0 s.C1 r l).symm (hle (ix3 0 r l))),
    le_bot_iff.mp (le_of_eq_of_le (pair_at1 s.C0 s.C1 r l).symm (hle (ix3 1 r l)))⟩

end Cert.Proof.KI

end
-- ==== Proof.KI.Rows.lean ====
/-
  One trip over the extended reals: after each block every row's carry and accumulator are the row's sums over the keys
  taken so far; after the trip the accumulator is the row's sum over all keys.
-/
module

public import proofs.«01_k».proof.Proof.KI.Alive

@[expose] public section

noncomputable section

namespace Cert.Proof.KI

open Cert.KernelIdeal Cert.KernelIdeal.Gen
open Idealize.ShloMosaic
open Cert.Proof.Sb (il2 sp2 pP pT pW pA)

/-- A row's product with a key (zero past the keys there are). -/
def kz (qm : FVec Ideal S512x128 .bf16) (x1 : Vec Ideal S1x4096x128 .bf16) (r : Fin 512) (u : ℕ) : EReal :=
  if h : u < 4096 then ∑ d : Fin 128, qm (ix2 r d) * x1 (ix3 0 ⟨u, h⟩ d) else 0
/-- A lane of the values. -/
def vv (x2 : Vec Ideal S1x4096x128 .bf16) (l : Fin 128) (u : ℕ) : EReal := if h : u < 4096 then x2 (ix3 0 ⟨u, h⟩ l) else 0

/-- The query a row of row block `R` belongs to. -/
abbrev rowT (R : ℕ) (r : Fin 512) : ℕ := R * 256 + r.val % 256

/-- Every row's carry and accumulator are its sums over the keys from `lo` on. -/
def Upto (qm : FVec Ideal S512x128 .bf16) (x1 x2 : Vec Ideal S1x4096x128 .bf16) (R lo : ℕ) (C A : Vec Ideal S1x512x128 .f32) : Prop :=
  ∀ (r : Fin 512) (l : Fin 128), C (ix3 0 r l) = pT 4096 (rowT R r) (kz qm x1 r) lo
    ∧ A (ix3 0 r l) = pA 4096 (rowT R r) (kz qm x1 r) (vv x2 l) lo

/-- The triangle of minus ones. -/
def TriOK (x3 : Vec Ideal S256x256 .bf16) : Prop := ∀ k j : Fin 256, (x3 (ix2 k j) : EReal) = if j.val ≤ k.val then -1 else 0

/-- A block of the keys. -/
def IsBlk (x : Vec Ideal S1x4096x128 .bf16) (B : ℕ) (hB : B < 16) (kb : Vec Ideal S1x256x128 .bf16) : Prop :=
  ∀ (j : Fin 256) (d : Fin 128), kb (ix3 0 j d) = x (ix3 0 ⟨B * 256 + j.val, by have := j.isLt; omega⟩ d)

theorem isBlk_window (x : Vec Ideal S1x4096x128 .bf16) (B : ℕ) (hB : B < 16) (o : Fin 3 → ℕ) (ho : o = ![0, B * 256, 0])
    (inb : ∀ a, o a + S1x256x128.size a ≤ S1x4096x128.size a) : IsBlk x B hB (VecWindow.window x o S1x256x128.size inb) := by
  subst ho
  intro j d
  unfold VecWindow.window
  congr 1
  funext a
  fin_cases a
  · rfl
  · exact Fin.ext (by show B * 256 + 1 * j.val = B * 256 + j.val; omega)
  · exact Fin.ext (by show 0 + 1 * d.val = d.val; omega)

section

variable (qm : FVec Ideal S512x128 .bf16) (x1 x2 : Vec Ideal S1x4096x128 .bf16) (x3 : Vec Ideal S256x256 .bf16) (h3 : TriOK x3)

include h3 in
theorem upto_block (R B : ℕ) (hB : B < 16) (M : IVec S512x256 1) (kb vb : Vec Ideal S1x256x128 .bf16) (hk : IsBlk x1 B hB kb) (hv : IsBlk x2 B hB vb)
    (hM : ∀ (r : Fin 512) (j : Fin 256), M (ix2 r j) = 1#1 ↔ B * 256 + j.val < rowT R r)
    (C A : Vec Ideal S1x512x128 .f32) (h : Upto qm x1 x2 R ((B + 1) * 256) C A) :
    Upto qm x1 x2 R (B * 256) (bC M qm kb x3 C) (bA M qm kb vb x3 C A) := by
  intro r l
  have hlo : (B + 1) * 256 = B * 256 + 256 := by omega
  rw [hlo] at h
  have hz : ∀ k : Fin 256, bZ qm kb (ix2 r k) = kz qm x1 r (B * 256 + k.val) := fun k => by
    have hk4 : B * 256 + k.val < 4096 := by have := k.isLt; omega
    rw [bZ_apply]
    unfold kz
    rw [dif_pos hk4]
    exact Finset.sum_congr rfl fun d _ => by rw [hk k d]
  have hvv : ∀ k : Fin 256, vb (ix3 0 k l) = vv x2 l (B * 256 + k.val) := fun k => by
    have hk4 : B * 256 + k.val < 4096 := by have := k.isLt; omega
    unfold vv
    rw [dif_pos hk4, hv k l]
  have hC : ∀ r l, C (ix3 0 r l) = C (ix3 0 r 0) := fun r l => (h r l).1.trans (h r 0).1.symm
  have key := Cert.Proof.Sb.row_step 4096 (rowT R r) (kz qm x1 r) (vv x2 l) (B * 256) (by omega) _ _ (h r 0).1 (h r l).2
    (fun k => if M (ix2 r k) = 1#1 then sp2 (bZ qm kb (ix2 r k)) else 0) (fun _ => 0) (fun k j => x3 (ix2 k j)) h3 (fun k => by
      show (if M (ix2 r k) = 1#1 then sp2 (bZ qm kb (ix2 r k)) else 0) = _
      rw [hz]
      by_cases hh : B * 256 + k.val < rowT R r
      · rw [if_pos hh, if_pos ((hM r k).mpr hh)]
      · rw [if_neg hh, if_neg (fun h => hh ((hM r k).mp h))])
  rw [bC_apply, bA_apply M qm kb vb x3 C A hC]
  refine ⟨?_, ?_⟩
  · rw [hC r l, bS_apply]
    exact key.1
  · rw [← key.2]
    congr 1
    refine Finset.sum_congr rfl fun j _ => ?_
    rw [bS_apply, hz j, hvv]
    congr 1
    by_cases hh : B * 256 + j.val < rowT R r
    · rw [if_pos hh, if_pos ((hM r j).mpr hh)]
    · rw [if_neg hh, if_neg (fun h => hh ((hM r j).mp h))]

/-- A block that the gate shuts out changes nothing. -/
theorem upto_shut (R lo : ℕ) (kb vb : Vec Ideal S1x256x128 .bf16) (C A : Vec Ideal S1x512x128 .f32) (h : Upto qm x1 x2 R lo C A) :
    Upto qm x1 x2 R lo (bC (fun _ => 0#1) qm kb x3 C) (bA (fun _ => 0#1) qm kb vb x3 C A) := by
  intro r l
  have hC : ∀ r l, C (ix3 0 r l) = C (ix3 0 r 0) := fun r l => (h r l).1.trans (h r 0).1.symm
  rw [bC_apply, bA_apply _ qm kb vb x3 C A hC, bS_apply]
  have h01 : ¬ ((0#1 : BitVec 1) = 1#1) := by decide
  simp only [if_neg h01, zero_mul, Finset.sum_const_zero, add_zero]
  exact h r l

include h3 in
/-- A gated block off the diagonal. -/
theorem upto_gate (R B lo : ℕ) (hB : B < 16) (g : BitVec 1) (p : Prop) [Decidable p] (hg : g = if p then 1#1 else 0#1)
    (kb vb : Vec Ideal S1x256x128 .bf16) (hk : IsBlk x1 B hB kb) (hv : IsBlk x2 B hB vb)
    (h1 : p → B < R ∧ lo = (B + 1) * 256) (h0 : ¬p → lo = B * 256)
    (C A : Vec Ideal S1x512x128 .f32) (h : Upto qm x1 x2 R lo C A) :
    Upto qm x1 x2 R (B * 256) (bC (fun _ => g) qm kb x3 C) (bA (fun _ => g) qm kb vb x3 C A) := by
  by_cases hp : p
  · obtain ⟨hBR, rfl⟩ := h1 hp
    rw [hg, if_pos hp]
    exact upto_block qm x1 x2 x3 h3 R B hB _ kb vb hk hv (fun r j => by
      have := j.isLt
      unfold rowT
      refine ⟨fun _ => by omega, fun _ => rfl⟩) C A h
  · rw [hg, if_neg hp, ← h0 hp]
    exact upto_shut qm x1 x2 x3 R lo kb vb C A h

/-- Before any block. -/
theorem upto_start (R : ℕ) (C A : Vec Ideal S1x512x128 .f32) (hC : ∀ r l, C (ix3 0 r l) = (0 : EReal)) (hA : ∀ r l, A (ix3 0 r l) = (0 : EReal)) :
    Upto qm x1 x2 R ((R + 1) * 256) C A := fun r l =>
  ⟨(hC r l).trans (Cert.Proof.Sb.pT_of_le _ _ _ _ (by unfold rowT; omega)).symm,
    (hA r l).trans (Cert.Proof.Sb.pA_of_le _ _ _ _ _ (by unfold rowT; omega)).symm⟩

end

theorem pay2_word : ∀ j < 256, ∀ m < 256, Scalar.cmpi .slt (BitVec.ofNat 32 j) (BitVec.ofNat 32 m) = 1#1 ↔ j < m := by
  intro j hj m hm
  have hj' : (BitVec.ofNat 32 j).toInt = j := by
    rw [BitVec.toInt_eq_toNat_of_lt (by rw [BitVec.toNat_ofNat]; omega), BitVec.toNat_ofNat]; omega
  have hm' : (BitVec.ofNat 32 m).toInt = m := by
    rw [BitVec.toInt_eq_toNat_of_lt (by rw [BitVec.toNat_ofNat]; omega), BitVec.toNat_ofNat]; omega
  show BitVec.ofBool ((BitVec.ofNat 32 j).slt (BitVec.ofNat 32 m)) = 1#1 ↔ _
  rw [BitVec.slt_eq_decide, hj', hm']
  by_cases h : j < m
  · simp [h]
  · simp [h]

theorem and255 (r : ℕ) (hr : r < 512) : Scalar.andi (BitVec.ofNat 32 r) 255#32 = BitVec.ofNat 32 (r % 256) := by
  apply BitVec.eq_of_toNat_eq
  show (BitVec.ofNat 32 r &&& 255#32).toNat = _
  rw [BitVec.toNat_and, BitVec.toNat_ofNat, BitVec.toNat_ofNat, BitVec.toNat_ofNat]
  have h1 : r % 2 ^ 32 = r := Nat.mod_eq_of_lt (by omega)
  have h2 : r % 256 % 2 ^ 32 = r % 256 := Nat.mod_eq_of_lt (by omega)
  rw [h1, h2]
  exact Nat.and_two_pow_sub_one_eq_mod r 8

theorem pay2_iff (r : Fin 512) (j : Fin 256) : k0_pay2 (ix2 r j) = 1#1 ↔ j.val < r.val % 256 := by
  have : k0_pay2 (ix2 r j) = Scalar.cmpi .slt (BitVec.ofNat 32 j.val) (Scalar.andi (BitVec.ofNat 32 r.val) 255#32) := by
    unfold k0_pay2
    pointwise
    rfl
  rw [this, and255 _ r.isLt]
  exact pay2_word _ j.isLt _ (Nat.mod_lt _ (by decide))

end Cert.Proof.KI

end
-- ==== Proof.KI.Ends.lean ====
/-
  A whole trip over the extended reals: the accumulators it ends with are the rows' sums over all keys.
-/
module

public import proofs.«01_k».proof.Proof.KI.Rows

@[expose] public section

noncomputable section

namespace Cert.Proof.KI

open Cert.KernelIdeal Cert.KernelIdeal.Gen
open Idealize.ShloMosaic
open Cert.Proof.Sb (pT pW pA)

theorem sgt_word : ∀ n < 16, Scalar.cmpi .sgt (BitVec.ofNat 32 n) 0#32 = if 0 < n then 1#1 else 0#1 := by decide
theorem slt1_word : ∀ n < 16, ∀ t < 16, Scalar.cmpi .slt (Scalar.addi 1#32 (BitVec.ofNat 32 t)) (BitVec.ofNat 32 n) = if 1 + t < n then 1#1 else 0#1 := by decide
theorem slt0_word : ∀ n < 16, ∀ t < 16, Scalar.cmpi .slt (Scalar.addi 0#32 (BitVec.ofNat 32 t)) (BitVec.ofNat 32 n) = if t < n then 1#1 else 0#1 := by decide

section

variable (i : grid0.Coords) (t1 : Fin k0_t1_loop.trips)
  (x0 : Vec Ideal S1x1024x128 .bf16) (x1 x2 : Vec Ideal S1x4096x128 .bf16) (x3 : Vec Ideal S256x256 .bf16) (h3 : TriOK x3)

/-- The first row block's queries, each head's lanes by themselves. -/
abbrev q8 : FVec Ideal S512x128 .bf16 := k0_pay8 k0_pay1 cz (qB t1 x0)
/-- The second row block's. -/
abbrev q9 : FVec Ideal S512x128 .bf16 := k0_pay9 k0_pay1 cz (qB t1 x0)

theorem kvm_blk (x : Vec Ideal S1x4096x128 .bf16) : IsBlk x (np i t1 - 1) (by have := np_lt i t1; omega) (kvm i t1 x) :=
  isBlk_window x _ _ _ (off3_eq i t1) _
theorem kv0_blk (x : Vec Ideal S1x4096x128 .bf16) : IsBlk x (np i t1) (np_lt i t1) (kv0 i t1 x) :=
  isBlk_window x _ _ _ (off2_eq i t1 0 (by decide)) _
theorem np_even (i : grid0.Coords) (t1 : Fin k0_t1_loop.trips) : np i t1 + 1 < 16 := by
  have := np_lt i t1
  unfold np at *
  omega
theorem kv1_blk (x : Vec Ideal S1x4096x128 .bf16) : IsBlk x (np i t1 + 1) (np_even i t1) (kv1 i t1 x) :=
  isBlk_window x _ _ _ (off2_eq i t1 1 (by decide)) _
theorem kw1_blk (x : Vec Ideal S1x4096x128 .bf16) (t : ℕ) (ht : t < 16) (h) :
    IsBlk x (np i t1 - 1 - (1 + t)) (by have := np_lt i t1; omega) (kw1 i t1 x (BitVec.ofNat 32 t) h) :=
  isBlk_window x _ _ _ (off4_eq i t1 1 (by decide) t ht) _
theorem kw0_blk (x : Vec Ideal S1x4096x128 .bf16) (t : ℕ) (ht : t < 16) (h) :
    IsBlk x (np i t1 - 1 - (0 + t)) (by have := np_lt i t1; omega) (kw0 i t1 x (BitVec.ofNat 32 t) h) :=
  isBlk_window x _ _ _ (off4_eq i t1 0 (by decide) t ht) _

theorem fill_zero (j : S2x512x128.Idx) : (k0_pay10 (F := Ideal) j : EReal) = 0 := by
  pointwise [k0_pay10]
theorem fill_zero' (j : S2x512x128.Idx) : (k0_pay11 (F := Ideal) j : EReal) = 0 := by
  pointwise [k0_pay11]

theorem zC_zero (r : Fin 512) (l : Fin 128) : (zC (F := Ideal) (ix3 0 r l) : EReal) = 0 := by
  unfold zC VecWindow.window
  exact fill_zero _
theorem zC1_zero (r : Fin 512) (l : Fin 128) : (zC1 (F := Ideal) (ix3 0 r l) : EReal) = 0 := by
  unfold zC1 VecWindow.window
  exact fill_zero _
theorem zA_zero (r : Fin 512) (l : Fin 128) : (zA (F := Ideal) (ix3 0 r l) : EReal) = 0 := by
  unfold zA VecWindow.window
  exact fill_zero' _
theorem zA1_zero (r : Fin 512) (l : Fin 128) : (zA1 (F := Ideal) (ix3 0 r l) : EReal) = 0 := by
  unfold zA1 VecWindow.window
  exact fill_zero' _

include h3 in
theorem upto_diag (qm : FVec Ideal S512x128 .bf16) (R : ℕ) (hR : R < 16) (kb vb : Vec Ideal S1x256x128 .bf16) (hk : IsBlk x1 R hR kb) (hv : IsBlk x2 R hR vb)
    (C A : Vec Ideal S1x512x128 .f32) (hC : ∀ r l, C (ix3 0 r l) = (0 : EReal)) (hA : ∀ r l, A (ix3 0 r l) = (0 : EReal)) :
    Upto qm x1 x2 R (R * 256) (bC k0_pay2 qm kb x3 C) (bA k0_pay2 qm kb vb x3 C A) :=
  upto_block qm x1 x2 x3 h3 R R hR _ kb vb hk hv (fun r j => by
    rw [pay2_iff]
    unfold rowT
    omega) C A (upto_start qm x1 x2 R C A hC hA)

/-- What holds at the while loop's counter `t`. -/
def At (t : ℕ) (s : St Ideal) : Prop :=
  Upto (q8 t1 x0) x1 x2 (np i t1) ((np i t1 - 1 - t) * 256) s.C0 s.A0
    ∧ Upto (q9 t1 x0) x1 x2 (np i t1 + 1) ((np i t1 - t) * 256) s.C1 s.A1

include h3 in
theorem head_at : At i t1 x0 x1 x2 0 (headSt i t1 x0 x1 x2 x3) := by
  have hn := np_even i t1
  refine ⟨?_, ?_⟩
  · show Upto _ x1 x2 (np i t1) ((np i t1 - 1) * 256) (gDC _ _ x3 (gBC _ _ x3 zC) _) (gDA _ _ _ x3 (gBC _ _ x3 zC) (gBA _ _ _ x3 zC zA) _)
    rw [gBC_eq, gBA_eq, gDC_eq, gDA_eq, npw_eq]
    exact upto_gate _ x1 x2 x3 h3 (np i t1) (np i t1 - 1) (np i t1 * 256) (by omega) _ _ (sgt_word _ (np_lt i t1)) _ _ (kvm_blk i t1 x1) (kvm_blk i t1 x2)
      (fun h => ⟨by omega, by congr 1; omega⟩) (fun h => by congr 1; omega) _ _
      (upto_diag x1 x2 x3 h3 _ (np i t1) (np_lt i t1) _ _ (kv0_blk i t1 x1) (kv0_blk i t1 x2) _ _ zC_zero zA_zero)
  · show Upto _ x1 x2 (np i t1 + 1) (np i t1 * 256) (gCC _ _ x3 (gAC _ _ x3 zC1)) (gCA _ _ _ x3 (gAC _ _ x3 zC1) (gAA _ _ _ x3 zC1 zA1))
    rw [gAC_eq, gAA_eq, gCC_eq, gCA_eq]
    exact upto_gate _ x1 x2 x3 h3 (np i t1 + 1) (np i t1) ((np i t1 + 1) * 256) (np_lt i t1) _ True (if_pos trivial).symm _ _ (kv0_blk i t1 x1) (kv0_blk i t1 x2)
      (fun _ => ⟨by omega, rfl⟩) (fun h => absurd trivial h) _ _
      (upto_diag x1 x2 x3 h3 _ (np i t1 + 1) hn _ _ (kv1_blk i t1 x1) (kv1_blk i t1 x2) _ _ zC1_zero zA1_zero)

include h3 in
theorem step_at (t : ℕ) (ht : t < np i t1) (h) (s : St Ideal) (hs : At i t1 x0 x1 x2 t s) :
    At i t1 x0 x1 x2 (t + 1) (wStep i t1 x0 x1 x2 x3 (BitVec.ofNat 32 t) h s) := by
  have hn := np_even i t1
  have e1 : np i t1 - 1 - (t + 1) = np i t1 - 1 - (1 + t) := by omega
  have e0 : np i t1 - (t + 1) = np i t1 - 1 - (0 + t) := by omega
  unfold At
  rw [e1, e0]
  refine ⟨?_, ?_⟩
  · show Upto _ x1 x2 (np i t1) _ (gEC _ _ x3 s.C0 _ _) (gEA _ _ _ x3 s.C0 s.A0 _ _)
    rw [gEC_eq, gEA_eq, npw_eq]
    exact upto_gate _ x1 x2 x3 h3 (np i t1) (np i t1 - 1 - (1 + t)) ((np i t1 - 1 - t) * 256) (by omega) _ _ (slt1_word _ (np_lt i t1) t (by omega)) _ _
      (kw1_blk i t1 x1 t (by omega) h) (kw1_blk i t1 x2 t (by omega) h)
      (fun h => ⟨by omega, by congr 1; omega⟩) (fun h => by congr 1; omega) _ _ hs.1
  · show Upto _ x1 x2 (np i t1 + 1) _ (gFC _ _ x3 s.C1 _) (gFA _ _ _ x3 s.C1 s.A1 _)
    rw [gFC_eq, gFA_eq, npw_eq]
    exact upto_gate _ x1 x2 x3 h3 (np i t1 + 1) (np i t1 - 1 - (0 + t)) ((np i t1 - t) * 256) (by omega) _ _ (slt0_word _ (np_lt i t1) t (by omega)) _ _
      (kw0_blk i t1 x1 t (by omega) h) (kw0_blk i t1 x2 t (by omega) h)
      (fun h => ⟨by omega, by congr 1; omega⟩) (fun h => by omega) _ _ hs.2

/-- The accumulators are the rows' sums over all keys. -/
def Done (s : St Ideal) : Prop :=
  ∀ (r : Fin 512) (l : Fin 128), s.A0 (ix3 0 r l) = pA 4096 (rowT (np i t1) r) (kz (q8 t1 x0) x1 r) (vv x2 l) 0
    ∧ s.A1 (ix3 0 r l) = pA 4096 (rowT (np i t1 + 1) r) (kz (q9 t1 x0) x1 r) (vv x2 l) 0

theorem done_of_dead (t : ℕ) (s : St Ideal) (hs : At i t1 x0 x1 x2 t s) (hd : alive s ≠ 1#1) : Done i t1 x0 x1 x2 s := fun r l => by
  have hn := np_even i t1
  obtain ⟨d0, d1⟩ := dead_carry s hd r l
  have h0 := hs.1 r l
  have h1 := hs.2 r l
  refine ⟨h0.2.trans ?_, h1.2.trans ?_⟩
  · exact (Cert.Proof.Sb.pA_dead _ _ _ _ _ (by omega) (h0.1.symm.trans d0)).symm
  · exact (Cert.Proof.Sb.pA_dead _ _ _ _ _ (by omega) (h1.1.symm.trans d1)).symm

theorem done_of_end (s : St Ideal) (hs : At i t1 x0 x1 x2 (np i t1) s) : Done i t1 x0 x1 x2 s := fun r l => by
  have h0 := (hs.1 r l).2
  have h1 := (hs.2 r l).2
  rw [show (np i t1 - 1 - np i t1) * 256 = 0 by omega] at h0
  rw [show (np i t1 - np i t1) * 256 = 0 by omega] at h1
  exact ⟨h0, h1⟩

include h3 in
theorem wFrom_done : ∀ (n t : ℕ) (s : St Ideal), n + t = np i t1 → At i t1 x0 x1 x2 t s → Done i t1 x0 x1 x2 (wFrom i t1 x0 x1 x2 x3 n t s)
  | 0, t, s, hnt, hs => by
    obtain rfl : t = np i t1 := by omega
    exact done_of_end i t1 x0 x1 x2 s hs
  | n + 1, t, s, hnt, hs => by
    have ht : t < np i t1 := by omega
    unfold wFrom
    by_cases ha : alive s = 1#1
    · rw [if_pos ha, dif_pos (chk_of i t1 t ht)]
      exact wFrom_done n (t + 1) _ (by omega) (step_at i t1 x0 x1 x2 x3 h3 t ht _ s hs)
    · rw [if_neg ha]
      exact done_of_dead i t1 x0 x1 x2 t s hs ha

include h3 in
/-- What a trip ends with. -/
theorem endSt_done : Done i t1 x0 x1 x2 (endSt i t1 x0 x1 x2 x3) :=
  wFrom_done i t1 x0 x1 x2 x3 h3 (np i t1) 0 _ (by omega) (head_at i t1 x0 x1 x2 x3 h3)

end

end Cert.Proof.KI

end
-- ==== Proof.KI.Out.lean ====
/-
  A grid point's output block over the extended reals: each row and lane is the row's weighted sum of that lane of the
  values, the row's logits being over the lanes of its own head.
-/
module

public import proofs.«01_k».proof.Proof.KI.Ends
public import proofs.«01_k».proof.Proof.KI.Run

@[expose] public section

noncomputable section

namespace Cert.Proof.KI

open Cert.KernelIdeal Cert.KernelIdeal.Gen
open Idealize.ShloMosaic
open Cert.Proof.Sb (pA)

theorem lane_word : ∀ l < 128, Scalar.cmpi .slt (BitVec.ofNat 32 l) 64#32 = if l < 64 then 1#1 else 0#1 := by decide

theorem pay1_iff (r : Fin 256) (l : Fin 128) : k0_pay1 (ix2 r l) = if l.val < 64 then 1#1 else 0#1 := by
  rw [← lane_word l.val l.isLt]
  pointwise [k0_pay1]
  rfl

/-- A row of the trip's output block: the first head's rows give the first 64 lanes, the second head's the others. -/
theorem pay4_at (A : Vec Ideal S1x512x128 .f32) (r : Fin 256) (l : Fin 128) :
    (k0_pay4 A (ix3 0 r l) : EReal) = A (ix3 0 ⟨l.val / 64 * 256 + r.val, by have := r.isLt; have := l.isLt; omega⟩ l) := by
  have hl := l.isLt
  pointwise [k0_pay4]
  rw [pay1_iff]
  by_cases h : l.val < 64
  · rw [if_pos h]
    refine (if_pos rfl).trans (congrArg A ?_)
    congr 1
    exact Fin.ext (by show r.val = l.val / 64 * 256 + r.val; omega)
  · rw [if_neg h]
    refine (if_neg (by decide)).trans (congrArg A ?_)
    congr 1
    exact Fin.ext (by show 256 + r.val = l.val / 64 * 256 + r.val; omega)

theorem pay5_at (A : Vec Ideal S1x512x128 .f32) (r : Fin 256) (l : Fin 128) :
    (k0_pay5 A (ix3 0 r l) : EReal) = A (ix3 0 ⟨l.val / 64 * 256 + r.val, by have := r.isLt; have := l.isLt; omega⟩ l) :=
  pay4_at A r l

theorem pick_lo (d : Fin 128) (a : EReal) (w : BitVec 1) (hw : w = if d.val < 64 then 1#1 else 0#1) : Scalar.select w a 0 = if d.val / 64 = 0 then a else 0 := by
  subst hw
  have hd := d.isLt
  by_cases h : d.val < 64
  · rw [if_pos h, if_pos (by omega)]
    exact if_pos rfl
  · rw [if_neg h, if_neg (by omega)]
    exact if_neg (by decide)

theorem pick_hi (d : Fin 128) (a : EReal) (w : BitVec 1) (hw : w = if d.val < 64 then 1#1 else 0#1) : Scalar.select w 0 a = if d.val / 64 = 1 then a else 0 := by
  subst hw
  have hd := d.isLt
  by_cases h : d.val < 64
  · rw [if_pos h, if_neg (by omega)]
    exact if_pos rfl
  · rw [if_neg h, if_pos (by omega)]
    exact if_neg (by decide)

/-- The queries of the trip's first row block, the other head's lanes zero. -/
theorem pay8_at (x : Vec Ideal S1x512x128 .bf16) (r : Fin 512) (d : Fin 128) :
    (k0_pay8 k0_pay1 cz x (ix2 r d) : EReal) = if d.val / 64 = r.val / 256 then x (ix3 0 ⟨r.val % 256, by have := r.isLt; omega⟩ d) else 0 := by
  have hr := r.isLt
  pointwise [k0_pay8, k0_pay7]
  by_cases h : r.val < 256
  · rw [dif_pos h, show r.val / 256 = 0 by omega]
    refine (pick_lo d _ _ (pay1_iff _ d)).trans ?_
    congr 3
    exact Fin.ext (by show r.val = r.val % 256; omega)
  · rw [dif_neg h, show r.val / 256 = 1 by omega]
    refine (pick_hi d _ _ (pay1_iff _ d)).trans ?_
    congr 3
    exact Fin.ext (by show r.val - 256 = r.val % 256; omega)

/-- The second row block's. -/
theorem pay9_at (x : Vec Ideal S1x512x128 .bf16) (r : Fin 512) (d : Fin 128) :
    (k0_pay9 k0_pay1 cz x (ix2 r d) : EReal) = if d.val / 64 = r.val / 256 then x (ix3 0 ⟨256 + r.val % 256, by have := r.isLt; omega⟩ d) else 0 := by
  have hr := r.isLt
  pointwise [k0_pay9, k0_pay7]
  by_cases h : r.val < 256
  · rw [dif_pos h, show r.val / 256 = 0 by omega]
    refine (pick_lo d _ _ (pay1_iff _ d)).trans ?_
    congr 3
    exact Fin.ext (by show 256 + r.val = 256 + r.val % 256; omega)
  · rw [dif_neg h, show r.val / 256 = 1 by omega]
    refine (pick_hi d _ _ (pay1_iff _ d)).trans ?_
    congr 3
    exact Fin.ext (by show 256 + (r.val - 256) = 256 + r.val % 256; omega)

theorem qB_at (t1 : Fin k0_t1_loop.trips) (x0 : Vec Ideal S1x1024x128 .bf16) (r : Fin 512) (d : Fin 128) (h) :
    qB t1 x0 (ix3 0 r d) = x0 (ix3 0 ⟨t1.val * 512 + r.val, h⟩ d) := by
  unfold qB VecWindow.window
  congr 1
  funext a
  fin_cases a
  · rfl
  · refine Fin.ext ?_
    show k0_off1 t1 1 + 1 * r.val = _
    rw [off1_eq]
    show t1.val * 512 + 1 * r.val = t1.val * 512 + r.val
    omega
  · refine Fin.ext ?_
    show k0_off1 t1 2 + 1 * d.val = _
    rw [off1_eq]
    show 0 + 1 * d.val = d.val
    omega

/-- A lane of head `h` of the pair. -/
abbrev headLane (h : ℕ) (hh : h < 2) (d : Fin 64) : Fin 128 := ⟨h * 64 + d.val, by have := d.isLt; omega⟩

theorem sum_head (h : ℕ) (hh : h < 2) (f g : Fin 128 → EReal) :
    (∑ d : Fin 128, (if d.val / 64 = h then f d else 0) * g d) = ∑ d : Fin 64, f (headLane h hh d) * g (headLane h hh d) := by
  rw [Fin.sum_univ_two_halves 64 64 rfl]
  have e0 : ∀ d : Fin 64, d.val / 64 = 0 := fun d => by have := d.isLt; omega
  have e1 : ∀ d : Fin 64, (64 + d.val) / 64 = 1 := fun d => by have := d.isLt; omega
  simp only [e0, e1]
  interval_cases h
  · simp only [if_pos, show ¬ (1 = 0) by decide, if_false, zero_mul, Finset.sum_const_zero, add_zero, if_true]
    refine Finset.sum_congr rfl fun d _ => ?_
    have e : (⟨d.val, by have := d.isLt; omega⟩ : Fin 128) = headLane 0 hh d := Fin.ext (by show d.val = 0 * 64 + d.val; omega)
    rw [e]
  · simp only [show ¬ (0 = 1) by decide, if_false, zero_mul, Finset.sum_const_zero, zero_add, if_true]

/-- The logits of query row `n` of the block, head `h` of the pair. -/
def zq (x0 : Vec Ideal S1x1024x128 .bf16) (x1 : Vec Ideal S1x4096x128 .bf16) (n : Fin 1024) (h : ℕ) (hh : h < 2) (u : ℕ) : EReal :=
  if hu : u < 4096 then ∑ d : Fin 64, x0 (ix3 0 n (headLane h hh d)) * x1 (ix3 0 ⟨u, hu⟩ (headLane h hh d)) else 0

theorem out_at (i : grid0.Coords) (x0 : Vec Ideal S1x1024x128 .bf16) (x1 x2 : Vec Ideal S1x4096x128 .bf16) (x3 : Vec Ideal S256x256 .bf16) (h3 : TriOK x3)
    (n : Fin 1024) (l : Fin 128) :
    (outV i x0 x1 x2 x3 (ix3 0 n l) : EReal) = pA 4096 ((i 2).val * 1024 + n.val) (zq x0 x1 n (l.val / 64) (by have := l.isLt; omega)) (vv x2 l) 0 := by
  have hn := n.isLt
  have hl := l.isLt
  have hd := endSt_done i (tripOf (n.val / 512)) x0 x1 x2 x3 h3
  have hr : l.val / 64 * 256 + n.val % 256 < 512 := by omega
  unfold outV
  by_cases hp : n.val % 512 < 256
  · refine (if_pos hp).trans ?_
    refine (pay4_at _ ⟨n.val % 256, Nat.mod_lt _ (by decide)⟩ l).trans ?_
    refine (hd ⟨l.val / 64 * 256 + n.val % 256, hr⟩ l).1.trans ?_
    congr 1
    · show ((i 2).val * 2 + n.val / 512 % 2) * 2 * 256 + (l.val / 64 * 256 + n.val % 256) % 256 = _
      omega
    · funext u
      unfold kz zq
      by_cases hu : u < 4096
      · rw [dif_pos hu, dif_pos hu]
        refine Eq.trans ?_ (sum_head (l.val / 64) (by omega) (fun d => x0 (ix3 0 n d)) (fun d => x1 (ix3 0 ⟨u, hu⟩ d)))
        refine Finset.sum_congr rfl fun d _ => ?_
        congr 1
        refine (pay8_at _ _ d).trans ?_
        have e : (l.val / 64 * 256 + n.val % 256) / 256 = l.val / 64 := by omega
        show (if d.val / 64 = (l.val / 64 * 256 + n.val % 256) / 256 then _ else _) = _
        rw [e]
        refine if_congr Iff.rfl ((qB_at _ x0 _ d (by show n.val / 512 % 2 * 512 + (l.val / 64 * 256 + n.val % 256) % 256 < 1024; omega)).trans ?_) rfl
        congr 2
        exact Fin.ext (by show n.val / 512 % 2 * 512 + (l.val / 64 * 256 + n.val % 256) % 256 = n.val; omega)
      · rw [dif_neg hu, dif_neg hu]
  · refine (if_neg hp).trans ?_
    refine (pay5_at _ ⟨n.val % 256, Nat.mod_lt _ (by decide)⟩ l).trans ?_
    refine (hd ⟨l.val / 64 * 256 + n.val % 256, hr⟩ l).2.trans ?_
    congr 1
    · show (((i 2).val * 2 + n.val / 512 % 2) * 2 + 1) * 256 + (l.val / 64 * 256 + n.val % 256) % 256 = _
      omega
    · funext u
      unfold kz zq
      by_cases hu : u < 4096
      · rw [dif_pos hu, dif_pos hu]
        refine Eq.trans ?_ (sum_head (l.val / 64) (by omega) (fun d => x0 (ix3 0 n d)) (fun d => x1 (ix3 0 ⟨u, hu⟩ d)))
        refine Finset.sum_congr rfl fun d _ => ?_
        congr 1
        refine (pay9_at _ _ d).trans ?_
        have e : (l.val / 64 * 256 + n.val % 256) / 256 = l.val / 64 := by omega
        show (if d.val / 64 = (l.val / 64 * 256 + n.val % 256) / 256 then _ else _) = _
        rw [e]
        refine if_congr Iff.rfl ((qB_at _ x0 _ d (by show n.val / 512 % 2 * 512 + (256 + (l.val / 64 * 256 + n.val % 256) % 256) < 1024; omega)).trans ?_) rfl
        congr 2
        exact Fin.ext (by show n.val / 512 % 2 * 512 + (256 + (l.val / 64 * 256 + n.val % 256) % 256) = n.val; omega)
      · rw [dif_neg hu, dif_neg hu]

end Cert.Proof.KI

end
-- ==== Proof.KI.Host.lean ====
/-
  What the pipeline finds: the host operations before it, read at an index.
-/
module

public import proofs.«01_k».proof.Proof.KI.Run
public import proofs.«01_k».proof.Proof.KI.Ends
public import Idealize.ShloMosaic.Lib.StableHlo.ReadAt

@[expose] public section

noncomputable section

namespace Cert.Proof.KI

open Cert.KernelIdeal Cert.KernelIdeal.Gen
open Idealize.ShloMosaic Idealize.ShloMosaic.TcCoe

variable (m : (ℓ : Loc nD τ sig) → Buf (Elt Ideal) ℓ)

/-- The argument, at an index. -/
def qkv (c : Dev nD) (b : Fin 8) (s : Fin 4096) (e : Fin 1536) : EReal := m ((c.tc : Thread nD τ).loc main_arg0) (ix3 b s e)
/-- The kernel's first three operands, at an index. -/
def ops (c : Dev nD) (b : Fin 8) (s : Fin 4096) (e : Fin 1536) : EReal := V m c main_v16 (ix3 b s e)
/-- What the host multiplies the queries by. -/
def qc : EReal := Ideal.div 1 (Ideal.ofBits FTy.f32 1090519040#32 * Ideal.log (Ideal.ofBits FTy.f32 1073741824#32))

theorem ofBits_eight : Ideal.ofBits FTy.f32 1090519040#32 = ((8 : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num

/-- An eighth, in the kernel's base. -/
theorem qc_eq : qc = Cert.Proof.Sb.il2 * ((1 / 8 : ℝ) : EReal) := by
  have hl : (0 : ℝ) < Real.log 2 := Real.log_pos (by norm_num)
  have e : Ideal.log ((2 : ℝ) : EReal) = ((Real.log 2 : ℝ) : EReal) := if_neg (by norm_num)
  have h8 : ((8 : ℝ) : EReal) * ((Real.log 2 : ℝ) : EReal) = ((8 * Real.log 2 : ℝ) : EReal) := (EReal.coe_mul _ _).symm
  have hne : ((8 * Real.log 2 : ℝ) : EReal) ≠ 0 := by
    intro h
    have : (8 * Real.log 2 : ℝ) = 0 := by exact_mod_cast h
    linarith
  unfold qc Cert.Proof.Sb.il2
  rw [ofBits_eight, ofBits_two, e, h8]
  unfold Ideal.div
  rw [if_neg hne, one_mul, ← EReal.coe_inv, ← EReal.coe_mul]
  congr 1
  field_simp

/-- The kernel's fourth operand, at an index. -/
def tri (c : Dev nD) (k j : Fin 256) : EReal := V m c main_v7 (ix2 k j)

theorem sge_word : ∀ k < 256, ∀ j < 256, IntOp.cmpi .sge (BitVec.ofNat 32 k) (BitVec.ofNat 32 j) = if j ≤ k then 1#1 else 0#1 := by
  intro j hj m hm
  have hj' : (BitVec.ofNat 32 j).toInt = j := by
    rw [BitVec.toInt_eq_toNat_of_lt (by rw [BitVec.toNat_ofNat]; omega), BitVec.toNat_ofNat]; omega
  have hm' : (BitVec.ofNat 32 m).toInt = m := by
    rw [BitVec.toInt_eq_toNat_of_lt (by rw [BitVec.toNat_ofNat]; omega), BitVec.toNat_ofNat]; omega
  show BitVec.ofBool ((BitVec.ofNat 32 m).sle (BitVec.ofNat 32 j)) = _
  rw [BitVec.sle_eq_decide, hj', hm']
  by_cases h : m ≤ j
  · simp [h]
  · simp [h]

theorem tri_at (c : Dev nD) (k j : Fin 256) : tri m c k j = if j.val ≤ k.val then -1 else 0 := by
  unfold tri V
  after_reads_at
  rw [sge_word _ k.isLt _ j.isLt]
  by_cases h : j.val ≤ k.val
  · rw [if_pos h, if_pos h]
    show -((((1#1 : BitVec 1).toNat : ℝ) : EReal)) = -1
    simp
  · rw [if_neg h, if_neg h]
    show -((((0#1 : BitVec 1).toNat : ℝ) : EReal)) = 0
    simp

theorem qs_at (c : Dev nD) (b : Fin 8) (s : Fin 4096) (e : Fin 1536) (he : e.val < 512) : ops m c b s e = qkv m c b s e * qc := by
  unfold ops qkv V
  after_reads_at
  rw [dif_pos he]
  after_reads_at
  rfl

theorem kv_at (c : Dev nD) (b : Fin 8) (s : Fin 4096) (e : Fin 1536) (he : ¬ e.val < 512) : ops m c b s e = qkv m c b s e := by
  unfold ops qkv V
  after_reads_at
  rw [dif_neg he]
  after_reads_at
  refine congrArg (m ((c.tc : Thread nD τ).loc main_arg0)) ?_
  congr 1
  exact Fin.ext (by show 512 + (e.val - 512) = e.val; omega)

end Cert.Proof.KI

end
-- ==== Proof.Sb.Ref.lean ====
/-
  The reference, read at an index: a query's output is the stick-breaking weighted sum of the values.
-/
module

public import proofs.«01_k».proof.Proof.Gen.ReferenceIdeal.Read
public import proofs.«01_k».proof.Proof.Sb.Math
public import Idealize.ShloMosaic.Lib.Pointwise
public import Idealize.ShloMosaic.PureOps.Ideal.Laws

@[expose] public section

noncomputable section

namespace Cert.Proof.Sb

open Cert.ReferenceIdeal Cert.ReferenceIdeal.Gen Cert.ReferenceIdeal.Read
open Idealize.ShloMosaic

/-- A sum over a window that runs off the end. -/
theorem sum_tail (N u : ℕ) (hu : u ≤ N) (f : ℕ → EReal) : (∑ k : Fin N, if u + k.val < N then f (u + k.val) else 0) = ∑ a ∈ Finset.Ico u N, f a := by
  rw [Fin.sum_univ_eq_sum_range (fun k => if u + k < N then f (u + k) else 0) N, Finset.sum_Ico_eq_sum_range]
  have hs : Finset.range (N - u) ⊆ Finset.range N := Finset.range_subset_range.mpr (by omega)
  rw [← Finset.sum_subset hs (fun k _ hk => if_neg (by rw [Finset.mem_range] at hk; omega))]
  exact Finset.sum_congr rfl fun k hk => if_pos (by rw [Finset.mem_range] at hk; omega)

theorem foldl_add {α : Type} (g : α → EReal) : ∀ (l : List α) (v : EReal), l.foldl (fun r n => r + g n) v = v + (l.map g).sum
  | [], v => by simp
  | a :: l, v => by
    rw [List.foldl_cons, foldl_add g l, List.map_cons, List.sum_cons, add_assoc]

/-- A window sum at an index, as a sum over the window's positions. -/
theorem windowSum_apply {s t v : Shape} (window strides lo hi : Fin s.rank → Nat) (x : FVec Ideal s .f32) (init : FVec Ideal v .f32) (h0 : ∀ i, init i = (0 : EReal))
    (h : s.ReduceWindows window strides lo hi t) (hu : 0 < v.numel) (j : t.Idx) :
    (Host.reduceWindowAdd window strides lo hi x init h hu j : EReal)
      = ∑ q : (⟨s.rank, window⟩ : Shape).Idx, if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else (0 : EReal) := by
  unfold Host.reduceWindowAdd
  show Ideal.hostReduceWindowAdd window strides lo hi h x (init (Shape.Idx.first hu)) j = _
  unfold Ideal.hostReduceWindowAdd Host.reduceWindow
  dsimp only
  rw [foldl_add]
  simp only [h0]
  rw [zero_add, ← Fin.sum_univ_def, ← Equiv.sum_comp (Shape.rowMajor (⟨s.rank, window⟩ : Shape))]
  simp only [Equiv.symm_apply_apply]

/-- The window along the last axis. -/
def lastAxis : Fin 4096 ≃ (⟨4, ![1, 1, 1, 4096]⟩ : Shape).Idx where
  toFun k a := match a with
    | ⟨0, _⟩ => ⟨0, Nat.one_pos⟩
    | ⟨1, _⟩ => ⟨0, Nat.one_pos⟩
    | ⟨2, _⟩ => ⟨0, Nat.one_pos⟩
    | ⟨3, _⟩ => k
  invFun i := i 3
  left_inv k := rfl
  right_inv i := by
    funext a
    match a with
    | ⟨0, _⟩ => exact Fin.ext (Nat.lt_one_iff.mp (i 0).isLt).symm
    | ⟨1, _⟩ => exact Fin.ext (Nat.lt_one_iff.mp (i 1).isLt).symm
    | ⟨2, _⟩ => exact Fin.ext (Nat.lt_one_iff.mp (i 2).isLt).symm
    | ⟨3, _⟩ => rfl

/-- The cumulative sum from the right. -/
theorem tail_at (x : FVec Ideal S8x8x4096x4096 .f32) (init : FVec Ideal S_ .f32) (h0 : ∀ i, init i = (0 : EReal)) (hr hu)
    (b h : Fin 8) (t u : Fin 4096) (f : ℕ → EReal) (hf : ∀ (a : ℕ) (ha : a < 4096), x (ix4 b h t ⟨a, ha⟩) = f a) :
    (Host.reduceWindowAdd ![1, 1, 1, 4096] ![1, 1, 1, 1] ![0, 0, 0, 0] ![0, 0, 0, 4095] x init hr hu (ix4 b h t u) : EReal)
      = ∑ a ∈ Finset.Ico u.val 4096, f a := by
  rw [windowSum_apply _ _ _ _ x init h0, ← sum_tail 4096 u.val u.isLt.le]
  refine (Equiv.sum_comp lastAxis _).symm.trans ?_
  refine Finset.sum_congr rfl fun k _ => ?_
  by_cases hk : u.val + k.val < 4096
  · rw [if_pos hk, ← hf _ hk, dif_pos]
    · congr 1
      funext a
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show t.val * 1 + 0 - 0 = t.val; omega)
      | ⟨3, _⟩ => exact Fin.ext (by show u.val * 1 + k.val - 0 = u.val + k.val; omega)
    · intro a
      match a with
      | ⟨0, _⟩ => exact ⟨Nat.zero_le _, by show b.val * 1 + 0 - 0 < 8; omega⟩
      | ⟨1, _⟩ => exact ⟨Nat.zero_le _, by show h.val * 1 + 0 - 0 < 8; omega⟩
      | ⟨2, _⟩ => exact ⟨Nat.zero_le _, by show t.val * 1 + 0 - 0 < 4096; omega⟩
      | ⟨3, _⟩ => exact ⟨Nat.zero_le _, by show u.val * 1 + k.val - 0 < 4096; omega⟩
  · rw [if_neg hk, dif_neg]
    intro H
    have h3 : u.val * 1 + k.val - 0 < 4096 := (H 3).2
    omega

/-- The argument: queries, keys and values side by side. -/
abbrev Arg : Type := FVec Ideal S8x4096x1536 .f32

variable (x0 : Arg)

/-- Column of lane `d` of head `h` among the queries, among the keys, among the values. -/
abbrev qe (h : Fin 8) (d : Fin 64) : Fin 1536 := ⟨h.val * 64 + d.val, by have := h.isLt; have := d.isLt; omega⟩
abbrev ke (h : Fin 8) (d : Fin 64) : Fin 1536 := ⟨512 + (h.val * 64 + d.val), by have := h.isLt; have := d.isLt; omega⟩
abbrev ve (h : Fin 8) (d : Fin 64) : Fin 1536 := ⟨1024 + (h.val * 64 + d.val), by have := h.isLt; have := d.isLt; omega⟩

theorem q_at (b h : Fin 8) (t : Fin 4096) (d : Fin 64) : (val_main_v4 (F := Ideal) x0 (ix4 b h t d) : EReal) = x0 (ix3 b t (qe h d)) := by
  pointwise [val_main_v4, val_main_v3, val_main_v0]
theorem k_at (b h : Fin 8) (t : Fin 4096) (d : Fin 64) : (val_main_v6 (F := Ideal) x0 (ix4 b h t d) : EReal) = x0 (ix3 b t (ke h d)) := by
  pointwise [val_main_v6, val_main_v5, val_main_v1]
theorem v_at (b h : Fin 8) (t : Fin 4096) (d : Fin 64) : (val_main_v8 (F := Ideal) x0 (ix4 b h t d) : EReal) = x0 (ix3 b t (ve h d)) := by
  pointwise [val_main_v8, val_main_v7, val_main_v2]

theorem ofBits_eighth : Ideal.ofBits FTy.f32 1040187392#32 = ((1 / 8 : ℝ) : EReal) := by
  simp [Ideal.ofBits, Ideal.ieee, -EReal.coe_mul]; norm_num

/-- A query's logits. -/
def zr (b h : Fin 8) (t : Fin 4096) (u : ℕ) : EReal :=
  if hu : u < 4096 then (∑ d : Fin 64, x0 (ix3 b t (qe h d)) * x0 (ix3 b ⟨u, hu⟩ (ke h d))) * ((1 / 8 : ℝ) : EReal) else 0
/-- A lane of the values. -/
def vr (b h : Fin 8) (d : Fin 64) (u : ℕ) : EReal := if hu : u < 4096 then x0 (ix3 b ⟨u, hu⟩ (ve h d)) else 0

theorem v11_at (b h : Fin 8) (t u : Fin 4096) : (val_main_v11 (F := Ideal) x0 (ix4 b h t u) : EReal) = zr x0 b h t u.val := by
  unfold zr
  rw [dif_pos u.isLt, ← ofBits_eighth]
  pointwise [val_main_v11, val_main_v9, val_main_v10, val_main_cst]
  congr 1
  exact Finset.sum_congr rfl fun d _ => by rw [q_at, k_at]

theorem softplus_form (x : EReal) : (if x ≠ x then x else max x 0 + Ideal.log1p (Ideal.exp (-(max x (-x))))) = sp x := if_neg fun h => h rfl

theorem v19_at (b h : Fin 8) (t u : Fin 4096) : (val_main_v19 (F := Ideal) x0 (ix4 b h t u) : EReal) = -sp (zr x0 b h t u.val) := by
  rw [← v11_at, ← softplus_form]
  pointwise [val_main_v19, val_main_call0_v1, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0, val_main_v18]
  rw [neg_neg]
  rfl
theorem v23_at (b h : Fin 8) (t u : Fin 4096) : (val_main_v23 (F := Ideal) x0 (ix4 b h t u) : EReal) = -sp (-zr x0 b h t u.val) := by
  rw [← v11_at, ← softplus_form]
  pointwise [val_main_v23, val_main_call3_v1, val_main_call3_call0_v4, val_main_call3_call0_v6, val_main_call3_call0_v11, val_main_call3_call0_v10, val_main_call3_call0_v9, val_main_call3_call0_v8, val_main_call3_call0_v7, val_main_call3_call0_v5, val_main_call3_call0_v3, val_main_call3_call0_v2, val_main_call3_call0_v1, val_main_call3_call0_v0, val_main_call3_call0_cst, val_main_call3_v0]
  rfl

theorem slt_word : ∀ j < 4096, ∀ m < 4096, IntOp.cmpi .slt (BitVec.ofNat 32 j) (BitVec.ofNat 32 m) = if j < m then 1#1 else 0#1 := by
  intro j hj m hm
  have hj' : (BitVec.ofNat 32 j).toInt = j := by
    rw [BitVec.toInt_eq_toNat_of_lt (by rw [BitVec.toNat_ofNat]; omega), BitVec.toNat_ofNat]; omega
  have hm' : (BitVec.ofNat 32 m).toInt = m := by
    rw [BitVec.toInt_eq_toNat_of_lt (by rw [BitVec.toNat_ofNat]; omega), BitVec.toNat_ofNat]; omega
  show BitVec.ofBool ((BitVec.ofNat 32 j).slt (BitVec.ofNat 32 m)) = _
  rw [BitVec.slt_eq_decide, hj', hm']
  by_cases h : j < m
  · simp [h]
  · simp [h]

theorem mask_at (b h : Fin 8) (t u : Fin 4096) : val_main_call1_v1 (F := Ideal) (ix4 b h t u) = if u.val < t.val then 1#1 else 0#1 := by
  rw [← slt_word _ u.isLt _ t.isLt]
  pointwise [val_main_call1_v1, val_main_v17, val_main_v16, val_main_v15, val_main_v14, val_main_v13, val_main_v12]

theorem select_if {α : Type} (p : Prop) [Decidable p] (a b : α) : Scalar.select (if p then 1#1 else 0#1) a b = if p then a else b := by
  by_cases h : p
  · rw [if_pos h, if_pos h]; exact if_pos rfl
  · rw [if_neg h, if_neg h]; exact if_neg (by decide)

theorem zero_const (j : S_.Idx) : (id (constant (F := Ideal) S_ FTy.f32 0#32) j : EReal) = 0 := by
  show Ideal.ofBits .f32 0#32 = 0
  simp

theorem v20_at (b h : Fin 8) (t u : Fin 4096) : (val_main_v20 (F := Ideal) x0 (ix4 b h t u) : EReal) = if u.val < t.val then -sp (zr x0 b h t u.val) else 0 := by
  pointwise [val_main_v20, val_main_call1_v2, val_main_call1_v0, val_main_cst_0]
  rw [mask_at, v19_at, zero_const]
  exact select_if _ _ _

theorem zero_init (i : S_.Idx) : (val_main_call2_v0 (F := Ideal) i : EReal) = 0 := by
  rw [← zero_const i]
  rfl

theorem v21_at (b h : Fin 8) (t u : Fin 4096) : (val_main_v21 (F := Ideal) x0 (ix4 b h t u) : EReal)
    = ∑ a ∈ Finset.Ico u.val 4096, if a < t.val then -sp (zr x0 b h t a) else 0 :=
  tail_at (val_main_v20 (F := Ideal) x0) (val_main_call2_v0 (F := Ideal)) (fun i => zero_init i) _ _ b h t u _ fun a ha => v20_at x0 b h t ⟨a, ha⟩

theorem v27_at (b h : Fin 8) (t : Fin 4096) (d : Fin 64) : (val_main_v27 (F := Ideal) x0 (ix4 b h t d) : EReal)
    = ∑ u ∈ Finset.range 4096, (if u < t.val then Ideal.exp (-sp (-(zr x0 b h t u)) + ((∑ a ∈ Finset.Ico u 4096, if a < t.val then -sp (zr x0 b h t a) else 0)
        - (if u < t.val then -sp (zr x0 b h t u) else 0))) else 0) * vr x0 b h d u := by
  rw [← Fin.sum_univ_eq_sum_range]
  pointwise [val_main_v27, val_main_v26, val_main_v25, val_main_v24, val_main_v22, val_main_call4_v2, val_main_call4_v0, val_main_cst_1]
  refine Finset.sum_congr rfl fun u _ => ?_
  rw [v20_at, v21_at, v23_at, v_at, zero_const, show val_main_call4_v1 (F := Ideal) (ix4 b h t u) = if u.val < t.val then 1#1 else 0#1 from mask_at b h t u, select_if]
  unfold vr
  rw [dif_pos u.isLt]

/-- The reference's result at an index. -/
theorem ref_at (b : Fin 8) (t : Fin 4096) (e : Fin 512) : (val_main_v30 (F := Ideal) x0 (ix3 b t e) : EReal)
    = val_main_v27 (F := Ideal) x0 (ix4 b ⟨e.val / 64, by have := e.isLt; omega⟩ t ⟨e.val % 64, Nat.mod_lt _ (by decide)⟩) := by
  pointwise [val_main_v30, val_main_v29, val_main_v28]

end Cert.Proof.Sb

end
-- ==== Proof.KI.Final.lean ====
/-
  The kernel's result array is the reference's, element by element over the extended reals.
-/
module

public import proofs.«01_k».proof.Proof.KI.Out
public import proofs.«01_k».proof.Proof.KI.Host
public import proofs.«01_k».proof.Proof.Sb.Ref
public import proofs.«01_k».proof.Proof.Gen.ReferenceIdeal.Run
public import proofs.«01_k».proof.Defs
public import Idealize.ShloMosaic.Lib.Pipeline.ValueKit

@[expose] public section

noncomputable section

namespace Cert.Proof.KI

open Cert.KernelIdeal Cert.KernelIdeal.Gen
open Idealize.ShloMosaic Idealize.ShloMosaic.TcCoe Idealize.SL.Sem
open Cert.Proof.Sb (pA il2 zr vr qe ke ve)

theorem real_mul_sum {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top _) _ _

/-- The host's factor on the queries, taken out of a product with a key. -/
theorem sum_scaled (f g : Fin 64 → EReal) : (∑ d, f d * qc * g d) = il2 * ((∑ d, f d * g d) * ((1 / 8 : ℝ) : EReal)) := by
  rw [qc_eq, mul_comm (∑ d, f d * g d), real_mul_sum _ (by norm_num)]
  unfold Cert.Proof.Sb.il2
  rw [real_mul_sum _ Cert.Proof.Sb.il2_pos.le]
  refine Finset.sum_congr rfl fun d _ => ?_
  rw [mul_comm (f d), mul_assoc, mul_assoc]

variable (m : (ℓ : Loc nD τ sig) → Buf (Elt Ideal) ℓ)

theorem idx0 : ∀ t : Fin (cfg0 (F := Ideal)).N, win0_0.index t = ![(grid0.coords t 0).val, (grid0.coords t 2).val, (grid0.coords t 1).val] :=
  (by decide +kernel : ∀ t : Fin grid0.N, _)
theorem idx1 : ∀ t : Fin (cfg0 (F := Ideal)).N, win0_1.index t = ![(grid0.coords t 0).val, 0, 4 + (grid0.coords t 1).val] :=
  (by decide +kernel : ∀ t : Fin grid0.N, _)
theorem idx2 : ∀ t : Fin (cfg0 (F := Ideal)).N, win0_2.index t = ![(grid0.coords t 0).val, 0, 8 + (grid0.coords t 1).val] :=
  (by decide +kernel : ∀ t : Fin grid0.N, _)
theorem idx3 : ∀ t : Fin (cfg0 (F := Ideal)).N, win0_3.index t = ![0, 0] :=
  (by decide +kernel : ∀ t : Fin grid0.N, _)
theorem idx4 : ∀ t : Fin (cfg0 (F := Ideal)).N, win0_4.index t = ![(grid0.coords t 0).val, (grid0.coords t 2).val, (grid0.coords t 1).val] :=
  (by decide +kernel : ∀ t : Fin grid0.N, _)

section
variable (c : Dev nD) (t : Fin (cfg0 (F := Ideal)).N)

theorem c0 : (grid0.coords t 0).val < 8 := (grid0.coords t 0).isLt
theorem c1 : (grid0.coords t 1).val < 4 := (grid0.coords t 1).isLt
theorem c2 : (grid0.coords t 2).val < 4 := (grid0.coords t 2).isLt

theorem blk0_at (n : Fin 1024) (d : Fin 128) : (iblk m c 0 t (ix3 0 n d) : EReal)
    = ops m c ⟨(grid0.coords t 0).val, c0 t⟩ ⟨(grid0.coords t 2).val * 1024 + n.val, by have := c2 t; have := n.isLt; omega⟩
        ⟨(grid0.coords t 1).val * 128 + d.val, by have := c1 t; have := d.isLt; omega⟩ := by
  have e := idx0 t
  unfold ops iblk
  show V m c main_v16 (((cfg0.win 0).blk t).view.emb (ix3 0 n d)) = V m c main_v16 _
  congr 1
  funext a
  apply Fin.ext
  match a with
  | ⟨0, _⟩ =>
    have h := congrFun e (0 : Fin 3)
    show win0_0.index t (0 : Fin 3) * 1 + 1 * 0 = (grid0.coords t 0).val
    rw [h]
    show (grid0.coords t 0).val * 1 + 1 * 0 = (grid0.coords t 0).val
    omega
  | ⟨1, _⟩ =>
    have h := congrFun e (1 : Fin 3)
    show win0_0.index t (1 : Fin 3) * 1024 + 1 * n.val = (grid0.coords t 2).val * 1024 + n.val
    rw [h]
    show (grid0.coords t 2).val * 1024 + 1 * n.val = (grid0.coords t 2).val * 1024 + n.val
    omega
  | ⟨2, _⟩ =>
    have h := congrFun e (2 : Fin 3)
    show win0_0.index t (2 : Fin 3) * 128 + 1 * d.val = (grid0.coords t 1).val * 128 + d.val
    rw [h]
    show (grid0.coords t 1).val * 128 + 1 * d.val = (grid0.coords t 1).val * 128 + d.val
    omega

theorem blk1_at (s : Fin 4096) (d : Fin 128) : (iblk m c 1 t (ix3 0 s d) : EReal)
    = ops m c ⟨(grid0.coords t 0).val, c0 t⟩ s ⟨(4 + (grid0.coords t 1).val) * 128 + d.val, by have := c1 t; have := d.isLt; omega⟩ := by
  have e := idx1 t
  unfold ops iblk
  show V m c main_v16 (((cfg0.win 1).blk t).view.emb (ix3 0 s d)) = V m c main_v16 _
  congr 1
  funext a
  apply Fin.ext
  match a with
  | ⟨0, _⟩ =>
    have h := congrFun e (0 : Fin 3)
    show win0_1.index t (0 : Fin 3) * 1 + 1 * 0 = (grid0.coords t 0).val
    rw [h]
    show (grid0.coords t 0).val * 1 + 1 * 0 = (grid0.coords t 0).val
    omega
  | ⟨1, _⟩ =>
    have h := congrFun e (1 : Fin 3)
    show win0_1.index t (1 : Fin 3) * 4096 + 1 * s.val = s.val
    rw [h]
    show 0 * 4096 + 1 * s.val = s.val
    omega
  | ⟨2, _⟩ =>
    have h := congrFun e (2 : Fin 3)
    show win0_1.index t (2 : Fin 3) * 128 + 1 * d.val = (4 + (grid0.coords t 1).val) * 128 + d.val
    rw [h]
    show (4 + (grid0.coords t 1).val) * 128 + 1 * d.val = (4 + (grid0.coords t 1).val) * 128 + d.val
    omega

theorem blk2_at (s : Fin 4096) (d : Fin 128) : (iblk m c 2 t (ix3 0 s d) : EReal)
    = ops m c ⟨(grid0.coords t 0).val, c0 t⟩ s ⟨(8 + (grid0.coords t 1).val) * 128 + d.val, by have := c1 t; have := d.isLt; omega⟩ := by
  have e := idx2 t
  unfold ops iblk
  show V m c main_v16 (((cfg0.win 2).blk t).view.emb (ix3 0 s d)) = V m c main_v16 _
  congr 1
  funext a
  apply Fin.ext
  match a with
  | ⟨0, _⟩ =>
    have h := congrFun e (0 : Fin 3)
    show win0_2.index t (0 : Fin 3) * 1 + 1 * 0 = (grid0.coords t 0).val
    rw [h]
    show (grid0.coords t 0).val * 1 + 1 * 0 = (grid0.coords t 0).val
    omega
  | ⟨1, _⟩ =>
    have h := congrFun e (1 : Fin 3)
    show win0_2.index t (1 : Fin 3) * 4096 + 1 * s.val = s.val
    rw [h]
    show 0 * 4096 + 1 * s.val = s.val
    omega
  | ⟨2, _⟩ =>
    have h := congrFun e (2 : Fin 3)
    show win0_2.index t (2 : Fin 3) * 128 + 1 * d.val = (8 + (grid0.coords t 1).val) * 128 + d.val
    rw [h]
    show (8 + (grid0.coords t 1).val) * 128 + 1 * d.val = (8 + (grid0.coords t 1).val) * 128 + d.val
    omega

theorem blk3_at (k j : Fin 256) : (iblk m c 3 t (ix2 k j) : EReal) = tri m c k j := by
  have e := idx3 t
  unfold tri iblk
  show V m c main_v7 (((cfg0.win 3).blk t).view.emb (ix2 k j)) = V m c main_v7 _
  congr 1
  funext a
  apply Fin.ext
  match a with
  | ⟨0, _⟩ =>
    have h := congrFun e (0 : Fin 2)
    show win0_3.index t (0 : Fin 2) * 256 + 1 * k.val = k.val
    rw [h]
    show 0 * 256 + 1 * k.val = k.val
    omega
  | ⟨1, _⟩ =>
    have h := congrFun e (1 : Fin 2)
    show win0_3.index t (1 : Fin 2) * 256 + 1 * j.val = j.val
    rw [h]
    show 0 * 256 + 1 * j.val = j.val
    omega

/-- The block's logits are the reference's, in the kernel's base. -/
theorem zq_eq (n : Fin 1024) (h : ℕ) (hh : h < 2) (u : ℕ) (b : Fin 8) (hb : b.val = (grid0.coords t 0).val) (hd : Fin 8)
    (hhd : hd.val = (grid0.coords t 1).val * 2 + h) (q : Fin 4096) (hq : q.val = (grid0.coords t 2).val * 1024 + n.val) :
    zq (iblk m c 0 t) (iblk m c 1 t) n h hh u = il2 * zr (m ((c.tc : Thread nD τ).loc main_arg0)) b hd q u := by
  obtain rfl : b = ⟨_, c0 t⟩ := Fin.ext hb
  unfold zq zr
  by_cases hu : u < 4096
  · rw [dif_pos hu, dif_pos hu]
    refine Eq.trans ?_ (sum_scaled (fun d => qkv m c ⟨_, c0 t⟩ q (qe hd d)) (fun d => qkv m c ⟨_, c0 t⟩ ⟨u, hu⟩ (ke hd d)))
    refine Finset.sum_congr rfl fun d _ => ?_
    have hc := c1 t
    have hdd := d.isLt
    rw [blk0_at, blk1_at, qs_at _ _ _ _ _ (by show (grid0.coords t 1).val * 128 + (h * 64 + d.val) < 512; omega),
      kv_at _ _ _ _ _ (by show ¬ (4 + (grid0.coords t 1).val) * 128 + (h * 64 + d.val) < 512; omega)]
    refine congrArg₂ (· * ·) (congrArg (· * qc) (congrArg₂ (qkv m c ⟨_, c0 t⟩) (Fin.ext hq.symm) (Fin.ext ?_))) (congrArg (qkv m c ⟨_, c0 t⟩ ⟨u, hu⟩) (Fin.ext ?_))
    · show (grid0.coords t 1).val * 128 + (h * 64 + d.val) = hd.val * 64 + d.val
      omega
    · show (4 + (grid0.coords t 1).val) * 128 + (h * 64 + d.val) = 512 + (hd.val * 64 + d.val)
      omega
  · rw [dif_neg hu, dif_neg hu, mul_zero]

theorem vv_eq (l : Fin 128) (u : ℕ) (b : Fin 8) (hb : b.val = (grid0.coords t 0).val) (hd : Fin 8) (d : Fin 64)
    (hhd : hd.val * 64 + d.val = (grid0.coords t 1).val * 128 + l.val) :
    vv (iblk m c 2 t) l u = vr (m ((c.tc : Thread nD τ).loc main_arg0)) b hd d u := by
  obtain rfl : b = ⟨_, c0 t⟩ := Fin.ext hb
  unfold vv vr
  by_cases hu : u < 4096
  · rw [dif_pos hu, dif_pos hu, blk2_at, kv_at _ _ _ _ _ (by show ¬ (8 + (grid0.coords t 1).val) * 128 + l.val < 512; omega)]
    unfold qkv
    congr 2
    exact Fin.ext (by show (8 + (grid0.coords t 1).val) * 128 + l.val = 1024 + (hd.val * 64 + d.val); omega)
  · rw [dif_neg hu, dif_neg hu]

theorem triOK : TriOK (iblk m c 3 t) := fun k j => (blk3_at m c t k j).trans (tri_at m c k j)

/-- What a grid point writes is the reference's result there. -/
theorem point_at (n : Fin 1024) (l : Fin 128) (b : Fin 8) (hb : b.val = (grid0.coords t 0).val) (q : Fin 4096) (hq : q.val = (grid0.coords t 2).val * 1024 + n.val)
    (e : Fin 512) (he : e.val = (grid0.coords t 1).val * 128 + l.val) :
    (oblk m c t (ix3 0 n l) : EReal) = Cert.ReferenceIdeal.Read.val_main_v30 (F := Ideal) (m ((c.tc : Thread nD τ).loc main_arg0)) (ix3 b q e) := by
  have hl := l.isLt
  unfold oblk
  rw [out_at _ _ _ _ _ (triOK m c t), Cert.Proof.Sb.ref_at, Cert.Proof.Sb.v27_at, ← hq]
  refine (Cert.Proof.Sb.pA_scale 4096 q.val _ _ _ fun u => zq_eq m c t n (l.val / 64) (by omega) u b hb ⟨e.val / 64, by have := e.isLt; omega⟩
    (by show e.val / 64 = _; omega) q hq).trans ?_
  refine Finset.sum_congr rfl fun u _ => ?_
  congr 1
  exact vv_eq m c t l u b hb _ _ (by show e.val / 64 * 64 + e.val % 64 = _; omega)

end

/-- The result array. -/
def G (c : Dev nD) : Vec Ideal S8x4096x512 .bf16 := Cert.ReferenceIdeal.Read.val_main_v30 (F := Ideal) (m ((c.tc : Thread nD τ).loc main_arg0))

theorem final4 (c : Dev nD) : (dats m 0 c).arrAt 4 (cfg0 (F := Ideal)).N = G m c := by
  refine (dats m 0 c).arrAt_eq_of_covers 4 _ (by decide +kernel) fun t hf y => ?_
  rw [after0_4]
  have e := idx4 t
  have h1 : (y 1).val < 1024 := (y 1).isLt
  have h2 : (y 2).val < 128 := (y 2).isLt
  have h0 : (y 0).val < 1 := (y 0).isLt
  have hc1 := c1 t
  have hc2 := c2 t
  have hy : (cfg0.win 4).xinj (cfg0.grid.coords t) y = ix3 (0 : Fin 1) (⟨(y 1).val, h1⟩ : Fin 1024) (⟨(y 2).val, h2⟩ : Fin 128) := by
    funext a
    match a with
    | ⟨0, _⟩ => exact Fin.ext (by show (y 0).val = 0; omega)
    | ⟨1, _⟩ => rfl
    | ⟨2, _⟩ => rfl
  rw [hy]
  refine (point_at m c t ⟨(y 1).val, h1⟩ ⟨(y 2).val, h2⟩ ⟨_, c0 t⟩ rfl ⟨(grid0.coords t 2).val * 1024 + (y 1).val, by omega⟩ rfl
    ⟨(grid0.coords t 1).val * 128 + (y 2).val, by omega⟩ rfl).trans ?_
  unfold G
  congr 1
  funext a
  apply Fin.ext
  match a with
  | ⟨0, _⟩ =>
    have h := congrFun e (0 : Fin 3)
    show (grid0.coords t 0).val = win0_4.index t (0 : Fin 3) * 1 + 1 * (y 0).val
    rw [h]
    show (grid0.coords t 0).val = (grid0.coords t 0).val * 1 + 1 * (y 0).val
    omega
  | ⟨1, _⟩ =>
    have h := congrFun e (1 : Fin 3)
    show (grid0.coords t 2).val * 1024 + (y 1).val = win0_4.index t (1 : Fin 3) * 1024 + 1 * (y 1).val
    rw [h]
    show (grid0.coords t 2).val * 1024 + (y 1).val = (grid0.coords t 2).val * 1024 + 1 * (y 1).val
    omega
  | ⟨2, _⟩ =>
    have h := congrFun e (2 : Fin 3)
    show (grid0.coords t 1).val * 128 + (y 2).val = win0_4.index t (2 : Fin 3) * 128 + 1 * (y 2).val
    rw [h]
    show (grid0.coords t 1).val * 128 + (y 2).val = (grid0.coords t 1).val * 128 + 1 * (y 2).val
    omega

/-- Both programs end with the same result. -/
theorem algebraic : algebraic_KernelIdeal_ReferenceIdeal := fun m g m' g' _ hm =>
  ⟨fun c => G m c,
    (θ_run defs _ _).mono (fun r h c => ⟨((h.1 c).1 4).trans (final4 m c), ((h.1 c).2 main_arg0 arg0_rest).trans (V_arg0 m c)⟩) (run_main m g),
    (θ_run Cert.ReferenceIdeal.defs _ _).mono (fun r h c => ⟨(h c).1.trans (by
      rw [Cert.ReferenceIdeal.Read.val_main_v30_eq, hm c]
      rfl), (h c).2⟩) (Cert.ReferenceIdeal.Value.run m' g')⟩

end Cert.Proof.KI

end
-- ==== Proof.EI.Model.lean ====
/-
  The body of the experts' call. A block of rows belongs to one expert. At the first active block of an expert the body
  decodes that expert's weights into three scratch buffers: the even and the odd columns of the first matrix, by eight
  products with a selection matrix, and the second matrix. At every active block it computes the block of the result from
  the scratch; at the others it stores zeros. What the scratch holds when the body does not decode is a hypothesis here;
  the launch supplies it from the block before.
-/
module

public import proofs.«01_k».proof.ExpertsIdeal
public import Idealize.ShloMosaic.Lib.Pipeline.Sound
public import Idealize.ShloMosaic.Lib.Tactic
public import Idealize.ShloMosaic.Lib.VecWindow
public import proofs.«01_k».proof.Proof.Gen.ExpertsIdeal
public import proofs.«01_k».proof.Proof.Gen.ExpertsIdeal.Skeleton
public import proofs.«01_k».proof.Proof.Gen.ExpertsIdeal.Launch

@[expose] public section

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body runs no loop: the variants are the naturals, never consulted. -/
abbrev 𝒱₀ : Variants := Variants.nat

section Steps

variable (c : Dev nD) (bd : Option 𝒱₀.V) (E : Set ℕ)

/-- Reading a window of contents owned at `x`. -/
theorem wp_ld {cs : CoreSpace} {s : Shape} {e : EltTy} {α : Type} {m : Memref sig .tc cs s e} {off size : Fin s.rank → ℕ} {inb : ∀ a, off a + size a ≤ s.size a}
    {hl : m.view.LoadsAt (Rect.unit off size inb).toLoadRect} {q : PosShare TreeShare} {x : s.Idx → Elt F e}
    {k : ((Rect.unit off size inb).toLoadRect.shape.Idx → Elt F e) → Prog (TpuEff nD τ sig (Elt F) Λ₀ .tc) α} {Q : α → sProp 𝕄} :
    (owns (c : Thread nD τ) m q x : sProp 𝕄)
      ⊢ iprop((owns (c : Thread nD τ) m q x -∗ wp frame (wpE (defs₀ (F := F)) 𝒱₀ (c : Thread nD τ) bd) E (k (VecWindow.window x off size inb)) Q)
        -∗ wp frame (wpE (defs₀ (F := F)) 𝒱₀ (c : Thread nD τ) bd) E (.op (.load m (Rect.unit off size inb).toLoadRect hl) k) Q) := by
  unfold owns
  iintro ⟨%f, %hf, H⟩ Hk
  subst hf
  iapply (wp_load 𝒱₀ (c : Thread nD τ) bd E (m := m) (r := (Rect.unit off size inb).toLoadRect) (View.setOn_subset_set ..)) $$ H
  iintro H
  rw [View.readAt_unit m.view f inb rfl inb]
  iapply Hk
  iexists f
  isplitr; · ipureintro; rfl
  iexact H

theorem window_all {α : Type} {s : Shape} (x : s.Idx → α) (off : Fin s.rank → ℕ) (inb : ∀ a, off a + s.size a ≤ s.size a) :
    VecWindow.window x off s.size inb = x :=
  funext fun y => congrArg x (funext fun a => Fin.ext (by
    show off a + 1 * (y a).val = (y a).val
    have := inb a; omega))

theorem put_all {α : Type} {s : Shape} (x w : s.Idx → α) (off : Fin s.rank → ℕ) (inb : ∀ a, off a + s.size a ≤ s.size a) :
    VecWindow.put x off s.size w = w := by
  have h0 : ∀ a, off a = 0 := fun a => by have := inb a; omega
  funext j
  unfold VecWindow.put
  rw [dif_pos (fun a => ⟨by have := h0 a; omega, by have := h0 a; have := (j a).isLt; omega⟩)]
  exact congrArg w (funext fun a => Fin.ext (by show (j a).val - off a = (j a).val; have := h0 a; omega))

/-- Reading all of it. -/
theorem wp_ldA {cs : CoreSpace} {s : Shape} {e : EltTy} {α : Type} {m : Memref sig .tc cs s e} {off : Fin s.rank → ℕ} {inb : ∀ a, off a + s.size a ≤ s.size a}
    {hl : m.view.LoadsAt (Rect.unit off s.size inb).toLoadRect} {q : PosShare TreeShare} {x : s.Idx → Elt F e}
    {k : (s.Idx → Elt F e) → Prog (TpuEff nD τ sig (Elt F) Λ₀ .tc) α} {Q : α → sProp 𝕄} :
    (owns (c : Thread nD τ) m q x : sProp 𝕄)
      ⊢ iprop((owns (c : Thread nD τ) m q x -∗ wp frame (wpE (defs₀ (F := F)) 𝒱₀ (c : Thread nD τ) bd) E (k x) Q)
        -∗ wp frame (wpE (defs₀ (F := F)) 𝒱₀ (c : Thread nD τ) bd) E (.op (.load m (Rect.unit off s.size inb).toLoadRect hl) k) Q) := by
  have h := wp_ld c bd E (m := m) (inb := inb) (hl := hl) (q := q) (x := x) (k := k) (Q := Q)
  rwa [window_all] at h

/-- Storing `w` over a window of contents owned at `x`. -/
theorem wp_st {s : Shape} {e : EltTy} {α : Type} {m : Memref sig .tc .vmem s e} {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} {x : s.Idx → Elt F e}
    {k : PUnit → Prog (TpuEff nD τ sig (Elt F) Λ₀ .tc) α} {Q : α → sProp 𝕄} :
    (owns (c : Thread nD τ) m fullShare x : sProp 𝕄)
      ⊢ iprop((owns (c : Thread nD τ) m fullShare (VecWindow.put x off size w) -∗ wp frame (wpE (defs₀ (F := F)) 𝒱₀ (c : Thread nD τ) bd) E (k ⟨⟩) Q)
        -∗ wp frame (wpE (defs₀ (F := F)) 𝒱₀ (c : Thread nD τ) bd) E (.op (.store m (Rect.unit off size inb) w Finset.univ hx hm) k) Q) := by
  unfold owns
  iintro ⟨%f, %hf, H⟩ Hk
  subst hf
  iapply (wp_store 𝒱₀ (c : Thread nD τ) bd E (m := m) (r := Rect.unit off size inb) (w := w) (Mk := Finset.univ) (View.set_slice_subset ..)) $$ H
  iintro H
  iapply Hk
  iexists _
  isplitr; swap; · iexact H
  ipureintro
  exact (View.read_writes_cons_put m.view f inb w [] rfl).trans (by rw [View.writes_nil])

/-- Storing over all of it. -/
theorem wp_stA {s : Shape} {e : EltTy} {α : Type} {m : Memref sig .tc .vmem s e} {off : Fin s.rank → ℕ} {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1} {x : s.Idx → Elt F e}
    {k : PUnit → Prog (TpuEff nD τ sig (Elt F) Λ₀ .tc) α} {Q : α → sProp 𝕄} :
    (owns (c : Thread nD τ) m fullShare x : sProp 𝕄)
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E (.op (.store m (Rect.unit off s.size inb) w Finset.univ hx hm) k) Q) := by
  have h := wp_st c bd E (m := m) (inb := inb) (w := w) (hx := hx) (hm := hm) (x := x) (k := k) (Q := Q)
  rwa [put_all x w off inb] at h

end Steps

/-! ## Eight strips of columns -/

/-- An index of the decoded matrix within its strip of 128 columns. -/
def inStrip (j : S1024x1024.Idx) : S1024x128.Idx := fun a => match a with
  | ⟨0, _⟩ => ⟨(j 0).val, (j 0).isLt⟩
  | ⟨1, _⟩ => ⟨(j 1).val % 128, Nat.mod_lt _ (by decide)⟩

/-- The matrix whose strip `s` is `f s`. -/
def ofStrips {α : Type} (f : ℕ → S1024x128.Idx → α) : S1024x1024.Idx → α := fun j => f ((j 1).val / 128) (inStrip j)

theorem put_strip {α : Type} (y : S1024x1024.Idx → α) (s : ℕ) (o : ℕ) (ho : o = 128 * s) (w : S1024x128.Idx → α) (j : S1024x1024.Idx) :
    VecWindow.put y ![0, o] S1024x128.size w j = if (j 1).val / 128 = s then w (inStrip j) else y j := by
  have h0 : (j 0).val < 1024 := (j 0).isLt
  unfold VecWindow.put
  by_cases h : (j 1).val / 128 = s
  · rw [if_pos h, dif_pos (fun a => by
      fin_cases a
      · exact ⟨Nat.zero_le _, by show (j 0).val < 0 + 1024; omega⟩
      · exact ⟨by show o ≤ (j 1).val; omega, by show (j 1).val < o + 128; omega⟩)]
    congr 1
    funext a
    fin_cases a
    · exact Fin.ext (by show (j 0).val - 0 = (j 0).val; omega)
    · exact Fin.ext (by show (j 1).val - o = (j 1).val % 128; omega)
  · rw [if_neg h, dif_neg (fun h' => h (by
      have h1 : o ≤ (j 1).val := (h' 1).1
      have h2 : (j 1).val < o + 128 := (h' 1).2
      omega))]

/-- Eight stores, one per strip, leave the matrix of the strips stored. -/
theorem puts_eq {α : Type} (f : ℕ → S1024x128.Idx → α) (y : S1024x1024.Idx → α) :
    VecWindow.put (VecWindow.put (VecWindow.put (VecWindow.put (VecWindow.put (VecWindow.put (VecWindow.put (VecWindow.put y
      ![0, 0] S1024x128.size (f 0)) ![0, 128] S1024x128.size (f 1)) ![0, 256] S1024x128.size (f 2)) ![0, 384] S1024x128.size (f 3))
      ![0, 512] S1024x128.size (f 4)) ![0, 640] S1024x128.size (f 5)) ![0, 768] S1024x128.size (f 6)) ![0, 896] S1024x128.size (f 7) = ofStrips f := by
  funext j
  have h1 : (j 1).val < 1024 := (j 1).isLt
  rw [put_strip _ 7 _ rfl, put_strip _ 6 _ rfl, put_strip _ 5 _ rfl, put_strip _ 4 _ rfl, put_strip _ 3 _ rfl, put_strip _ 2 _ rfl,
    put_strip _ 1 _ rfl, put_strip _ 0 _ rfl]
  unfold ofStrips
  split_ifs with a b c d e g h i
  · rw [a]
  · rw [b]
  · rw [c]
  · rw [d]
  · rw [e]
  · rw [g]
  · rw [h]
  · rw [i]
  · omega

/-! ## The decoded weights and the block of the result -/

/-- Columns `256 s` to `256 s + 255` of an expert's first matrix. -/
def cols (w : Vec F S1x1024x2048 .f32) (o : ℕ) (h : ∀ a, (![0, 0, o] : Fin 3 → ℕ) a + S1x1024x256.size a ≤ S1x1024x2048.size a) : Vec F S1x1024x256 .f32 :=
  VecWindow.window w ![0, 0, o] S1x1024x256.size h

/-- The even columns, strip by strip, as the body computes them. -/
def evenStrip (w : Vec F S1x1024x2048 .f32) (p : Vec F S256x256 .bf16) : ℕ → Vec F S1024x128 .bf16
  | 0 => k0_pay10 (cols w 0 inb_S1x1024x2048_S1x1024x256_0_0_0) p
  | 1 => k0_pay13 (cols w 256 inb_S1x1024x2048_S1x1024x256_0_0_256) p
  | 2 => k0_pay16 (cols w 512 inb_S1x1024x2048_S1x1024x256_0_0_512) p
  | 3 => k0_pay19 (cols w 768 inb_S1x1024x2048_S1x1024x256_0_0_768) p
  | 4 => k0_pay23 (k0_pay21 (cols w 1024 inb_S1x1024x2048_S1x1024x256_0_0_1024)) p
  | 5 => k0_pay26 (cols w 1280 inb_S1x1024x2048_S1x1024x256_0_0_1280) p
  | 6 => k0_pay1 (k0_pay28 (cols w 1536 inb_S1x1024x2048_S1x1024x256_0_0_1536) p)
  | _ => k0_pay4 (cols w 1792 inb_S1x1024x2048_S1x1024x256_0_0_1792) p

/-- The odd columns, strip by strip. -/
def oddStrip (w : Vec F S1x1024x2048 .f32) (p : Vec F S256x256 .bf16) : ℕ → Vec F S1024x128 .bf16
  | 0 => k0_pay11 (cols w 0 inb_S1x1024x2048_S1x1024x256_0_0_0) p
  | 1 => k0_pay14 (cols w 256 inb_S1x1024x2048_S1x1024x256_0_0_256) p
  | 2 => k0_pay17 (cols w 512 inb_S1x1024x2048_S1x1024x256_0_0_512) p
  | 3 => k0_pay20 (cols w 768 inb_S1x1024x2048_S1x1024x256_0_0_768) p
  | 4 => k0_pay24 (k0_pay21 (cols w 1024 inb_S1x1024x2048_S1x1024x256_0_0_1024)) p
  | 5 => k0_pay27 (cols w 1280 inb_S1x1024x2048_S1x1024x256_0_0_1280) p
  | 6 => k0_pay2 (k0_pay28 (cols w 1536 inb_S1x1024x2048_S1x1024x256_0_0_1536) p)
  | _ => k0_pay5 (cols w 1792 inb_S1x1024x2048_S1x1024x256_0_0_1792) p

def evenW (w : Vec F S1x1024x2048 .f32) (p : Vec F S256x256 .bf16) : Vec F S1024x1024 .bf16 := ofStrips (evenStrip w p)
def oddW (w : Vec F S1x1024x2048 .f32) (p : Vec F S256x256 .bf16) : Vec F S1024x1024 .bf16 := ofStrips (oddStrip w p)

/-- The block of the result at an active point, from the rows and the decoded weights. -/
def actV (x : Vec F S512x1024 .f32) (g l u : Vec F S1024x1024 .bf16) (bg bl b2 : Vec F S1x1x1024 .f32) : Vec F S512x1024 .f32 :=
  k0_pay7 (k0_pay29 x g bg l bl) u (constant S512x1024 .f32 0x00000000#32) b2

/-- The three scratch buffers hold the decoded weights of the expert whose matrices are `w1` and `w2`. -/
def Decoded (w1 : Vec F S1x1024x2048 .f32) (w2 : Vec F S1x1024x1024 .f32) (p : Vec F S256x256 .bf16) (g l u : Vec F S1024x1024 .bf16) : Prop :=
  g = evenW w1 p ∧ l = oddW w1 p ∧ u = k0_pay6 w2

/-! ## The tables' words and the body's conditions -/

/-- The expert of block `n`. -/
def expertAt (T0 : S316.Idx → BitVec 32) (n : ℕ) (h : n < 316) : BitVec 32 := T0 (fun a => match a with | ⟨0, _⟩ => ⟨n, h⟩)

/-- The number of active blocks. -/
def activeNo (T1 : S1.Idx → BitVec 32) : BitVec 32 := T1 (fun a => match a with | ⟨0, _⟩ => ⟨0, Nat.one_pos⟩)

theorem lt316 (i : grid0.Coords) : (i 0).val < 316 := (i 0).isLt

theorem off1_val (i : grid0.Coords) : k0_off1 i 0 = (i 0).val := by
  have h : (i 0).val < 316 := (i 0).isLt
  show (Scalar.indexCast (BitVec.ofNat 32 (i 0).val)).toNat = (i 0).val
  show (BitVec.ofNat 32 (i 0).val).toNat = _
  rw [BitVec.toNat_ofNat]; omega

theorem off2_val (i : grid0.Coords) : k0_off2 i 0 = (i 0).val - 1 := by
  have h : (i 0).val < 316 := (i 0).isLt
  show (IntOp.maxsi (BitVec.ofNat 32 (i 0).val - 1#32) 0#32).toNat = (i 0).val - 1
  unfold IntOp.maxsi
  by_cases h0 : (i 0).val = 0
  · rw [h0]; decide
  · have e : BitVec.ofNat 32 (i 0).val - 1#32 = BitVec.ofNat 32 ((i 0).val - 1) := by
      apply BitVec.eq_of_toNat_eq
      rw [BitVec.toNat_sub, BitVec.toNat_ofNat, BitVec.toNat_ofNat]; simp; omega
    rw [e]
    have : (BitVec.ofNat 32 ((i 0).val - 1)).toNat = (i 0).val - 1 := by rw [BitVec.toNat_ofNat]; omega
    split
    · exact this
    · next hc =>
      rw [BitVec.slt_eq_decide] at hc
      simp only [BitVec.toInt_eq_toNat_cond, this, decide_eq_true_eq] at hc
      simp at hc
      show 0 = (i 0).val - 1
      omega

theorem first1 (x : S1.Idx) (a : Fin 1) : (x a).val = 0 := by
  have h : (x a).val < S1.size a := (x a).isLt
  have h' : S1.size a = 1 := by fin_cases a; rfl
  omega

theorem word1 (T0 : S316.Idx → BitVec 32) (i : grid0.Coords) (inb) (x : S1.Idx) :
    VecWindow.window T0 (k0_off1 i) S1.size inb x = expertAt T0 (i 0).val (lt316 i) :=
  congrArg T0 (funext fun a => by
    fin_cases a
    exact Fin.ext (by
      show k0_off1 i 0 + 1 * (x 0).val = (i 0).val
      rw [first1 x 0, off1_val]; omega))

theorem word2 (T0 : S316.Idx → BitVec 32) (i : grid0.Coords) (inb) (x : S1.Idx) :
    VecWindow.window T0 (k0_off2 i) S1.size inb x = expertAt T0 ((i 0).val - 1) (lt_of_le_of_lt (Nat.sub_le _ _) (lt316 i)) :=
  congrArg T0 (funext fun a => by
    fin_cases a
    exact Fin.ext (by
      show k0_off2 i 0 + 1 * (x 0).val = (i 0).val - 1
      rw [first1 x 0, off2_val]; omega))

theorem word0 (T1 : S1.Idx → BitVec 32) (inb) (x : S1.Idx) :
    VecWindow.window T1 ![0] S1.size inb x = activeNo T1 :=
  congrArg T1 (funext fun a => by
    fin_cases a
    exact Fin.ext (by
      show 0 + 1 * (x 0).val = 0
      rw [first1 x 0]))

/-- The body's first condition: the block is active and its expert is not that of the block before. -/
abbrev freshC (i : grid0.Coords) (v0 v4 v8 : BitVec 32) : BitVec 1 :=
  Scalar.cmpi .ne ((Scalar.extui : BitVec 1 → BitVec 32) (Scalar.andi (Scalar.cmpi .slt (BitVec.ofNat 32 (i 0).val) v0)
    (Scalar.ori (Scalar.cmpi .eq (BitVec.ofNat 32 (i 0).val) 0#32) (Scalar.cmpi .ne v4 v8)))) 0#32

theorem cond3_iff (i : grid0.Coords) (v0 : BitVec 32) : k0_cond3 i v0 = 1#1 ↔ ¬ k0_cond2 i v0 = 1#1 := by
  have e : ∀ b : BitVec 1, Scalar.cmpi .ne ((Scalar.extui : BitVec 1 → BitVec 32) (Scalar.xori b 1#1)) 0#32 = 1#1
      ↔ ¬ Scalar.cmpi .ne ((Scalar.extui : BitVec 1 → BitVec 32) b) 0#32 = 1#1 := by decide
  exact e (Scalar.cmpi .slt (BitVec.ofNat 32 (i 0).val) v0)

theorem cond2_iff (i : grid0.Coords) (v0 : BitVec 32) : k0_cond2 i v0 = 1#1 ↔ ((i 0).val : ℤ) < v0.toInt := by
  have h : (i 0).val < 316 := (i 0).isLt
  have e : ∀ b : BitVec 1, Scalar.cmpi .ne ((Scalar.extui : BitVec 1 → BitVec 32) b) 0#32 = 1#1 ↔ b = 1#1 := by decide
  unfold k0_cond2
  rw [e]
  show BitVec.ofBool ((BitVec.ofNat 32 (i 0).val).slt v0) = 1#1 ↔ _
  rw [BitVec.slt_eq_decide]
  have e2 : (BitVec.ofNat 32 (i 0).val).toInt = ((i 0).val : ℤ) := by
    rw [BitVec.toInt_eq_toNat_cond, BitVec.toNat_ofNat]
    have : (i 0).val % 2 ^ 32 = (i 0).val := by omega
    rw [this, if_pos (by omega)]
  rw [e2]
  by_cases hh : ((i 0).val : ℤ) < v0.toInt <;> simp [hh]

theorem fresh_active (i : grid0.Coords) (v0 v4 v8 : BitVec 32) (hf : freshC i v0 v4 v8 = 1#1) : k0_cond2 i v0 = 1#1 := by
  have e : ∀ a b : BitVec 1, Scalar.cmpi .ne ((Scalar.extui : BitVec 1 → BitVec 32) (Scalar.andi a b)) 0#32 = 1#1 →
      Scalar.cmpi .ne ((Scalar.extui : BitVec 1 → BitVec 32) a) 0#32 = 1#1 := by decide
  exact e _ _ hf

/-- Where the body does not decode at an active block, the block is not the first and the expert is that of the one before. -/
theorem not_fresh (i : grid0.Coords) (v0 v4 v8 : BitVec 32) (ha : k0_cond2 i v0 = 1#1) (hf : ¬ freshC i v0 v4 v8 = 1#1) :
    (i 0).val ≠ 0 ∧ v4 = v8 := by
  have h : (i 0).val < 316 := (i 0).isLt
  have e : ∀ a b d : BitVec 1, Scalar.cmpi .ne ((Scalar.extui : BitVec 1 → BitVec 32) a) 0#32 = 1#1 →
      ¬ Scalar.cmpi .ne ((Scalar.extui : BitVec 1 → BitVec 32) (Scalar.andi a (Scalar.ori b d))) 0#32 = 1#1 → b ≠ 1#1 ∧ d ≠ 1#1 := by decide
  obtain ⟨h1, h2⟩ := e _ _ _ ha hf
  refine ⟨fun h0 => h1 ?_, ?_⟩
  · rw [h0]; rfl
  · by_contra hne
    refine h2 ?_
    show BitVec.ofBool (v4 != v8) = 1#1
    have : (v4 != v8) = true := by simpa using hne
    rw [this]; rfl

end Cert.Proof.EI

end
-- ==== Proof.EI.Body.lean ====
/-
  The body of the experts' call at a grid point, in its three cases: an active block whose expert is decoded here, an active
  block whose expert the scratch already holds, and a block past the active ones.
-/
module

public import proofs.«01_k».proof.Proof.EI.Model

@[expose] public section

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the result at a point: from the decoded weights where the block is active, zeros otherwise. -/
def outV (i : grid0.Coords) (n : BitVec 32) (x : Vec F S512x1024 .f32) (w1 : Vec F S1x1024x2048 .f32) (w2 : Vec F S1x1024x1024 .f32)
    (bg bl b2 : Vec F S1x1x1024 .f32) (p : Vec F S256x256 .bf16) : Vec F S512x1024 .f32 :=
  if k0_cond2 i n = 1#1 then actV x (evenW w1 p) (oddW w1 p) (k0_pay6 w2) bg bl b2 else k0_pay8

theorem evens_stored (w : Vec F S1x1024x2048 .f32) (p : Vec F S256x256 .bf16) (y : Vec F S1024x1024 .bf16) :
    VecWindow.put (VecWindow.put (VecWindow.put (VecWindow.put (VecWindow.put (VecWindow.put (VecWindow.put (VecWindow.put y ![0, 0] ![1024, 128]
      (k0_pay10 (VecWindow.window w ![0, 0, 0] ![1, 1024, 256] inb_S1x1024x2048_S1x1024x256_0_0_0) p)) ![0, 128] ![1024, 128]
      (k0_pay13 (VecWindow.window w ![0, 0, 256] ![1, 1024, 256] inb_S1x1024x2048_S1x1024x256_0_0_256) p)) ![0, 256] ![1024, 128]
      (k0_pay16 (VecWindow.window w ![0, 0, 512] ![1, 1024, 256] inb_S1x1024x2048_S1x1024x256_0_0_512) p)) ![0, 384] ![1024, 128]
      (k0_pay19 (VecWindow.window w ![0, 0, 768] ![1, 1024, 256] inb_S1x1024x2048_S1x1024x256_0_0_768) p)) ![0, 512] ![1024, 128]
      (k0_pay23 (k0_pay21 (VecWindow.window w ![0, 0, 1024] ![1, 1024, 256] inb_S1x1024x2048_S1x1024x256_0_0_1024)) p)) ![0, 640] ![1024, 128]
      (k0_pay26 (VecWindow.window w ![0, 0, 1280] ![1, 1024, 256] inb_S1x1024x2048_S1x1024x256_0_0_1280) p)) ![0, 768] ![1024, 128]
      (k0_pay1 (k0_pay28 (VecWindow.window w ![0, 0, 1536] ![1, 1024, 256] inb_S1x1024x2048_S1x1024x256_0_0_1536) p))) ![0, 896] ![1024, 128]
      (k0_pay4 (VecWindow.window w ![0, 0, 1792] ![1, 1024, 256] inb_S1x1024x2048_S1x1024x256_0_0_1792) p) = evenW w p :=
  puts_eq (evenStrip w p) y

theorem odds_stored (w : Vec F S1x1024x2048 .f32) (p : Vec F S256x256 .bf16) (y : Vec F S1024x1024 .bf16) :
    VecWindow.put (VecWindow.put (VecWindow.put (VecWindow.put (VecWindow.put (VecWindow.put (VecWindow.put (VecWindow.put y ![0, 0] ![1024, 128]
      (k0_pay11 (VecWindow.window w ![0, 0, 0] ![1, 1024, 256] inb_S1x1024x2048_S1x1024x256_0_0_0) p)) ![0, 128] ![1024, 128]
      (k0_pay14 (VecWindow.window w ![0, 0, 256] ![1, 1024, 256] inb_S1x1024x2048_S1x1024x256_0_0_256) p)) ![0, 256] ![1024, 128]
      (k0_pay17 (VecWindow.window w ![0, 0, 512] ![1, 1024, 256] inb_S1x1024x2048_S1x1024x256_0_0_512) p)) ![0, 384] ![1024, 128]
      (k0_pay20 (VecWindow.window w ![0, 0, 768] ![1, 1024, 256] inb_S1x1024x2048_S1x1024x256_0_0_768) p)) ![0, 512] ![1024, 128]
      (k0_pay24 (k0_pay21 (VecWindow.window w ![0, 0, 1024] ![1, 1024, 256] inb_S1x1024x2048_S1x1024x256_0_0_1024)) p)) ![0, 640] ![1024, 128]
      (k0_pay27 (VecWindow.window w ![0, 0, 1280] ![1, 1024, 256] inb_S1x1024x2048_S1x1024x256_0_0_1280) p)) ![0, 768] ![1024, 128]
      (k0_pay2 (k0_pay28 (VecWindow.window w ![0, 0, 1536] ![1, 1024, 256] inb_S1x1024x2048_S1x1024x256_0_0_1536) p))) ![0, 896] ![1024, 128]
      (k0_pay5 (VecWindow.window w ![0, 0, 1792] ![1, 1024, 256] inb_S1x1024x2048_S1x1024x256_0_0_1792) p) = oddW w p :=
  puts_eq (oddStrip w p) y

section Body

variable (c : Dev nD) (i : grid0.Coords)
  (arg1 : Memref sig .tc .smem S316 .i32) (harg1 : arg1.IsWhole)
  (arg2 : Memref sig .tc .smem S1 .i32) (harg2 : arg2.IsWhole)
  (arg3 : Memref sig .tc .vmem S512x1024 .f32) (harg3 : arg3.IsWhole)
  (arg4 : Memref sig .tc .vmem S1x1024x2048 .f32) (harg4 : arg4.IsWhole)
  (arg5 : Memref sig .tc .vmem S1x1024x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S256x256 .bf16) (harg9 : arg9.IsWhole)
  (arg10 : Memref sig .tc .vmem S512x1024 .f32) (harg10 : arg10.IsWhole)
  (arg11 : Memref sig .tc .vmem S1024x1024 .bf16) (harg11 : arg11.IsWhole)
  (arg12 : Memref sig .tc .vmem S1024x1024 .bf16) (harg12 : arg12.IsWhole)
  (arg13 : Memref sig .tc .vmem S1024x1024 .bf16) (harg13 : arg13.IsWhole)
  (q1 q2 : PosShare TreeShare) (T0 : S316.Idx → BitVec 32) (T1 : S1.Idx → BitVec 32)
  (x : Vec F S512x1024 .f32) (w1 : Vec F S1x1024x2048 .f32) (w2 : Vec F S1x1024x1024 .f32)
  (bg bl b2 : Vec F S1x1x1024 .f32) (p : Vec F S256x256 .bf16) (y : Vec F S512x1024 .f32) (g l u : Vec F S1024x1024 .bf16)

/-- The body's condition to decode, of the tables. -/
abbrev freshT : BitVec 1 :=
  freshC i (activeNo T1) (expertAt T0 (i 0).val (lt316 i)) (expertAt T0 ((i 0).val - 1) (lt_of_le_of_lt (Nat.sub_le _ _) (lt316 i)))

/-- What the body is given. -/
def givenB : sProp 𝕄 :=
  iprop(owns (c : Thread nD τ) arg1 q1 T0 ∗ owns (c : Thread nD τ) arg2 q2 T1 ∗ owns (c : Thread nD τ) arg3 fullShare x
    ∗ owns (c : Thread nD τ) arg4 fullShare w1 ∗ owns (c : Thread nD τ) arg5 fullShare w2 ∗ owns (c : Thread nD τ) arg6 fullShare bg
    ∗ owns (c : Thread nD τ) arg7 fullShare bl ∗ owns (c : Thread nD τ) arg8 fullShare b2 ∗ owns (c : Thread nD τ) arg9 fullShare p
    ∗ owns (c : Thread nD τ) arg10 fullShare y ∗ owns (c : Thread nD τ) arg11 fullShare g ∗ owns (c : Thread nD τ) arg12 fullShare l
    ∗ owns (c : Thread nD τ) arg13 fullShare u)

/-- What the body leaves. -/
def leftB : sProp 𝕄 :=
  iprop(owns (c : Thread nD τ) arg1 q1 T0 ∗ owns (c : Thread nD τ) arg2 q2 T1 ∗ owns (c : Thread nD τ) arg3 fullShare x
    ∗ owns (c : Thread nD τ) arg4 fullShare w1 ∗ owns (c : Thread nD τ) arg5 fullShare w2 ∗ owns (c : Thread nD τ) arg6 fullShare bg
    ∗ owns (c : Thread nD τ) arg7 fullShare bl ∗ owns (c : Thread nD τ) arg8 fullShare b2 ∗ owns (c : Thread nD τ) arg9 fullShare p
    ∗ owns (c : Thread nD τ) arg10 fullShare (outV i (activeNo T1) x w1 w2 bg bl b2 p)
    ∗ ∃ g' l' u', owns (c : Thread nD τ) arg11 fullShare g' ∗ owns (c : Thread nD τ) arg12 fullShare l' ∗ owns (c : Thread nD τ) arg13 fullShare u'
      ∗ ⌜k0_cond2 i (activeNo T1) = 1#1 → Decoded w1 w2 p g' l' u'⌝)

theorem body_sound (hd : k0_cond2 i (activeNo T1) = 1#1 → ¬ freshT i T0 T1 = 1#1 → Decoded w1 w2 p g l u) :
    givenB c arg1 arg2 arg3 arg4 arg5 arg6 arg7 arg8 arg9 arg10 arg11 arg12 arg13 q1 q2 T0 T1 x w1 w2 bg bl b2 p y g l u
      ⊢ wp frame (wpE (defs₀ (F := F)) 𝒱₀ (c : Thread nD τ) none) Set.univ
          (cc0_moe_experts (F := F) i arg1 harg1 arg2 harg2 arg3 harg3 arg4 harg4 arg5 harg5 arg6 harg6 arg7 harg7 arg8 harg8 arg9 harg9 arg10 harg10 arg11 harg11 arg12 harg12 arg13 harg13)
          (fun _ => leftB c i arg1 arg2 arg3 arg4 arg5 arg6 arg7 arg8 arg9 arg10 arg11 arg12 arg13 q1 q2 T0 T1 x w1 w2 bg bl b2 p) := by
  unfold givenB leftB outV
  rw [cc0_moe_experts_eq_skeleton]
  unfold cc0_moe_experts_skel
  simp only [smemLoad, smemLoadElt, Prog.lift, Prog.bind_op, Prog.bind_ret, Prog.pure_eq_ret]
  iintro ⟨H1, H2, H3, H4, H5, H6, H7, H8, H9, H10, H11, H12, H13⟩
  iapply (wp_ld c none Set.univ) $$ H2; iintro H2
  iapply (wp_ld c none Set.univ) $$ H1; iintro H1
  iapply (wp_ld c none Set.univ) $$ H1; iintro H1
  rw [word0, word1, word2]
  by_cases ha : k0_cond2 i (activeNo T1) = 1#1
  · have h3 : ¬ k0_cond3 i (activeNo T1) = 1#1 := fun h => (cond3_iff i _).1 h ha
    by_cases hf : freshT i T0 T1 = 1#1
    · rw [if_pos hf]
      simp only [dif_pos ha, dif_neg h3, if_pos ha]
      simp only [k0_part1_eq_skeleton, k0_part2_eq_skeleton, k0_part3_eq_skeleton, k0_part4_eq_skeleton]
      unfold k0_part1_skel k0_part2_skel k0_part3_skel k0_part4_skel
      simp only [Prog.lift, Prog.bind_op, Prog.bind_ret, Prog.pure_eq_ret]
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ld c none Set.univ) $$ H4; iintro H4
      iapply (wp_ldA c none Set.univ) $$ H9; iintro H9
      iapply (wp_ld c none Set.univ) $$ H11; iintro H11
      iapply (wp_st c none Set.univ) $$ H11; iintro H11
      iapply (wp_ld c none Set.univ) $$ H12; iintro H12
      iapply (wp_st c none Set.univ) $$ H12; iintro H12
      iapply (wp_ldA c none Set.univ) $$ H5; iintro H5
      iapply (wp_ldA c none Set.univ) $$ H13; iintro H13
      iapply (wp_stA c none Set.univ) $$ H13; iintro H13
      iapply (wp_ldA c none Set.univ) $$ H3; iintro H3
      iapply (wp_ldA c none Set.univ) $$ H11; iintro H11
      iapply (wp_ldA c none Set.univ) $$ H6; iintro H6
      iapply (wp_ldA c none Set.univ) $$ H12; iintro H12
      iapply (wp_ldA c none Set.univ) $$ H7; iintro H7
      iapply (wp_ldA c none Set.univ) $$ H13; iintro H13
      iapply (wp_ldA c none Set.univ) $$ H8; iintro H8
      iapply (wp_ldA c none Set.univ) $$ H10; iintro H10
      iapply (wp_stA c none Set.univ) $$ H10; iintro H10
      rw [wp_ret]
      imodintro
      rw [evens_stored, odds_stored]
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _, _, _
      isplitl [H11]; · iexact H11
      isplitl [H12]; · iexact H12
      isplitl [H13]; · iexact H13
      ipureintro
      exact fun _ => ⟨rfl, rfl, rfl⟩
    · rw [if_neg hf]
      obtain ⟨rfl, rfl, rfl⟩ := hd ha hf
      simp only [dif_pos ha, dif_neg h3, if_pos ha]
      simp only [k0_part4_eq_skeleton]
      unfold k0_part4_skel
      simp only [Prog.lift, Prog.bind_op, Prog.bind_ret, Prog.pure_eq_ret]
      iapply (wp_ldA c none Set.univ) $$ H3; iintro H3
      iapply (wp_ldA c none Set.univ) $$ H11; iintro H11
      iapply (wp_ldA c none Set.univ) $$ H6; iintro H6
      iapply (wp_ldA c none Set.univ) $$ H12; iintro H12
      iapply (wp_ldA c none Set.univ) $$ H7; iintro H7
      iapply (wp_ldA c none Set.univ) $$ H13; iintro H13
      iapply (wp_ldA c none Set.univ) $$ H8; iintro H8
      iapply (wp_ldA c none Set.univ) $$ H10; iintro H10
      iapply (wp_stA c none Set.univ) $$ H10; iintro H10
      rw [wp_ret]
      imodintro
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _, _, _
      isplitl [H11]; · iexact H11
      isplitl [H12]; · iexact H12
      isplitl [H13]; · iexact H13
      ipureintro
      exact fun _ => ⟨rfl, rfl, rfl⟩
  · have h3 : k0_cond3 i (activeNo T1) = 1#1 := (cond3_iff i _).2 ha
    have hf : ¬ freshT i T0 T1 = 1#1 := fun hf => ha (fresh_active i _ _ _ hf)
    rw [if_neg hf]
    simp only [dif_neg ha, dif_pos h3, if_neg ha]
    iapply (wp_ldA c none Set.univ) $$ H10; iintro H10
    iapply (wp_stA c none Set.univ) $$ H10; iintro H10
    rw [wp_ret]
    imodintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _, _, _
    isplitl [H11]; · iexact H11
    isplitl [H12]; · iexact H12
    isplitl [H13]; · iexact H13
    ipureintro
    exact fun h => absurd h ha

/-- The same, against what is wanted of the body's end. -/
theorem body_sound_wand (hd : k0_cond2 i (activeNo T1) = 1#1 → ¬ freshT i T0 T1 = 1#1 → Decoded w1 w2 p g l u) (Q : PUnit → sProp 𝕄) :
    iprop(givenB c arg1 arg2 arg3 arg4 arg5 arg6 arg7 arg8 arg9 arg10 arg11 arg12 arg13 q1 q2 T0 T1 x w1 w2 bg bl b2 p y g l u
        ∗ (leftB c i arg1 arg2 arg3 arg4 arg5 arg6 arg7 arg8 arg9 arg10 arg11 arg12 arg13 q1 q2 T0 T1 x w1 w2 bg bl b2 p -∗ Q ⟨⟩))
      ⊢ wp frame (wpE (defs₀ (F := F)) 𝒱₀ (c : Thread nD τ) none) Set.univ (cc0_moe_experts (F := F) i arg1 harg1 arg2 harg2 arg3 harg3 arg4 harg4 arg5 harg5 arg6 harg6 arg7 harg7 arg8 harg8 arg9 harg9 arg10 harg10 arg11 harg11 arg12 harg12 arg13 harg13) Q :=
  (BI.sep_mono (body_sound c i arg1 harg1 arg2 harg2 arg3 harg3 arg4 harg4 arg5 harg5 arg6 harg6 arg7 harg7 arg8 harg8 arg9 harg9 arg10 harg10 arg11 harg11 arg12 harg12 arg13 harg13 q1 q2 T0 T1 x w1 w2 bg bl b2 p y g l u hd)
    (sProp.forall_intro fun _ => .rfl)).trans (wp_wand_r _ _ _)

end Body

end Cert.Proof.EI

end
-- ==== Proof.EI.Run.lean ====
/-
  The launch of the experts' call: the tables the precondition admits, the host operations, the pipeline's proof data, the
  body at a generic point, and the run. Between points the scratch is known to hold the decoded weights of the block before,
  where that was active.
-/
module

public import Idealize.ShloMosaic.Adequacy
public import Idealize.ShloMosaic.Init
public import Idealize.ShloMosaic.Lib.Pipeline.Value
public import Idealize.ShloMosaic.Lib.StableHlo.RunRead
public import Idealize.ShloMosaic.Lib.Pipeline.FrameBody
public import Idealize.ShloMosaic.Lib.Pipeline.Frame
public import Idealize.ShloMosaic.Lib.Pipeline.Regions
public import proofs.«01_k».proof.Proof.EI.Body

@[expose] public section

noncomputable section

namespace Cert.Proof.EI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

variable (m : (ℓ : Loc nD τ sig) → Buf (Elt F) ℓ) (ρ : Dev nD → PrngReg)

/-- The tables' contents at launch. -/
def pf0 : pre0.Contents (Elt F) := fun k => m (((0 : Dev nD) : Thread nD τ).loc (pre0.ref k))

def tbl0 : S316.Idx → BitVec 32 := fun x => pf0 m 0 x
def tbl1 : S1.Idx → BitVec 32 := fun x => pf0 m 1 x

/-- What the precondition says of the tables: every block's expert is one of the thirty-two, and a block is active. -/
structure PreOK : Prop where
  expert_lt : ∀ n h, (expertAt (tbl0 m) n h).toNat < 32
  active_pos : 1 ≤ (activeNo (tbl1 m)).toInt

theorem coord_val (t : Fin grid0.N) : (grid0.coords t 0).val = t.val := by
  have h : t.val < 316 := lt_of_lt_of_eq t.isLt N_0
  rw [Pipeline.Grid.coords_val t 0 (S := 1) (B := 316) (by decide) (by decide)]
  omega

/-- The expert's word, as the index maps read it. -/
theorem at_expert (i : grid0.Coords) : (pf0 m).at 0 (Rect.unit (s := S316) ![(Scalar.indexCast (BitVec.ofNat 32 (i 0).val)).toNat] S1.size (Facts₀.k0_off1_inb i)) Facts₀.numel1_S1
    = expertAt (tbl0 m) (i 0).val (lt316 i) :=
  word1 (tbl0 m) i _ _

theorem at_active (i : grid0.Coords) : (pf0 m).at 1 (Rect.unit (s := S1) ![0] S1.size Facts₀.inb_S1_S1_0) Facts₀.numel1_S1 = activeNo (tbl1 m) :=
  word0 (tbl1 m) _ _

/-- The row of blocks fetched at a point: the point's own, or the last active one past those. -/
def rowBlk (i : grid0.Coords) : ℕ := (Scalar.minsi (BitVec.ofNat 32 (i 0).val) (Scalar.subi (activeNo (tbl1 m)) 1#32)).toNat

theorem tr0 (i : grid0.Coords) : cc0_transform_0 Facts₀.inb_S1_S1_0 Facts₀.numel1_S1 (pf0 m) i = ![rowBlk m i, 0] := by
  unfold cc0_transform_0 rowBlk
  rw [← at_active m i]
  rfl

theorem tr1 (i : grid0.Coords) : cc0_transform_1 Facts₀.k0_off1_inb Facts₀.numel1_S1 (pf0 m) i = ![(expertAt (tbl0 m) (i 0).val (lt316 i)).toNat, 0, 0] := by
  unfold cc0_transform_1
  rw [← at_expert m i]
  rfl

theorem tr2 (i : grid0.Coords) : cc0_transform_2 Facts₀.k0_off1_inb Facts₀.numel1_S1 (pf0 m) i = ![(expertAt (tbl0 m) (i 0).val (lt316 i)).toNat, 0, 0] := by
  unfold cc0_transform_2
  rw [← at_expert m i]
  rfl

theorem tr3 (i : grid0.Coords) : cc0_transform_3 Facts₀.k0_off1_inb Facts₀.numel1_S1 (pf0 m) i = ![(expertAt (tbl0 m) (i 0).val (lt316 i)).toNat, 0, 0] := by
  unfold cc0_transform_3
  rw [← at_expert m i]
  rfl

theorem tr4 (i : grid0.Coords) : cc0_transform_4 Facts₀.k0_off1_inb Facts₀.numel1_S1 (pf0 m) i = ![(expertAt (tbl0 m) (i 0).val (lt316 i)).toNat, 0, 0] := by
  unfold cc0_transform_4
  rw [← at_expert m i]
  rfl

theorem tr5 (i : grid0.Coords) : cc0_transform_5 Facts₀.k0_off1_inb Facts₀.numel1_S1 (pf0 m) i = ![(expertAt (tbl0 m) (i 0).val (lt316 i)).toNat, 0, 0] := by
  unfold cc0_transform_5
  rw [← at_expert m i]
  rfl

theorem rowBlk_eq (h : PreOK m) (i : grid0.Coords) :
    rowBlk m i = if ((i 0).val : ℤ) < (activeNo (tbl1 m)).toInt then (i 0).val else (activeNo (tbl1 m)).toNat - 1 := by
  have h1 := h.active_pos
  have hi := lt316 i
  unfold rowBlk
  generalize activeNo (tbl1 m) = n at h1 ⊢
  have hn : n.toNat < 2 ^ 31 ∧ 1 ≤ n.toNat ∧ n.toInt = n.toNat := by
    have := n.isLt
    rw [BitVec.toInt_eq_toNat_cond] at h1 ⊢
    split_ifs at h1 ⊢ with hh <;> omega
  have e1 : (n - 1#32).toNat = n.toNat - 1 := by
    rw [BitVec.toNat_sub]; simp; omega
  have e2 : (BitVec.ofNat 32 (i 0).val).toNat = (i 0).val := by rw [BitVec.toNat_ofNat]; omega
  show (IntOp.minsi (BitVec.ofNat 32 (i 0).val) (n - 1#32)).toNat = _
  unfold IntOp.minsi
  rw [BitVec.slt_eq_decide]
  simp only [BitVec.toInt_eq_toNat_cond, e1, e2, hn.2.2]
  split_ifs with ha hb hb <;> simp only [decide_eq_true_eq] at * <;> omega

theorem rowBlk_lt (h : PreOK m) (i : grid0.Coords) : rowBlk m i < 316 := by
  have h1 := h.active_pos
  have hi := lt316 i
  have := (activeNo (tbl1 m)).isLt
  rw [rowBlk_eq m h]
  rw [BitVec.toInt_eq_toNat_cond] at h1 ⊢
  split_ifs at h1 ⊢ <;> omega

theorem ok_pf0 (h : PreOK m) : ok0 (pf0 m) := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [tr0]
    have h0 := rowBlk_lt m h i
    intro a
    fin_cases a
    · show (rowBlk m i + 1) * 512 ≤ 161792; omega
    · show (0 + 1) * 1024 ≤ 1024; omega
  · rw [tr1]
    have h0 := h.expert_lt (i 0).val (lt316 i)
    intro a
    fin_cases a
    · show ((expertAt (tbl0 m) (i 0).val (lt316 i)).toNat + 1) * 1 ≤ 32; omega
    · show (0 + 1) * 1024 ≤ 1024; omega
    · show (0 + 1) * 2048 ≤ 2048; omega
  · rw [tr2]
    have h0 := h.expert_lt (i 0).val (lt316 i)
    intro a
    fin_cases a
    · show ((expertAt (tbl0 m) (i 0).val (lt316 i)).toNat + 1) * 1 ≤ 32; omega
    · show (0 + 1) * 1024 ≤ 1024; omega
    · show (0 + 1) * 1024 ≤ 1024; omega
  · rw [tr3]
    have h0 := h.expert_lt (i 0).val (lt316 i)
    intro a
    fin_cases a
    · show ((expertAt (tbl0 m) (i 0).val (lt316 i)).toNat + 1) * 1 ≤ 32; omega
    · show (0 + 1) * 1 ≤ 1; omega
    · show (0 + 1) * 1024 ≤ 1024; omega
  · rw [tr4]
    have h0 := h.expert_lt (i 0).val (lt316 i)
    intro a
    fin_cases a
    · show ((expertAt (tbl0 m) (i 0).val (lt316 i)).toNat + 1) * 1 ≤ 32; omega
    · show (0 + 1) * 1 ≤ 1; omega
    · show (0 + 1) * 1024 ≤ 1024; omega
  · rw [tr5]
    have h0 := h.expert_lt (i 0).val (lt316 i)
    intro a
    fin_cases a
    · show ((expertAt (tbl0 m) (i 0).val (lt316 i)).toNat + 1) * 1 ≤ 32; omega
    · show (0 + 1) * 1 ≤ 1; omega
    · show (0 + 1) * 1024 ≤ 1024; omega

/-! ## The launch -/

variable (h : PreOK m)

/-- The tables as admissible contents. -/
def adm : (pcfg0 (F := F)).Adm := ⟨pf0 m, ok_pf0 m h⟩

/-- The pipeline there. -/
abbrev cfgA : Cfg sig Λ₀ := cfg0 (adm m h)

/-- The buffers as the pipeline finds them, after the host operations. -/
def V (c : Dev nD) (b : Ref sig .tc) : Buf (Elt F) ((c : Thread nD τ).loc b) :=
  StableHlo.after [hostOps0, hostOps0_1, hostOps0_2].flatten (fun b => m (c, b)) b

/-- The block of window `w` at point `t`. -/
def iblk (c : Dev nD) (w : Fin (cfgA m h).W) (t : Fin (cfgA m h).N) : ((((cfgA m h).win w).xblock ((cfgA m h).grid.coords t)).Idx → Elt F ((cfgA m h).win w).elt) :=
  (((cfgA m h).win w).blk t).view.read (Elt F) (V m c (Pipeline.arrRef spec0 w))

/-- The block of the result at point `t`. -/
def oblk (c : Dev nD) (t : Fin (cfgA m h).N) : Vec F S512x1024 .f32 :=
  outV (grid0.coords t) (activeNo (tbl1 m)) (iblk m h c 0 t) (iblk m h c 1 t) (iblk m h c 2 t) (iblk m h c 3 t) (iblk m h c 4 t) (iblk m h c 5 t) (iblk m h c 6 t)

/-- What is known of the scratch before point `t`: it holds the weights of the block before, if that was active. -/
def Carried (c : Dev nD) (n : ℕ) (g l u : Vec F S1024x1024 .bf16) : Prop :=
  ∀ s : Fin (cfgA m h).N, s.val + 1 = n → k0_cond2 (grid0.coords s) (activeNo (tbl1 m)) = 1#1 →
    Decoded (iblk m h c 1 s) (iblk m h c 2 s) (iblk m h c 6 s) g l u

/-- What the points carry: the scratch, the generator's register, and a half of each table. -/
def Φc (c : Dev nD) (n : ℕ) : sProp 𝕄 :=
  iprop((∃ g l u, owns (c : Thread nD τ) (Memref.whole cc0_scratch0) fullShare g ∗ owns (c : Thread nD τ) (Memref.whole cc0_scratch1) fullShare l
      ∗ owns (c : Thread nD τ) (Memref.whole cc0_scratch2) fullShare u ∗ ⌜Carried m h c n g l u⌝)
    ∗ (∃ r, prngReg c r)
    ∗ owns (c : Thread nD τ) (Memref.whole main_arg0) fullShare.right (tbl0 m) ∗ owns (c : Thread nD τ) (Memref.whole main_arg1) fullShare.right (tbl1 m))

def dats (_ : Fin 1) (c : Dev nD) : Dat τ (Elt F) Unit ℕ (UR sig nD τ) ℕ (cfgA m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => iblk m h c 5 t
    | ⟨6, _⟩ => iblk m h c 6 t
    | ⟨7, _⟩ => oblk m h c t
  Φ t := Φc m h c t.val
  q w := Pipeline.shareOf spec0 w
  owed _ := 0

theorem A_eq (c : Dev nD) (w : Fin (cfgA m h).W) : (dats m h 0 c).A w = V m c (Pipeline.arrRef spec0 w) := by
  dsimp only [dats]

theorem after_0 (c : Dev nD) (t : Fin (cfgA m h).N) : (dats m h 0 c).after 0 t = iblk m h c 0 t := by dsimp only [dats]; rfl
theorem after_1 (c : Dev nD) (t : Fin (cfgA m h).N) : (dats m h 0 c).after 1 t = iblk m h c 1 t := by dsimp only [dats]; rfl
theorem after_2 (c : Dev nD) (t : Fin (cfgA m h).N) : (dats m h 0 c).after 2 t = iblk m h c 2 t := by dsimp only [dats]; rfl
theorem after_3 (c : Dev nD) (t : Fin (cfgA m h).N) : (dats m h 0 c).after 3 t = iblk m h c 3 t := by dsimp only [dats]; rfl
theorem after_4 (c : Dev nD) (t : Fin (cfgA m h).N) : (dats m h 0 c).after 4 t = iblk m h c 4 t := by dsimp only [dats]; rfl
theorem after_5 (c : Dev nD) (t : Fin (cfgA m h).N) : (dats m h 0 c).after 5 t = iblk m h c 5 t := by dsimp only [dats]; rfl
theorem after_6 (c : Dev nD) (t : Fin (cfgA m h).N) : (dats m h 0 c).after 6 t = iblk m h c 6 t := by dsimp only [dats]; rfl
theorem after_7 (c : Dev nD) (t : Fin (cfgA m h).N) : (dats m h 0 c).after 7 t = oblk m h c t := by dsimp only [dats]; rfl

theorem before_0 (c : Dev nD) (t : Fin (cfgA m h).N) (d) : (dats m h 0 c).before 0 t d = iblk m h c 0 t :=
  (dats m h 0 c).before_in_eq_fetched 0 rfl (fun _ => rfl) (fun _ _ _ => rfl) (fun t => by rw [after_0]; rfl) t d
theorem before_1 (c : Dev nD) (t : Fin (cfgA m h).N) (d) : (dats m h 0 c).before 1 t d = iblk m h c 1 t :=
  (dats m h 0 c).before_in_eq_fetched 1 rfl (fun _ => rfl) (fun _ _ _ => rfl) (fun t => by rw [after_1]; rfl) t d
theorem before_2 (c : Dev nD) (t : Fin (cfgA m h).N) (d) : (dats m h 0 c).before 2 t d = iblk m h c 2 t :=
  (dats m h 0 c).before_in_eq_fetched 2 rfl (fun _ => rfl) (fun _ _ _ => rfl) (fun t => by rw [after_2]; rfl) t d
theorem before_3 (c : Dev nD) (t : Fin (cfgA m h).N) (d) : (dats m h 0 c).before 3 t d = iblk m h c 3 t :=
  (dats m h 0 c).before_in_eq_fetched 3 rfl (fun _ => rfl) (fun _ _ _ => rfl) (fun t => by rw [after_3]; rfl) t d
theorem before_4 (c : Dev nD) (t : Fin (cfgA m h).N) (d) : (dats m h 0 c).before 4 t d = iblk m h c 4 t :=
  (dats m h 0 c).before_in_eq_fetched 4 rfl (fun _ => rfl) (fun _ _ _ => rfl) (fun t => by rw [after_4]; rfl) t d
theorem before_5 (c : Dev nD) (t : Fin (cfgA m h).N) (d) : (dats m h 0 c).before 5 t d = iblk m h c 5 t :=
  (dats m h 0 c).before_in_eq_fetched 5 rfl (fun _ => rfl) (fun _ _ _ => rfl) (fun t => by rw [after_5]; rfl) t d
theorem before_6 (c : Dev nD) (t : Fin (cfgA m h).N) (d) : (dats m h 0 c).before 6 t d = iblk m h c 6 t :=
  (dats m h 0 c).before_in_eq_fetched 6 rfl (fun _ => rfl) (fun _ _ _ => rfl) (fun t => by rw [after_6]; rfl) t d

/-! Two points of one expert have one block of its weights. -/

theorem iblk1_congr (c : Dev nD) (s t : Fin (cfgA m h).N)
    (e : expertAt (tbl0 m) (grid0.coords s 0).val (lt316 _) = expertAt (tbl0 m) (grid0.coords t 0).val (lt316 _)) : iblk m h c 1 s = iblk m h c 1 t := by
  have hi : ((cfgA m h).win 1).index s = ((cfgA m h).win 1).index t := by
    show cc0_transform_1 Facts₀.k0_off1_inb Facts₀.numel1_S1 (pf0 m) (grid0.coords s) = cc0_transform_1 Facts₀.k0_off1_inb Facts₀.numel1_S1 (pf0 m) (grid0.coords t)
    rw [tr1, tr1, e]
  exact (dats m h 0 c).fetched_congr 1 hi rfl (iblk m h c 1 s)

theorem iblk2_congr (c : Dev nD) (s t : Fin (cfgA m h).N)
    (e : expertAt (tbl0 m) (grid0.coords s 0).val (lt316 _) = expertAt (tbl0 m) (grid0.coords t 0).val (lt316 _)) : iblk m h c 2 s = iblk m h c 2 t := by
  have hi : ((cfgA m h).win 2).index s = ((cfgA m h).win 2).index t := by
    show cc0_transform_2 Facts₀.k0_off1_inb Facts₀.numel1_S1 (pf0 m) (grid0.coords s) = cc0_transform_2 Facts₀.k0_off1_inb Facts₀.numel1_S1 (pf0 m) (grid0.coords t)
    rw [tr2, tr2, e]
  exact (dats m h 0 c).fetched_congr 2 hi rfl (iblk m h c 2 s)

theorem iblk6_congr (c : Dev nD) (s t : Fin (cfgA m h).N)
    (e : expertAt (tbl0 m) (grid0.coords s 0).val (lt316 _) = expertAt (tbl0 m) (grid0.coords t 0).val (lt316 _)) : iblk m h c 6 s = iblk m h c 6 t := by
  have hi : ((cfgA m h).win 6).index s = ((cfgA m h).win 6).index t := by
    rfl
  exact (dats m h 0 c).fetched_congr 6 hi rfl (iblk m h c 6 s)

abbrev st_0 (t : Fin (cfgA m h).N) := ((cfgA m h).win 0).stage ((cfgA m h).slots t 0)
abbrev st_1 (t : Fin (cfgA m h).N) := ((cfgA m h).win 1).stage ((cfgA m h).slots t 1)
abbrev st_2 (t : Fin (cfgA m h).N) := ((cfgA m h).win 2).stage ((cfgA m h).slots t 2)
abbrev st_3 (t : Fin (cfgA m h).N) := ((cfgA m h).win 3).stage ((cfgA m h).slots t 3)
abbrev st_4 (t : Fin (cfgA m h).N) := ((cfgA m h).win 4).stage ((cfgA m h).slots t 4)
abbrev st_5 (t : Fin (cfgA m h).N) := ((cfgA m h).win 5).stage ((cfgA m h).slots t 5)
abbrev st_6 (t : Fin (cfgA m h).N) := ((cfgA m h).win 6).stage ((cfgA m h).slots t 6)
abbrev st_7 (t : Fin (cfgA m h).N) := ((cfgA m h).win 7).stage ((cfgA m h).slots t 7)

/-- The body at point `t`, on what the pipeline calls it with. -/
abbrev bodyAt (t : Fin (cfgA m h).N) : Prog (TpuEff nD τ sig (Elt F) Λ₀ .tc) PUnit :=
  cc0_moe_experts (grid0.coords t) (Memref.whole main_arg0) (Memref.isWhole_whole _) (Memref.whole main_arg1) (Memref.isWhole_whole _)
    (st_0 m h t) (hstage0_0 (((cfgA m h).slots t 0).cast nbuf0_0))
    (st_1 m h t) (hstage0_1 (((cfgA m h).slots t 1).cast nbuf0_1))
    (st_2 m h t) (hstage0_2 (((cfgA m h).slots t 2).cast nbuf0_2))
    (st_3 m h t) (hstage0_3 (((cfgA m h).slots t 3).cast nbuf0_3))
    (st_4 m h t) (hstage0_4 (((cfgA m h).slots t 4).cast nbuf0_4))
    (st_5 m h t) (hstage0_5 (((cfgA m h).slots t 5).cast nbuf0_5))
    (st_6 m h t) (hstage0_6 (((cfgA m h).slots t 6).cast nbuf0_6))
    (st_7 m h t) (hstage0_7 (((cfgA m h).slots t 7).cast nbuf0_7))
    (Memref.whole cc0_scratch0) (Memref.isWhole_whole _) (Memref.whole cc0_scratch1) (Memref.isWhole_whole _) (Memref.whole cc0_scratch2) (Memref.isWhole_whole _)

def bodyPre (c : Dev nD) (t : Fin (cfgA m h).N) : sProp 𝕄 :=
  iprop((dats m h 0 c).Φ t.castSucc ∗ (dats m h 0 c).owesAt () t.castSucc
    ∗ (∃ d, owns (c : Thread nD τ) (st_0 m h t) fullShare ((dats m h 0 c).before 0 t d))
    ∗ (∃ d, owns (c : Thread nD τ) (st_1 m h t) fullShare ((dats m h 0 c).before 1 t d))
    ∗ (∃ d, owns (c : Thread nD τ) (st_2 m h t) fullShare ((dats m h 0 c).before 2 t d))
    ∗ (∃ d, owns (c : Thread nD τ) (st_3 m h t) fullShare ((dats m h 0 c).before 3 t d))
    ∗ (∃ d, owns (c : Thread nD τ) (st_4 m h t) fullShare ((dats m h 0 c).before 4 t d))
    ∗ (∃ d, owns (c : Thread nD τ) (st_5 m h t) fullShare ((dats m h 0 c).before 5 t d))
    ∗ (∃ d, owns (c : Thread nD τ) (st_6 m h t) fullShare ((dats m h 0 c).before 6 t d))
    ∗ (∃ d, owns (c : Thread nD τ) (st_7 m h t) fullShare ((dats m h 0 c).before 7 t d)))

def bodyPost (c : Dev nD) (t : Fin (cfgA m h).N) : sProp 𝕄 :=
  iprop((dats m h 0 c).Φ t.succ ∗ (dats m h 0 c).owesAt () t.succ
    ∗ owns (c : Thread nD τ) (st_0 m h t) fullShare ((dats m h 0 c).after 0 t)
    ∗ owns (c : Thread nD τ) (st_1 m h t) fullShare ((dats m h 0 c).after 1 t)
    ∗ owns (c : Thread nD τ) (st_2 m h t) fullShare ((dats m h 0 c).after 2 t)
    ∗ owns (c : Thread nD τ) (st_3 m h t) fullShare ((dats m h 0 c).after 3 t)
    ∗ owns (c : Thread nD τ) (st_4 m h t) fullShare ((dats m h 0 c).after 4 t)
    ∗ owns (c : Thread nD τ) (st_5 m h t) fullShare ((dats m h 0 c).after 5 t)
    ∗ owns (c : Thread nD τ) (st_6 m h t) fullShare ((dats m h 0 c).after 6 t)
    ∗ owns (c : Thread nD τ) (st_7 m h t) fullShare ((dats m h 0 c).after 7 t))

/-- Where the body does not decode, the scratch holds what the block before left. -/
theorem carried_now (c : Dev nD) (t : Fin (cfgA m h).N) (g l u : Vec F S1024x1024 .bf16) (hc : Carried m h c t.val g l u)
    (ha : k0_cond2 (grid0.coords t) (activeNo (tbl1 m)) = 1#1) (hf : ¬ freshT (grid0.coords t) (tbl0 m) (tbl1 m) = 1#1) :
    Decoded (iblk m h c 1 t) (iblk m h c 2 t) (iblk m h c 6 t) g l u := by
  obtain ⟨h0, he⟩ := not_fresh _ _ _ _ ha hf
  have hv := coord_val t
  have hlt : t.val - 1 < (cfgA m h).N := lt_of_le_of_lt (Nat.sub_le _ _) t.isLt
  have hs := coord_val (⟨t.val - 1, hlt⟩ : Fin grid0.N)
  have hs' : (grid0.coords (⟨t.val - 1, hlt⟩ : Fin grid0.N) 0).val = t.val - 1 := hs
  have hact : k0_cond2 (grid0.coords (⟨t.val - 1, hlt⟩ : Fin grid0.N)) (activeNo (tbl1 m)) = 1#1 := by
    rw [cond2_iff] at ha ⊢
    rw [hs']
    rw [hv] at ha
    omega
  have hd := hc ⟨t.val - 1, hlt⟩ (by show t.val - 1 + 1 = t.val; omega) hact
  have e : expertAt (tbl0 m) (grid0.coords (⟨t.val - 1, hlt⟩ : Fin grid0.N) 0).val (lt316 _) = expertAt (tbl0 m) (grid0.coords t 0).val (lt316 _) := by
    rw [he]
    congr 1
    rw [hs', hv]
  rwa [iblk1_congr m h c _ t e, iblk2_congr m h c _ t e, iblk6_congr m h c _ t e] at hd

theorem sound_body (c : Dev nD) (t : Fin (cfgA m h).N) :
    bodyPre m h c t ⊢ wp frame (wpE (defs₀ (F := F)) 𝒱₀ (c : Thread nD τ) none) Set.univ (bodyAt m h t) (fun _ => bodyPost m h c t) := by
  unfold bodyPre bodyPost
  simp only [before_0, before_1, before_2, before_3, before_4, before_5, before_6]
  rw [show (dats m h 0 c).Φ t.succ = Φc m h c (t.val + 1) from rfl, show (dats m h 0 c).Φ t.castSucc = Φc m h c t.val from rfl,
    show (dats m h 0 c).owesAt () t.succ = (dats m h 0 c).owesAt () t.castSucc from rfl,
    after_0, after_1, after_2, after_3, after_4, after_5, after_6, after_7]
  unfold Φc
  iintro ⟨⟨⟨%g, %l, %u, HG, HL, HU, %hc⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_sound_wand c (grid0.coords t) (Memref.whole main_arg0) (Memref.isWhole_whole _) (Memref.whole main_arg1) (Memref.isWhole_whole _)
    (st_0 m h t) (hstage0_0 (((cfgA m h).slots t 0).cast nbuf0_0))
    (st_1 m h t) (hstage0_1 (((cfgA m h).slots t 1).cast nbuf0_1))
    (st_2 m h t) (hstage0_2 (((cfgA m h).slots t 2).cast nbuf0_2))
    (st_3 m h t) (hstage0_3 (((cfgA m h).slots t 3).cast nbuf0_3))
    (st_4 m h t) (hstage0_4 (((cfgA m h).slots t 4).cast nbuf0_4))
    (st_5 m h t) (hstage0_5 (((cfgA m h).slots t 5).cast nbuf0_5))
    (st_6 m h t) (hstage0_6 (((cfgA m h).slots t 6).cast nbuf0_6))
    (st_7 m h t) (hstage0_7 (((cfgA m h).slots t 7).cast nbuf0_7))
    (Memref.whole cc0_scratch0) (Memref.isWhole_whole _) (Memref.whole cc0_scratch1) (Memref.isWhole_whole _) (Memref.whole cc0_scratch2) (Memref.isWhole_whole _)
    fullShare.right fullShare.right (tbl0 m) (tbl1 m) (iblk m h c 0 t) (iblk m h c 1 t) (iblk m h c 2 t) (iblk m h c 3 t) (iblk m h c 4 t) (iblk m h c 5 t)
    (iblk m h c 6 t) ((dats m h 0 c).before 7 t d7) g l u (carried_now m h c t g l u hc) _)
  unfold givenB leftB
  isplitr [Ho Hr]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HG]; · iexact HG
    isplitl [HL]; · iexact HL
    iexact HU
  iintro ⟨HT0, HT1, H0, H1, H2, H3, H4, H5, H6, H7, %g', %l', %u', HG, HL, HU, %hd⟩
  isplitr [Ho H0 H1 H2 H3 H4 H5 H6 H7]
  · isplitl [HG HL HU]
    · iexists g', l', u'
      isplitl [HG]; · iexact HG
      isplitl [HL]; · iexact HL
      isplitl [HU]; · iexact HU
      ipureintro
      intro s hs ha
      obtain rfl : s = t := Fin.ext (by omega)
      exact hd ha
    isplitl [Hr]; · iexact Hr
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgA m h).N) :
    defs₀ (F := F) .tc (cfgA m h).body ((cfgA m h).bodyArgs t ((cfgA m h).slots t)) = bodyAt m h t := by
  unfold defs₀; rw [Defs.onTc_tc]; rfl

/-- The body stores the result's block at every point: what it computed, or zeros. -/
theorem live7 (t : Fin (cfgA m h).N) : (cfgA m h).idle 7 ((cfgA m h).grid.coords t) = false := by
  show (!(k0_cond2 (grid0.coords t) ((pf0 m).atD 1 ![0]) == 1#1) && !(k0_cond3 (grid0.coords t) ((pf0 m).atD 1 ![0]) == 1#1)) = false
  have := cond3_iff (grid0.coords t) ((pf0 m).atD 1 ![0])
  by_cases ha : k0_cond2 (grid0.coords t) ((pf0 m).atD 1 ![0]) = 1#1
  · rw [ha]; rfl
  · rw [this.2 ha]; cases (k0_cond2 (grid0.coords t) ((pf0 m).atD 1 ![0]) == 1#1) <;> rfl

theorem body_obligation (c : Dev nD) : BodyObligation (dats m h 0 c) (defs₀ (F := F)) 𝒱₀ () Set.univ := fun t => by
  rw [bigSep_W0, bigSep_W0, defs₀_row, live7]
  exact triple_restated (sound_body m h c t) rfl .rfl fun _ => .rfl

theorem hostOps_fresh : [hostOps0 (F := F), hostOps0_1, hostOps0_2].Forall fun ops => ops.Forall fun op => op.fresh = ∅ := by
  simp only [hostOps0, hostOps0_1, hostOps0_2, List.Forall]
  repeat' constructor

theorem hostOps_sub : [hostOps0 (F := F), hostOps0_1, hostOps0_2].Forall fun ops => ops.Forall fun op => op.bufs ⊆ StableHlo.tcRefs τ sig :=
  ⟨hostOps0_sub, hostOps0_1_sub, hostOps0_2_sub⟩

theorem V_arg0 (c : Dev nD) : V m c main_arg0 = m ((c.tc : Thread nD τ).loc main_arg0) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg1 (c : Dev nD) : V m c main_arg1 = m ((c.tc : Thread nD τ).loc main_arg1) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg2 (c : Dev nD) : V m c main_arg2 = m ((c.tc : Thread nD τ).loc main_arg2) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg3 (c : Dev nD) : V m c main_arg3 = m ((c.tc : Thread nD τ).loc main_arg3) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg4 (c : Dev nD) : V m c main_arg4 = m ((c.tc : Thread nD τ).loc main_arg4) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg5 (c : Dev nD) : V m c main_arg5 = m ((c.tc : Thread nD τ).loc main_arg5) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_arg6 (c : Dev nD) : V m c main_arg6 = m ((c.tc : Thread nD τ).loc main_arg6) := by
  unfold V
  exact StableHlo.after_unwritten [main_v0, main_v1, main_v2, main_v3, main_c, main_v4, main_v5, main_c_0, main_v6, main_v7, main_c_1, main_v8, main_v9, main_c_2, main_v10, main_v11, main_c_3, main_v12, main_v13, main_v14, main_v15, main_v16, main_v17, main_v18, main_v19, main_v20, main_v21, main_v22, main_v23] rfl (by decide) _

theorem V_tables (c : Dev nD) (k : Fin 2) : V m c (pre0.ref k) = (adm m h).1 k := by
  obtain rfl : c = 0 := Subsingleton.elim _ _
  fin_cases k
  · exact V_arg0 m 0
  · exact V_arg1 m 0

/-- The tables' halves, one by one. -/
theorem tables_eq (c : Dev nD) : (Pipeline.ΦT pre0 (pf0 m) c : sProp 𝕄)
    = iprop(owns (c : Thread nD τ) (Memref.whole main_arg0) fullShare.right (tbl0 m) ∗ owns (c : Thread nD τ) (Memref.whole main_arg1) fullShare.right (tbl1 m)) := by
  unfold Pipeline.ΦT Pipeline.prefHeld
  rw [show (Finset.univ : Finset (Fin 2)) = insert 0 {1} from by decide, bigSep_insert (by decide), bigSep_singleton, owns_whole, owns_whole]
  rfl

theorem start_Φ (c : Dev nD) : iprop(Pipeline.ΦA spec0 c ∗ Pipeline.ΦT pre0 (pf0 m) c) ⊢ Φc m h c 0 := by
  unfold Pipeline.ΦA Φc
  rw [tables_eq, scopedRest0_eq, ← (Memref.isWhole_whole cc0_scratch0).exists_owns_eq (c := (c : Thread nD τ)) fullShare,
    ← (Memref.isWhole_whole cc0_scratch1).exists_owns_eq (c := (c : Thread nD τ)) fullShare,
    ← (Memref.isWhole_whole cc0_scratch2).exists_owns_eq (c := (c : Thread nD τ)) fullShare]
  iintro ⟨⟨⟨⟨%g, HG⟩, ⟨%l, HL⟩, ⟨%u, HU⟩⟩, Hr⟩, HT0, HT1⟩
  isplitl [HG HL HU]
  · iexists g, l, u
    isplitl [HG]; · iexact HG
    isplitl [HL]; · iexact HL
    isplitl [HU]; · iexact HU
    ipureintro
    intro s hs
    exact absurd hs (Nat.succ_ne_zero _)
  isplitl [Hr]; · iexact Hr
  isplitl [HT0]; · iexact HT0
  iexact HT1

theorem end_Φ (c : Dev nD) (n : ℕ) : Φc m h c n ⊢ (Pipeline.ΦA spec0 c : sProp 𝕄) := by
  unfold Pipeline.ΦA Φc
  rw [scopedRest0_eq, ← (Memref.isWhole_whole cc0_scratch0).exists_owns_eq (c := (c : Thread nD τ)) fullShare,
    ← (Memref.isWhole_whole cc0_scratch1).exists_owns_eq (c := (c : Thread nD τ)) fullShare,
    ← (Memref.isWhole_whole cc0_scratch2).exists_owns_eq (c := (c : Thread nD τ)) fullShare]
  iintro ⟨⟨%g, %l, %u, HG, HL, HU, -⟩, Hr, -⟩
  isplitr [Hr]
  · isplitl [HG]; · iexists g; iexact HG
    isplitl [HL]; · iexists l; iexact HL
    iexists u; iexact HU
  iexact Hr

set_option backward.isDefEq.respectTransparency.types false in
/-- The run: every array of the pipeline ends at what the proof data gives, every other buffer as the pipeline found it,
    and every counter at zero. -/
theorem run_main : θ_run defs (onTc (τ := τ) (main (F := F))) (s₀ m ρ)
    (fun r => (Pipeline.FramePost (Pipeline.pin pcfgs fun _ => adm m h) (dats m h) 0 (V m)) r ∧ r.2.sem = fun _ => 0) :=
  Pipeline.θ_run_frameP_track_shared (Q' := _) pcfgs (fun _ => adm m h) (dats m h) (0 : Fin 1) launch0.to₀ defs₀ 𝒱₀ m ρ main
    (hbody := fun c => (body_obligation m h c).loose) (hq := fun _ _ _ => rfl)
    (howed := fun _ _ => rfl) (V := V m)
    (hmain := Pipeline.hmainP_prefixes pcfgs 0 defs₀ 𝒱₀ m main [hostOps0, hostOps0_1, hostOps0_2] hostOps_sub hostOps_fresh main_chain)
    (hA := A_eq m h) (hpf := V_tables m h) (hin := start_Φ m h) (hout := fun c => end_Φ m h c _)

theorem rest_mem0 : main_arg0 ∈ Pipeline.restRefs sig spec0 := by decide
theorem rest_mem1 : main_arg1 ∈ Pipeline.restRefs sig spec0 := by decide
theorem rest_mem4 : main_arg4 ∈ Pipeline.restRefs sig spec0 := by decide
theorem rest_mem6 : main_arg6 ∈ Pipeline.restRefs sig spec0 := by decide

/-- Every argument as it was. -/
def Kept (r : PUnit × MemSt nD τ sig (Elt F)) (c : Dev nD) : Prop :=
  r.2.mem ((c.tc : Thread nD τ).loc main_arg0) = m ((c.tc : Thread nD τ).loc main_arg0) ∧
  r.2.mem ((c.tc : Thread nD τ).loc main_arg1) = m ((c.tc : Thread nD τ).loc main_arg1) ∧
  r.2.mem ((c.tc : Thread nD τ).loc main_arg2) = m ((c.tc : Thread nD τ).loc main_arg2) ∧
  r.2.mem ((c.tc : Thread nD τ).loc main_arg3) = m ((c.tc : Thread nD τ).loc main_arg3) ∧
  r.2.mem ((c.tc : Thread nD τ).loc main_arg4) = m ((c.tc : Thread nD τ).loc main_arg4) ∧
  r.2.mem ((c.tc : Thread nD τ).loc main_arg5) = m ((c.tc : Thread nD τ).loc main_arg5) ∧
  r.2.mem ((c.tc : Thread nD τ).loc main_arg6) = m ((c.tc : Thread nD τ).loc main_arg6)

include h in
/-- The frame: every execution terminates, the arguments as they were, every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r hr => ⟨fun c =>
    ⟨((hr.1 c).2 main_arg0 rest_mem0).trans (V_arg0 m c), ((hr.1 c).2 main_arg1 rest_mem1).trans (V_arg1 m c),
      ((hr.1 c).1 0).trans (((dats m h 0 c).arrAt_in 0 rfl _).trans (V_arg2 m c)),
      ((hr.1 c).1 1).trans (((dats m h 0 c).arrAt_in 1 rfl _).trans (V_arg3 m c)),
      ((hr.1 c).2 main_arg4 rest_mem4).trans (V_arg4 m c),
      ((hr.1 c).1 2).trans (((dats m h 0 c).arrAt_in 2 rfl _).trans (V_arg5 m c)),
      ((hr.1 c).2 main_arg6 rest_mem6).trans (V_arg6 m c)⟩, hr.2⟩) (run_main m ρ h)

end Cert.Proof.EI

end
-- ==== Proof.EI.Pre.lean ====
module

public import proofs.«01_k».proof.Defs
public import proofs.«01_k».proof.Proof.EI.Run
public import proofs.«01_k».proof.Proof.E.Run
public import proofs.«01_k».proof.Proof.Gen.Pre_tables_ok

/-! What the stated precondition says of the two integer tables, word by word: every entry of the first names one
of the thirty-two experts, and the second says at least one. -/

@[expose] public section

noncomputable section

namespace Cert.Proof.EI.Pre

open Idealize.ShloMosaic Idealize.SL.Sem

theorem both_bits (p q : Bool) : IntOp.andi (BitVec.ofBool p) (BitVec.ofBool q) = BitVec.ofBool (p && q) := by
  cases p <;> cases q <;> decide

theorem bit_set (p : Bool) : BitVec.ofBool p = 1#1 ↔ p = true := by cases p <;> decide

variable {F : FTy → Type} [FloatOps F]

theorem named_expert (a0 : IVec Cert.Pre_tables_ok.S316 32) (a1 : IVec Cert.Pre_tables_ok.S1 32) (a2 : FVec F Cert.Pre_tables_ok.S161792x1024 .f32)
    (a3 : FVec F Cert.Pre_tables_ok.S32x1024x2048 .f32) (a4 : FVec F Cert.Pre_tables_ok.S32x2048 .f32)
    (a5 : FVec F Cert.Pre_tables_ok.S32x1024x1024 .f32) (a6 : FVec F Cert.Pre_tables_ok.S32x1024 .f32)
    (h : (Cert.Pre_tables_ok.fn (F := F) a0 a1 a2 a3 a4 a5 a6).1 = fun _ => 1#1) (x : Cert.Pre_tables_ok.S316.Idx) :
    (a0 x).toNat < 32 := by
  have e := congrFun h x
  simp only [Cert.Pre_tables_ok.fn, andi, cmpi, broadcastInDim, constantI] at e
  simp only [IntOp.cmpi, both_bits, bit_set, Bool.and_eq_true, BitVec.sle_eq_decide, BitVec.slt_eq_decide, decide_eq_true_eq,
    BitVec.toInt_eq_toNat_cond, BitVec.toNat_ofNat, Nat.reducePow, Nat.reduceMod] at e
  omega

theorem some_active (a0 : IVec Cert.Pre_tables_ok.S316 32) (a1 : IVec Cert.Pre_tables_ok.S1 32) (a2 : FVec F Cert.Pre_tables_ok.S161792x1024 .f32)
    (a3 : FVec F Cert.Pre_tables_ok.S32x1024x2048 .f32) (a4 : FVec F Cert.Pre_tables_ok.S32x2048 .f32)
    (a5 : FVec F Cert.Pre_tables_ok.S32x1024x1024 .f32) (a6 : FVec F Cert.Pre_tables_ok.S32x1024 .f32)
    (h : (Cert.Pre_tables_ok.fn (F := F) a0 a1 a2 a3 a4 a5 a6).2 = fun _ => 1#1) (x : Cert.Pre_tables_ok.S1.Idx) :
    1 ≤ (a1 x).toInt := by
  have e := congrFun h x
  simp only [Cert.Pre_tables_ok.fn, cmpi, broadcastInDim, constantI] at e
  simp only [IntOp.cmpi, bit_set, BitVec.sle_eq_decide, decide_eq_true_eq] at e
  exact e

end Cert.Proof.EI.Pre

namespace Cert.Proof.EI

open Idealize.ShloMosaic Idealize.SL.Sem

theorem pre_ok {m} (h : Cert.Pre_ExpertsIdeal m) : PreOK (F := Ideal) m where
  expert_lt n hn := Pre.named_expert _ _ _ _ _ _ _ (h 0).1 _
  active_pos := Pre.some_active _ _ _ _ _ _ _ (h 0).2 _

end Cert.Proof.EI

namespace Cert.Proof.E

open Idealize.ShloMosaic Idealize.SL.Sem

theorem pre_ok {m} (h : Cert.Pre_Experts m) : PreOK (F := Bits) m where
  expert_lt n hn := EI.Pre.named_expert _ _ _ _ _ _ _ (h 0).1 _
  active_pos := EI.Pre.some_active _ _ _ _ _ _ _ (h 0).2 _

end Cert.Proof.E

end
-- ==== Proof.EI.Value.lean ====
module

public import proofs.«01_k».proof.Proof.EI.Model
public import Idealize.ShloMosaic.Lib.Pointwise
public import Idealize.ShloMosaic.PureOps.Ideal.Laws

/-! The block an active point writes, over the extended reals: the decoded weights are the even and the odd columns of
the expert's first matrix, and the result an index at a time. -/

@[expose] public section

noncomputable section

namespace Cert.Proof.EI

open Cert.ExpertsIdeal Cert.ExpertsIdeal.Gen
open Idealize.ShloMosaic Idealize.SL.Sem

/-- A strip of columns at an index. -/
theorem cols_at (w : Vec Ideal S1x1024x2048 .f32) (o : ℕ) (h) (r : Fin 1024) (k : Fin 256) (c : Fin 2048) (hc : c.val = o + k.val) :
    (cols w o h (ix3 0 r k) : EReal) = w (ix3 0 r c) := by
  unfold cols
  show w ((Rect.unit (s := S1x1024x2048) ![0, 0, o] S1x1024x256.size h).emb (ix3 0 r k)) = w _
  congr 1
  funext a
  apply Fin.ext
  match a with
  | ⟨0, _⟩ => rfl
  | ⟨1, _⟩ => show 0 + 1 * r.val = r.val; omega
  | ⟨2, _⟩ => show o + 1 * k.val = c.val; omega

/-- The rearranging matrix: in its column `j` stands a one in the row of the even column for the left half, of the odd
column for the right half, and zeros elsewhere. -/
def Sorts (p : Vec Ideal S256x256 .bf16) : Prop := ∀ k j : Fin 256,
  (p (ix2 k j) : EReal) = if k.val = (if j.val < 128 then 2 * j.val else 2 * (j.val - 128) + 1) then 1 else 0

section
variable {w : Vec Ideal S1x1024x2048 .f32} {p : Vec Ideal S256x256 .bf16} (hp : Sorts p) (r : Fin 1024) (l : Fin 128)
include hp

/-- A row of a strip against the rearranging matrix's column is the one element that column names. -/
theorem sorted_sum (o : ℕ) (h) (j : Fin 256) (c : Fin 2048)
    (hc : c.val = o + (if j.val < 128 then 2 * j.val else 2 * (j.val - 128) + 1)) :
    (∑ k : Fin 256, (cols w o h (ix3 0 r k) : EReal) * p (ix2 k j)) = w (ix3 0 r c) := by
  have hj := j.isLt
  rw [Finset.sum_eq_single (⟨if j.val < 128 then 2 * j.val else 2 * (j.val - 128) + 1, by split <;> omega⟩ : Fin 256)]
  · rw [hp, if_pos rfl, mul_one]
    exact cols_at w o h r _ c hc
  · intro b _ hb
    rw [hp, if_neg (fun e => hb (Fin.ext e)), mul_zero]
  · intro hn
    exact absurd (Finset.mem_univ _) hn

/-- The even strips. -/
theorem evenStrip_at (s : ℕ) (hs : s < 8) (c : Fin 2048) (hc : c.val = 256 * s + 2 * l.val) :
    (evenStrip w p s (ix2 r l) : EReal) = w (ix3 0 r c) := by
  have hl := l.isLt
  have hj : (⟨l.val, by omega⟩ : Fin 256).val < 128 := hl
  match s, hs, hc with
  | 0, _, hc =>
    refine Eq.trans ?_ (sorted_sum hp r 0 inb_S1x1024x2048_S1x1024x256_0_0_0 ⟨l.val, by omega⟩ c (by rw [if_pos hj]; show c.val = 0 + 2 * l.val; omega))
    show (k0_pay10 (F := Ideal) _ _ (ix2 r l) : EReal) = _
    pointwise [k0_pay10, k0_pay9]
  | 1, _, hc =>
    refine Eq.trans ?_ (sorted_sum hp r 256 inb_S1x1024x2048_S1x1024x256_0_0_256 ⟨l.val, by omega⟩ c (by rw [if_pos hj]; show c.val = 256 + 2 * l.val; omega))
    show (k0_pay13 (F := Ideal) _ _ (ix2 r l) : EReal) = _
    pointwise [k0_pay13, k0_pay12]
  | 2, _, hc =>
    refine Eq.trans ?_ (sorted_sum hp r 512 inb_S1x1024x2048_S1x1024x256_0_0_512 ⟨l.val, by omega⟩ c (by rw [if_pos hj]; show c.val = 512 + 2 * l.val; omega))
    show (k0_pay16 (F := Ideal) _ _ (ix2 r l) : EReal) = _
    pointwise [k0_pay16, k0_pay15]
  | 3, _, hc =>
    refine Eq.trans ?_ (sorted_sum hp r 768 inb_S1x1024x2048_S1x1024x256_0_0_768 ⟨l.val, by omega⟩ c (by rw [if_pos hj]; show c.val = 768 + 2 * l.val; omega))
    show (k0_pay19 (F := Ideal) _ _ (ix2 r l) : EReal) = _
    pointwise [k0_pay19, k0_pay18]
  | 4, _, hc =>
    refine Eq.trans ?_ (sorted_sum hp r 1024 inb_S1x1024x2048_S1x1024x256_0_0_1024 ⟨l.val, by omega⟩ c (by rw [if_pos hj]; show c.val = 1024 + 2 * l.val; omega))
    show (k0_pay23 (F := Ideal) _ _ (ix2 r l) : EReal) = _
    pointwise [k0_pay23, k0_pay22, k0_pay21]
  | 5, _, hc =>
    refine Eq.trans ?_ (sorted_sum hp r 1280 inb_S1x1024x2048_S1x1024x256_0_0_1280 ⟨l.val, by omega⟩ c (by rw [if_pos hj]; show c.val = 1280 + 2 * l.val; omega))
    show (k0_pay26 (F := Ideal) _ _ (ix2 r l) : EReal) = _
    pointwise [k0_pay26, k0_pay25]
  | 6, _, hc =>
    refine Eq.trans ?_ (sorted_sum hp r 1536 inb_S1x1024x2048_S1x1024x256_0_0_1536 ⟨l.val, by omega⟩ c (by rw [if_pos hj]; show c.val = 1536 + 2 * l.val; omega))
    show (k0_pay1 (F := Ideal) _ (ix2 r l) : EReal) = _
    pointwise [k0_pay1, k0_pay28]
  | 7, _, hc =>
    refine Eq.trans ?_ (sorted_sum hp r 1792 inb_S1x1024x2048_S1x1024x256_0_0_1792 ⟨l.val, by omega⟩ c (by rw [if_pos hj]; show c.val = 1792 + 2 * l.val; omega))
    show (k0_pay4 (F := Ideal) _ _ (ix2 r l) : EReal) = _
    pointwise [k0_pay4, k0_pay3]

/-- The odd strips. -/
theorem oddStrip_at (s : ℕ) (hs : s < 8) (c : Fin 2048) (hc : c.val = 256 * s + 2 * l.val + 1) :
    (oddStrip w p s (ix2 r l) : EReal) = w (ix3 0 r c) := by
  have hl := l.isLt
  have hj : ¬ (⟨128 + l.val, by omega⟩ : Fin 256).val < 128 := by show ¬ 128 + l.val < 128; omega
  match s, hs, hc with
  | 0, _, hc =>
    refine Eq.trans ?_ (sorted_sum hp r 0 inb_S1x1024x2048_S1x1024x256_0_0_0 ⟨128 + l.val, by omega⟩ c
      (by rw [if_neg hj]; show c.val = 0 + (2 * (128 + l.val - 128) + 1); omega))
    show (k0_pay11 (F := Ideal) _ _ (ix2 r l) : EReal) = _
    pointwise [k0_pay11, k0_pay9]
  | 1, _, hc =>
    refine Eq.trans ?_ (sorted_sum hp r 256 inb_S1x1024x2048_S1x1024x256_0_0_256 ⟨128 + l.val, by omega⟩ c
      (by rw [if_neg hj]; show c.val = 256 + (2 * (128 + l.val - 128) + 1); omega))
    show (k0_pay14 (F := Ideal) _ _ (ix2 r l) : EReal) = _
    pointwise [k0_pay14, k0_pay12]
  | 2, _, hc =>
    refine Eq.trans ?_ (sorted_sum hp r 512 inb_S1x1024x2048_S1x1024x256_0_0_512 ⟨128 + l.val, by omega⟩ c
      (by rw [if_neg hj]; show c.val = 512 + (2 * (128 + l.val - 128) + 1); omega))
    show (k0_pay17 (F := Ideal) _ _ (ix2 r l) : EReal) = _
    pointwise [k0_pay17, k0_pay15]
  | 3, _, hc =>
    refine Eq.trans ?_ (sorted_sum hp r 768 inb_S1x1024x2048_S1x1024x256_0_0_768 ⟨128 + l.val, by omega⟩ c
      (by rw [if_neg hj]; show c.val = 768 + (2 * (128 + l.val - 128) + 1); omega))
    show (k0_pay20 (F := Ideal) _ _ (ix2 r l) : EReal) = _
    pointwise [k0_pay20, k0_pay18]
  | 4, _, hc =>
    refine Eq.trans ?_ (sorted_sum hp r 1024 inb_S1x1024x2048_S1x1024x256_0_0_1024 ⟨128 + l.val, by omega⟩ c
      (by rw [if_neg hj]; show c.val = 1024 + (2 * (128 + l.val - 128) + 1); omega))
    show (k0_pay24 (F := Ideal) _ _ (ix2 r l) : EReal) = _
    pointwise [k0_pay24, k0_pay22, k0_pay21]
  | 5, _, hc =>
    refine Eq.trans ?_ (sorted_sum hp r 1280 inb_S1x1024x2048_S1x1024x256_0_0_1280 ⟨128 + l.val, by omega⟩ c
      (by rw [if_neg hj]; show c.val = 1280 + (2 * (128 + l.val - 128) + 1); omega))
    show (k0_pay27 (F := Ideal) _ _ (ix2 r l) : EReal) = _
    pointwise [k0_pay27, k0_pay25]
  | 6, _, hc =>
    refine Eq.trans ?_ (sorted_sum hp r 1536 inb_S1x1024x2048_S1x1024x256_0_0_1536 ⟨128 + l.val, by omega⟩ c
      (by rw [if_neg hj]; show c.val = 1536 + (2 * (128 + l.val - 128) + 1); omega))
    show (k0_pay2 (F := Ideal) _ (ix2 r l) : EReal) = _
    pointwise [k0_pay2, k0_pay28]
  | 7, _, hc =>
    refine Eq.trans ?_ (sorted_sum hp r 1792 inb_S1x1024x2048_S1x1024x256_0_0_1792 ⟨128 + l.val, by omega⟩ c
      (by rw [if_neg hj]; show c.val = 1792 + (2 * (128 + l.val - 128) + 1); omega))
    show (k0_pay5 (F := Ideal) _ _ (ix2 r l) : EReal) = _
    pointwise [k0_pay5, k0_pay3]
end

section
variable {w : Vec Ideal S1x1024x2048 .f32} {p : Vec Ideal S256x256 .bf16} (hp : Sorts p) (r : Fin 1024) (j : Fin 1024)
include hp

theorem evenW_at : (evenW w p (ix2 r j) : EReal) = w (ix3 0 r ⟨2 * j.val, by have := j.isLt; omega⟩) := by
  have hj := j.isLt
  refine Eq.trans ?_ (evenStrip_at hp r ⟨j.val % 128, by omega⟩ (j.val / 128) (by omega) _ (by show 2 * j.val = 256 * (j.val / 128) + 2 * (j.val % 128); omega))
  show evenStrip w p (j.val / 128) (inStrip (ix2 r j)) = _
  congr 1
  exact funext fun a => match a with
    | ⟨0, _⟩ => rfl
    | ⟨1, _⟩ => rfl

theorem oddW_at : (oddW w p (ix2 r j) : EReal) = w (ix3 0 r ⟨2 * j.val + 1, by have := j.isLt; omega⟩) := by
  have hj := j.isLt
  refine Eq.trans ?_ (oddStrip_at hp r ⟨j.val % 128, by omega⟩ (j.val / 128) (by omega) _ (by show 2 * j.val + 1 = 256 * (j.val / 128) + 2 * (j.val % 128) + 1; omega))
  show oddStrip w p (j.val / 128) (inStrip (ix2 r j)) = _
  congr 1
  exact funext fun a => match a with
    | ⟨0, _⟩ => rfl
    | ⟨1, _⟩ => rfl
end

/-! ## The gate -/

theorem half_bits : Ideal.ofBits .f32 0x3F000000#32 = ((1 / 2 : ℝ) : EReal) := by
  simp [Ideal.ofBits, Ideal.ieee, -EReal.coe_mul]; norm_num

/-- Half the hyperbolic tangent of half the argument, plus a half, is the logistic function, at the infinities too. -/
theorem gate_eq (z : EReal) : ((1 / 2 : ℝ) : EReal) * Ideal.tanh (((1 / 2 : ℝ) : EReal) * z) + ((1 / 2 : ℝ) : EReal) = Ideal.div 1 (1 + Ideal.exp (-z)) := by
  have hh : (0 : EReal) < ((1 / 2 : ℝ) : EReal) := by exact_mod_cast (by norm_num : (0 : ℝ) < 1 / 2)
  induction z using EReal.rec with
  | bot =>
    rw [EReal.mul_bot_of_pos hh]
    show ((1 / 2 : ℝ) : EReal) * (-1) + _ = Ideal.div 1 (1 + ⊤)
    unfold Ideal.div
    rw [EReal.add_top_of_ne_bot (by decide), if_neg EReal.top_ne_zero, EReal.inv_top, mul_zero]
    have : (-1 : EReal) = ((-1 : ℝ) : EReal) := by norm_num
    rw [this, ← EReal.coe_mul, ← EReal.coe_add]
    norm_num
  | top =>
    rw [EReal.mul_top_of_pos hh]
    show ((1 / 2 : ℝ) : EReal) * 1 + _ = Ideal.div 1 (1 + 0)
    unfold Ideal.div
    rw [add_zero, if_neg one_ne_zero, mul_one, ← EReal.coe_add]
    norm_num
  | coe r =>
    rw [← EReal.coe_mul, ← EReal.coe_neg]
    show ((1 / 2 : ℝ) : EReal) * ((Real.tanh (1 / 2 * r) : ℝ) : EReal) + _ = Ideal.div 1 (1 + ((Real.exp (-r) : ℝ) : EReal))
    have hp : (0 : ℝ) < 1 + Real.exp (-r) := by positivity
    have e1 : (1 : EReal) + ((Real.exp (-r) : ℝ) : EReal) = ((1 + Real.exp (-r) : ℝ) : EReal) := by norm_cast
    unfold Ideal.div
    rw [e1, if_neg (by exact_mod_cast hp.ne'), one_mul, ← EReal.coe_inv, ← EReal.coe_mul, ← EReal.coe_add]
    congr 1
    have ha : Real.exp (1 / 2 * r) ≠ 0 := (Real.exp_pos _).ne'
    have eb : Real.exp (-r) = Real.exp (-(1 / 2 * r)) * Real.exp (-(1 / 2 * r)) := by rw [← Real.exp_add]; congr 1; ring
    rw [Real.tanh_eq_sinh_div_cosh, Real.sinh_eq, Real.cosh_eq, eb, Real.exp_neg]
    have hs : Real.exp (1 / 2 * r) + (Real.exp (1 / 2 * r))⁻¹ ≠ 0 := by positivity
    have ht : 1 + (Real.exp (1 / 2 * r))⁻¹ * (Real.exp (1 / 2 * r))⁻¹ ≠ 0 := by positivity
    generalize Real.exp (1 / 2 * r) = a at ha hs ht
    field_simp
    ring

/-! ## The block's result -/

/-- The activation of a pair of sums. -/
def glu (g l : EReal) : EReal :=
  min g (Ideal.ofBits .f32 0x40E00000#32) * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

theorem pay29_at (x : Vec Ideal S512x1024 .f32) (g l : Vec Ideal S1024x1024 .bf16) (bg bl : Vec Ideal S1x1x1024 .f32) (r : Fin 512) (j : Fin 1024) :
    (k0_pay29 x g bg l bl (ix2 r j) : EReal) = glu (∑ k, x (ix2 r k) * g (ix2 k j) + bg (ix3 0 0 j)) (∑ k, x (ix2 r k) * l (ix2 k j) + bl (ix3 0 0 j)) := by
  pointwise [k0_pay29]
  unfold glu
  rw [half_bits, gate_eq]

theorem actV_at (x : Vec Ideal S512x1024 .f32) (g l u : Vec Ideal S1024x1024 .bf16) (bg bl b2 : Vec Ideal S1x1x1024 .f32) (r : Fin 512) (j : Fin 1024) :
    (actV x g l u bg bl b2 (ix2 r j) : EReal)
      = ∑ k, glu (∑ d, x (ix2 r d) * g (ix2 d k) + bg (ix3 0 0 k)) (∑ d, x (ix2 r d) * l (ix2 d k) + bl (ix3 0 0 k)) * u (ix2 k j) + b2 (ix3 0 0 j) := by
  unfold actV
  have e := fun k => pay29_at x g l bg bl r k
  generalize k0_pay29 x g bg l bl = a at e
  refine Eq.trans (b := ∑ k, (a (ix2 r k) : EReal) * u (ix2 k j) + b2 (ix3 0 0 j)) (by pointwise [k0_pay7]) ?_
  simp only [e]

theorem pay6_at (w : Vec Ideal S1x1024x1024 .f32) (r : Fin 1024) (j : Fin 1024) :
    (k0_pay6 w (ix2 r j) : EReal) = w (ix3 0 r j) := by
  pointwise [k0_pay6]

theorem pay8_at (r : Fin 512) (j : Fin 1024) :
    (k0_pay8 (F := Ideal) (ix2 r j) : EReal) = 0 := by
  pointwise [k0_pay8]

/-- The block of the result at an active point, from the windows' blocks. -/
theorem active_at {p : Vec Ideal S256x256 .bf16} (hp : Sorts p) (x : Vec Ideal S512x1024 .f32) (w1 : Vec Ideal S1x1024x2048 .f32) (w2 : Vec Ideal S1x1024x1024 .f32)
    (bg bl b2 : Vec Ideal S1x1x1024 .f32) (r : Fin 512) (j : Fin 1024) :
    (actV x (evenW w1 p) (oddW w1 p) (k0_pay6 w2) bg bl b2 (ix2 r j) : EReal)
      = ∑ k : Fin 1024, glu (∑ d : Fin 1024, x (ix2 r d) * w1 (ix3 0 d ⟨2 * k.val, by have := k.isLt; omega⟩) + bg (ix3 0 0 k))
          (∑ d : Fin 1024, x (ix2 r d) * w1 (ix3 0 d ⟨2 * k.val + 1, by have := k.isLt; omega⟩) + bl (ix3 0 0 k)) * w2 (ix3 0 k j) + b2 (ix3 0 0 j) := by
  rw [actV_at]
  simp only [evenW_at hp, oddW_at hp, pay6_at]

end Cert.Proof.EI

end
-- ==== Proof.EI.Host.lean ====
module

public import proofs.«01_k».proof.Proof.EI.Pre
public import proofs.«01_k».proof.Proof.EI.Value
public import Idealize.ShloMosaic.Lib.StableHlo.ReadAt

/-! What the pipeline of the experts' call finds: the host operations before it, read at an index. -/

@[expose] public section

noncomputable section

namespace Cert.Proof.EI

open Cert.ExpertsIdeal Cert.ExpertsIdeal.Gen
open Idealize.ShloMosaic Idealize.ShloMosaic.TcCoe Idealize.SL.Sem

variable (m : (ℓ : Loc nD τ sig) → Buf (Elt Ideal) ℓ)

theorem V20_at (c : Dev nD) (e : Fin 32) (k : Fin 1024) :
    (V m c main_v20 (ix3 e 0 k) : EReal) = m ((c.tc : Thread nD τ).loc main_arg4) (ix2 e ⟨2 * k.val, by have := k.isLt; omega⟩) := by
  unfold V
  after_reads_at

theorem V22_at (c : Dev nD) (e : Fin 32) (k : Fin 1024) :
    (V m c main_v22 (ix3 e 0 k) : EReal) = m ((c.tc : Thread nD τ).loc main_arg4) (ix2 e ⟨2 * k.val + 1, by have := k.isLt; omega⟩) := by
  have h : (⟨2 * k.val + 1, by have := k.isLt; omega⟩ : Fin 2048) = ⟨1 + 2 * k.val, by have := k.isLt; omega⟩ := Fin.ext (Nat.add_comm _ _)
  rw [h]
  unfold V
  after_reads_at

theorem V23_at (c : Dev nD) (e : Fin 32) (k : Fin 1024) :
    (V m c main_v23 (ix3 e 0 k) : EReal) = m ((c.tc : Thread nD τ).loc main_arg6) (ix2 e k) := by
  unfold V
  after_reads_at

/-- The row of the column's one, as the host computes it. -/
theorem row_word : ∀ j < 256, Scalar.select (IntOp.cmpi CmpIPredicate.slt (BitVec.ofNat 32 j) 128#32) (IntOp.muli (2#32) (BitVec.ofNat 32 j))
    (IntOp.addi (IntOp.muli (2#32) (IntOp.subi (BitVec.ofNat 32 j) 128#32)) 1#32) = BitVec.ofNat 32 (if j < 128 then 2 * j else 2 * (j - 128) + 1) := by
  decide +kernel

theorem same_word {k v : ℕ} (hk : k < 256) (hv : v < 256) : IntOp.cmpi CmpIPredicate.eq (BitVec.ofNat 32 k) (BitVec.ofNat 32 v) = if k = v then 1#1 else 0#1 := by
  have h : (BitVec.ofNat 32 k = BitVec.ofNat 32 v) ↔ k = v := by
    rw [← BitVec.toNat_inj, BitVec.toNat_ofNat, BitVec.toNat_ofNat, Nat.mod_eq_of_lt (by omega), Nat.mod_eq_of_lt (by omega)]
  show BitVec.ofBool (BitVec.ofNat 32 k == BitVec.ofNat 32 v) = _
  by_cases e : k = v
  · subst e; simp
  · rw [if_neg e, beq_eq_false_iff_ne.2 (fun he => e (h.1 he))]; rfl

theorem sorts (c : Dev nD) : Sorts (V m c main_v18) := by
  intro k j
  have hj := j.isLt
  unfold V
  after_reads_at
  rw [row_word _ hj, same_word k.isLt (by split <;> omega)]
  generalize (if j.val < 128 then 2 * j.val else 2 * (j.val - 128) + 1) = v
  by_cases e : k.val = v
  · rw [if_pos e, if_pos e]
    show (((1#1 : BitVec 1).toNat : ℝ) : EReal) = 1
    simp
  · rw [if_neg e, if_neg e]
    show (((0#1 : BitVec 1).toNat : ℝ) : EReal) = 0
    simp

end Cert.Proof.EI

end
-- ==== Proof.EI.Ref.lean ====
module

public import proofs.«01_k».proof.Proof.EI.Value
public import proofs.«01_k».proof.Proof.Gen.ExpertsReferenceIdeal.Read

/-! The reference of the experts' call read at an index: each block's row against its expert's matrices. -/

@[expose] public section

noncomputable section

namespace Cert.Proof.EI.Ref

open Cert.ExpertsReferenceIdeal Cert.ExpertsReferenceIdeal.Gen Cert.ExpertsReferenceIdeal.Read
open Idealize.ShloMosaic Idealize.SL.Sem

variable (x0 : (⟨S316, .i32⟩ : BufTy).Contents (Elt Ideal)) (x1 : (⟨S1, .i32⟩ : BufTy).Contents (Elt Ideal))
  (x2 : (⟨S161792x1024, .f32⟩ : BufTy).Contents (Elt Ideal)) (x3 : (⟨S32x1024x2048, .f32⟩ : BufTy).Contents (Elt Ideal))
  (x4 : (⟨S32x2048, .f32⟩ : BufTy).Contents (Elt Ideal)) (x5 : (⟨S32x1024x1024, .f32⟩ : BufTy).Contents (Elt Ideal))
  (x6 : (⟨S32x1024, .f32⟩ : BufTy).Contents (Elt Ideal))

/-- A word that names an expert is its own clamped row. -/
theorem row_clamped {v : BitVec 32} {e : Fin 32} (he : v.toNat = e.val) : min v.toInt.toNat (32 - 1) + 0 + 0 = e.val := by
  have h : v.toInt.toNat = e.val := by
    have := e.isLt
    rw [← he, BitVec.toInt_eq_toNat_cond, if_pos (by omega)]; rfl
  have := e.isLt
  omega

/-- A word that names an expert is not negative. -/
theorem kept {v : BitVec 32} (h : v.toNat < 32) (w : BitVec 32) : Scalar.select (IntOp.cmpi .slt v 0#32) w v = v := by
  have e : IntOp.cmpi .slt v 0#32 = 0#1 := by
    have : v.slt 0#32 = false := by
      rw [BitVec.slt_eq_decide, decide_eq_false_iff_not, BitVec.toInt_eq_toNat_cond, if_pos (by omega)]
      simp
    unfold IntOp.cmpi
    simp only [this]
    rfl
  rw [e]
  rfl

theorem gather1 (idx : IVec S316x1 32) (n : Fin 316) (a : Fin 1024) (b : Fin 2048) (e : Fin 32) (he : (idx (ix2 n 0)).toNat = e.val) :
    Host.gather gather_S32x1024x2048_S316x1_S316x1024x2048_12_0_n_n_0_1_110242048 x3 idx (ix3 n a b) = x3 (ix3 e a b) := by
  show x3 _ = x3 _
  congr 1
  funext q
  apply Fin.ext
  match q with
  | ⟨0, _⟩ =>
    refine Eq.trans ?_ (row_clamped he)
    show min (idx _).toInt.toNat (32 - 1) + 0 + 0 = _
    refine congrArg (fun q => min (idx q).toInt.toNat (32 - 1) + 0 + 0) (funext fun q => match q with
      | ⟨0, _⟩ => rfl
      | ⟨1, _⟩ => rfl)
  | ⟨1, _⟩ => show 0 + 0 + a.val = a.val; omega
  | ⟨2, _⟩ => show 0 + 0 + b.val = b.val; omega

theorem gather2 (idx : IVec S316x1 32) (n : Fin 316) (a : Fin 2048) (e : Fin 32) (he : (idx (ix2 n 0)).toNat = e.val) :
    Host.gather gather_S32x2048_S316x1_S316x2048_1_0_n_n_0_1_12048 x4 idx (ix2 n a) = x4 (ix2 e a) := by
  show x4 _ = x4 _
  congr 1
  funext q
  apply Fin.ext
  match q with
  | ⟨0, _⟩ =>
    refine Eq.trans ?_ (row_clamped he)
    show min (idx _).toInt.toNat (32 - 1) + 0 + 0 = _
    refine congrArg (fun q => min (idx q).toInt.toNat (32 - 1) + 0 + 0) (funext fun q => match q with
      | ⟨0, _⟩ => rfl
      | ⟨1, _⟩ => rfl)
  | ⟨1, _⟩ => show 0 + 0 + a.val = a.val; omega

theorem gather3 (idx : IVec S316x1 32) (n : Fin 316) (a : Fin 1024) (b : Fin 1024) (e : Fin 32) (he : (idx (ix2 n 0)).toNat = e.val) :
    Host.gather gather_S32x1024x1024_S316x1_S316x1024x1024_12_0_n_n_0_1_110241024 x5 idx (ix3 n a b) = x5 (ix3 e a b) := by
  show x5 _ = x5 _
  congr 1
  funext q
  apply Fin.ext
  match q with
  | ⟨0, _⟩ =>
    refine Eq.trans ?_ (row_clamped he)
    show min (idx _).toInt.toNat (32 - 1) + 0 + 0 = _
    refine congrArg (fun q => min (idx q).toInt.toNat (32 - 1) + 0 + 0) (funext fun q => match q with
      | ⟨0, _⟩ => rfl
      | ⟨1, _⟩ => rfl)
  | ⟨1, _⟩ => show 0 + 0 + a.val = a.val; omega
  | ⟨2, _⟩ => show 0 + 0 + b.val = b.val; omega

theorem gather4 (idx : IVec S316x1 32) (n : Fin 316) (a : Fin 1024) (e : Fin 32) (he : (idx (ix2 n 0)).toNat = e.val) :
    Host.gather gather_S32x1024_S316x1_S316x1024_1_0_n_n_0_1_11024 x6 idx (ix2 n a) = x6 (ix2 e a) := by
  show x6 _ = x6 _
  congr 1
  funext q
  apply Fin.ext
  match q with
  | ⟨0, _⟩ =>
    refine Eq.trans ?_ (row_clamped he)
    show min (idx _).toInt.toNat (32 - 1) + 0 + 0 = _
    refine congrArg (fun q => min (idx q).toInt.toNat (32 - 1) + 0 + 0) (funext fun q => match q with
      | ⟨0, _⟩ => rfl
      | ⟨1, _⟩ => rfl)
  | ⟨1, _⟩ => show 0 + 0 + a.val = a.val; omega

section
variable (n : Fin 316) (e : Fin 32) (he : (x0 (ix1 n)).toNat = e.val)
include he

theorem word_v6 : (val_main_v6 (F := Ideal) x0 (ix2 n 0)).toNat = e.val := by
  have hl := e.isLt
  have hi : idx_main_v6 (ix2 n 0) = ix1 n := funext fun q => match q with
    | ⟨0, _⟩ => rfl
  rw [val_main_v6_apply, hi, val_main_v5_apply, val_main_v2_apply, val_main_v1_apply, val_main_c_apply, kept (by omega), he]

theorem word_v14 : (val_main_v14 (F := Ideal) x0 (ix2 n 0)).toNat = e.val := by
  have hl := e.isLt
  have hi : idx_main_v14 (ix2 n 0) = ix1 n := funext fun q => match q with
    | ⟨0, _⟩ => rfl
  rw [val_main_v14_apply, hi, val_main_v13_apply, val_main_v10_apply, val_main_v9_apply, val_main_c_1_apply, kept (by omega), he]

theorem word_v41 : (val_main_v41 (F := Ideal) x0 (ix2 n 0)).toNat = e.val := by
  have hl := e.isLt
  have hi : idx_main_v41 (ix2 n 0) = ix1 n := funext fun q => match q with
    | ⟨0, _⟩ => rfl
  rw [val_main_v41_apply, hi, val_main_v40_apply, val_main_v37_apply, val_main_v36_apply, val_main_c_9_apply, kept (by omega), he]

theorem word_v49 : (val_main_v49 (F := Ideal) x0 (ix2 n 0)).toNat = e.val := by
  have hl := e.isLt
  have hi : idx_main_v49 (ix2 n 0) = ix1 n := funext fun q => match q with
    | ⟨0, _⟩ => rfl
  rw [val_main_v49_apply, hi, val_main_v48_apply, val_main_v45_apply, val_main_v44_apply, val_main_c_11_apply, kept (by omega), he]

theorem sum_at (r : Fin 512) (c : Fin 2048) (R : Fin 161792) (hR : R.val = n.val * 512 + r.val) :
    (val_main_v18 (F := Ideal) x0 x2 x3 x4 (ix3 n r c) : EReal) = (∑ d : Fin 1024, x2 (ix2 R d) * x3 (ix3 e d c)) + x4 (ix2 e c) := by
  have hr := r.isLt
  rw [val_main_v18_apply, val_main_v8_apply, val_main_v17_apply, val_main_v16_apply]
  show _ + _ = _
  refine congrArg₂ (· + ·) (Finset.sum_congr rfl fun d _ => congrArg₂ (· * ·) ?_ ?_) ?_
  · have hd := d.isLt
    rw [val_main_v0_apply]
    congr 1
    funext q
    apply Fin.ext
    match q with
    | ⟨0, _⟩ => show ((n.val * 512 + r.val) * 1024 + d.val) / 1024 = R.val; omega
    | ⟨1, _⟩ => show ((n.val * 512 + r.val) * 1024 + d.val) % 1024 = d.val; omega
  · rw [show ridx_main_v8 (ix3 n r c) d = ix3 n d c from funext fun q => match q with
    | ⟨0, _⟩ => rfl
    | ⟨1, _⟩ => rfl
    | ⟨2, _⟩ => rfl]
    exact gather1 x3 (val_main_v6 (F := Ideal) x0) n d c e (word_v6 x0 n e he)
  · rw [show idx_main_v16 (idx_main_v17 (ix3 n r c)) = ix2 n c from funext fun q => match q with
    | ⟨0, _⟩ => rfl
    | ⟨1, _⟩ => rfl]
    exact gather2 x4 (val_main_v14 (F := Ideal) x0) n c e (word_v14 x0 n e he)

theorem even_at (r : Fin 512) (k : Fin 1024) (R : Fin 161792) (hR : R.val = n.val * 512 + r.val) :
    (val_main_v19 (F := Ideal) x0 x2 x3 x4 (ix3 n r k) : EReal)
      = (∑ d : Fin 1024, x2 (ix2 R d) * x3 (ix3 e d ⟨2 * k.val, by have := k.isLt; omega⟩)) + x4 (ix2 e ⟨2 * k.val, by have := k.isLt; omega⟩) := by
  refine Eq.trans ?_ (sum_at x0 x2 x3 x4 n e he r _ R hR)
  show val_main_v18 (F := Ideal) x0 x2 x3 x4 _ = _
  congr 1
  funext q
  apply Fin.ext
  match q with
  | ⟨0, _⟩ => show 0 + 1 * n.val = n.val; omega
  | ⟨1, _⟩ => show 0 + 1 * r.val = r.val; omega
  | ⟨2, _⟩ => show 0 + 2 * k.val = 2 * k.val; omega

theorem odd_at (r : Fin 512) (k : Fin 1024) (R : Fin 161792) (hR : R.val = n.val * 512 + r.val) :
    (val_main_v22 (F := Ideal) x0 x2 x3 x4 (ix3 n r k) : EReal)
      = (∑ d : Fin 1024, x2 (ix2 R d) * x3 (ix3 e d ⟨2 * k.val + 1, by have := k.isLt; omega⟩)) + x4 (ix2 e ⟨2 * k.val + 1, by have := k.isLt; omega⟩) := by
  refine Eq.trans ?_ (sum_at x0 x2 x3 x4 n e he r _ R hR)
  show val_main_v18 (F := Ideal) x0 x2 x3 x4 _ = _
  congr 1
  funext q
  apply Fin.ext
  match q with
  | ⟨0, _⟩ => show 0 + 1 * n.val = n.val; omega
  | ⟨1, _⟩ => show 0 + 1 * r.val = r.val; omega
  | ⟨2, _⟩ => show 1 + 2 * k.val = 2 * k.val + 1; omega

omit he in
/-- The activation, from the two sums. -/
theorem act_at (i : S316x512x1024.Idx) : (val_main_v35 (F := Ideal) x0 x2 x3 x4 i : EReal)
    = glu (val_main_v19 (F := Ideal) x0 x2 x3 x4 i) (val_main_v22 (F := Ideal) x0 x2 x3 x4 i) := by
  simp only [val_main_v35_apply, val_main_v32_apply, val_main_v34_apply, val_main_v31_apply, val_main_v33_apply, val_main_v30_apply, val_main_v29_apply,
    val_main_v28_apply, val_main_v27_apply, val_main_v26_apply, val_main_v25_apply, val_main_v24_apply, val_main_v23_apply, val_main_v21_apply, val_main_v20_apply,
    val_main_call0_v4_apply, val_main_call0_v3_apply, val_main_call0_v2_apply, val_main_call0_v1_apply, val_main_call0_v0_apply,
    val_main_cst_apply, val_main_cst_3_apply, val_main_cst_4_apply, val_main_cst_5_apply, val_main_cst_6_apply, val_main_cst_7_apply, val_main_cst_8_apply]
  generalize val_main_v19 (F := Ideal) x0 x2 x3 x4 i = g
  generalize val_main_v22 (F := Ideal) x0 x2 x3 x4 i = l
  unfold glu
  rw [← Ideal.ofBits_one_f32]
  rfl

theorem block_at (r : Fin 512) (j : Fin 1024) (R : Fin 161792) (hR : R.val = n.val * 512 + r.val) :
    (val_main_v53 (F := Ideal) x0 x2 x3 x4 x5 x6 (ix3 n r j) : EReal)
      = (∑ k : Fin 1024, glu ((∑ d : Fin 1024, x2 (ix2 R d) * x3 (ix3 e d ⟨2 * k.val, by have := k.isLt; omega⟩)) + x4 (ix2 e ⟨2 * k.val, by have := k.isLt; omega⟩))
          ((∑ d : Fin 1024, x2 (ix2 R d) * x3 (ix3 e d ⟨2 * k.val + 1, by have := k.isLt; omega⟩)) + x4 (ix2 e ⟨2 * k.val + 1, by have := k.isLt; omega⟩)) * x5 (ix3 e k j))
        + x6 (ix2 e j) := by
  rw [val_main_v53_apply, val_main_v43_apply, val_main_v52_apply, val_main_v51_apply]
  show _ + _ = _
  refine congrArg₂ (· + ·) (Finset.sum_congr rfl fun k _ => congrArg₂ (· * ·) ?_ ?_) ?_
  · rw [show lidx_main_v43 (ix3 n r j) k = ix3 n r k from funext fun q => match q with
    | ⟨0, _⟩ => rfl
    | ⟨1, _⟩ => rfl
    | ⟨2, _⟩ => rfl]
    rw [act_at, even_at x0 x2 x3 x4 n e he r k R hR, odd_at x0 x2 x3 x4 n e he r k R hR]
  · rw [show ridx_main_v43 (ix3 n r j) k = ix3 n k j from funext fun q => match q with
    | ⟨0, _⟩ => rfl
    | ⟨1, _⟩ => rfl
    | ⟨2, _⟩ => rfl]
    exact gather3 x5 (val_main_v41 (F := Ideal) x0) n k j e (word_v41 x0 n e he)
  · rw [show idx_main_v51 (idx_main_v52 (ix3 n r j)) = ix2 n j from funext fun q => match q with
    | ⟨0, _⟩ => rfl
    | ⟨1, _⟩ => rfl]
    exact gather4 x6 (val_main_v49 (F := Ideal) x0) n j e (word_v49 x0 n e he)

end

/-- Which branch a block takes. -/
theorem used_at (n : Fin 316) (r : Fin 512) (j : Fin 1024) :
    val_main_call1_v1 (F := Ideal) x1 (ix3 n r j) = IntOp.cmpi .slt (BitVec.ofNat 32 n.val) (x1 (ix1 0)) := by
  rw [val_main_call1_v1_apply, val_main_v58_apply, val_main_v57_apply, val_main_v54_apply, val_main_v56_apply]
  refine congrArg₂ (IntOp.cmpi .slt) rfl ?_
  unfold val_main_v55
  pointwise

theorem used_iff (n : Fin 316) (v : BitVec 32) : IntOp.cmpi .slt (BitVec.ofNat 32 n.val) v = 1#1 ↔ (n.val : ℤ) < v.toInt := by
  have hn := n.isLt
  have h : (BitVec.ofNat 32 n.val).toInt = n.val := by
    rw [BitVec.toInt_eq_toNat_cond, BitVec.toNat_ofNat, Nat.mod_eq_of_lt (by omega), if_pos (by omega)]
  unfold IntOp.cmpi
  show BitVec.ofBool _ = 1#1 ↔ _
  rw [BitVec.slt_eq_decide, h]
  by_cases hc : (n.val : ℤ) < v.toInt
  · simp [hc]
  · simp [hc]

/-- The reference's result: an active block's rows, and zeros in the blocks that are not active. -/
theorem ref_at (n : Fin 316) (r : Fin 512) (j : Fin 1024) (R : Fin 161792) (hR : R.val = n.val * 512 + r.val) (i : S161792x1024.Idx)
    (h0 : (i 0).val = R.val) (h1 : (i 1).val = j.val) :
    (val_main_v60 (F := Ideal) x0 x1 x2 x3 x4 x5 x6 i : EReal)
      = if (n.val : ℤ) < (x1 (ix1 0)).toInt then val_main_v53 (F := Ideal) x0 x2 x3 x4 x5 x6 (ix3 n r j) else 0 := by
  have hr := r.isLt
  have hj := j.isLt
  have hi : idx_main_v60 i = ix3 n r j := by
    funext q
    apply Fin.ext
    match q with
    | ⟨0, _⟩ => show ((i 0).val * 1024 + (i 1).val) / 524288 = n.val; omega
    | ⟨1, _⟩ => show ((i 0).val * 1024 + (i 1).val) / 1024 % 512 = r.val; omega
    | ⟨2, _⟩ => show ((i 0).val * 1024 + (i 1).val) % 1024 = j.val; omega
  rw [val_main_v60_apply, hi, val_main_v59_apply, used_at]
  by_cases hc : (n.val : ℤ) < (x1 (ix1 0)).toInt
  · rw [if_pos hc, (used_iff n _).2 hc]
    rfl
  · rw [if_neg hc]
    have e : IntOp.cmpi .slt (BitVec.ofNat 32 n.val) (x1 (ix1 0)) = 0#1 := by
      have : ∀ b : BitVec 1, ¬ b = 1#1 → b = 0#1 := by decide
      exact this _ (fun e => hc ((used_iff n _).1 e))
    rw [e]
    show val_main_call1_v2 (F := Ideal) (ix3 n r j) = 0
    rw [val_main_call1_v2_apply]
    exact Ideal.ofBits_zero_f32

end Cert.Proof.EI.Ref

end
-- ==== Proof.EI.Final.lean ====
/-
  The experts' call and its reference end with the same result, element by element over the extended reals.
-/
module

public import proofs.«01_k».proof.Proof.EI.Host
public import proofs.«01_k».proof.Proof.EI.Ref
public import proofs.«01_k».proof.Proof.Gen.ExpertsReferenceIdeal.Run
public import proofs.«01_k».proof.Defs
public import Idealize.ShloMosaic.Lib.Pipeline.ValueKit
public import Idealize.ShloMosaic.Lib.Pipeline.Covers

@[expose] public section

noncomputable section

namespace Cert.Proof.EI

open Cert.ExpertsIdeal Cert.ExpertsIdeal.Gen
open Idealize.ShloMosaic Idealize.ShloMosaic.TcCoe Idealize.SL.Sem

variable (m : (ℓ : Loc nD τ sig) → Buf (Elt Ideal) ℓ) (h : PreOK m)

section
variable (c : Dev nD) (t : Fin (cfgA m h).N)

theorem idx0 : ((cfgA m h).win 0).index t = ![rowBlk m (grid0.coords t), 0] := tr0 m (grid0.coords t)
theorem idx1 : ((cfgA m h).win 1).index t = ![(expertAt (tbl0 m) (grid0.coords t 0).val (lt316 _)).toNat, 0, 0] := tr1 m (grid0.coords t)
theorem idx2 : ((cfgA m h).win 2).index t = ![(expertAt (tbl0 m) (grid0.coords t 0).val (lt316 _)).toNat, 0, 0] := tr2 m (grid0.coords t)
theorem idx3 : ((cfgA m h).win 3).index t = ![(expertAt (tbl0 m) (grid0.coords t 0).val (lt316 _)).toNat, 0, 0] := tr3 m (grid0.coords t)
theorem idx4 : ((cfgA m h).win 4).index t = ![(expertAt (tbl0 m) (grid0.coords t 0).val (lt316 _)).toNat, 0, 0] := tr4 m (grid0.coords t)
theorem idx5 : ((cfgA m h).win 5).index t = ![(expertAt (tbl0 m) (grid0.coords t 0).val (lt316 _)).toNat, 0, 0] := tr5 m (grid0.coords t)
theorem idx6 : ((cfgA m h).win 6).index t = ![0, 0] := rfl
theorem idx7 : ((cfgA m h).win 7).index t = ![(grid0.coords t 0).val, 0] := by
  have hi := lt316 (grid0.coords t)
  show ![(BitVec.ofNat 32 (grid0.coords t 0).val).toNat, 0] = _
  rw [BitVec.toNat_ofNat, Nat.mod_eq_of_lt (by omega)]

/-- An active point's rows are its own. -/
theorem rows_active (ha : ((grid0.coords t 0).val : ℤ) < (activeNo (tbl1 m)).toInt) : rowBlk m (grid0.coords t) = (grid0.coords t 0).val := by
  rw [rowBlk_eq m h, if_pos ha]

theorem blk0_at (ha : ((grid0.coords t 0).val : ℤ) < (activeNo (tbl1 m)).toInt) (r : Fin 512) (d : Fin 1024) (R : Fin 161792)
    (hR : R.val = (grid0.coords t 0).val * 512 + r.val) :
    (iblk m h c 0 t (ix2 r d) : EReal) = m ((c.tc : Thread nD τ).loc main_arg2) (ix2 R d) := by
  have e := idx0 m h t
  rw [rows_active m h t ha] at e
  rw [← V_arg2 m c]
  unfold iblk
  show V m c main_arg2 ((((cfgA m h).win 0).blk t).view.emb (ix2 r d)) = V m c main_arg2 _
  congr 1
  funext a
  apply Fin.ext
  match a with
  | ⟨0, _⟩ =>
    have q := congrFun e (0 : Fin 2)
    show ((cfgA m h).win 0).index t (0 : Fin 2) * 512 + 1 * r.val = R.val
    rw [q]
    show (grid0.coords t 0).val * 512 + 1 * r.val = R.val
    omega
  | ⟨1, _⟩ =>
    have q := congrFun e (1 : Fin 2)
    show ((cfgA m h).win 0).index t (1 : Fin 2) * 1024 + 1 * d.val = d.val
    rw [q]
    show 0 * 1024 + 1 * d.val = d.val
    omega

theorem blk1_at (e : Fin 32) (he : (expertAt (tbl0 m) (grid0.coords t 0).val (lt316 _)).toNat = e.val) (d : Fin 1024) (k : Fin 2048) :
    (iblk m h c 1 t (ix3 0 d k) : EReal) = m ((c.tc : Thread nD τ).loc main_arg3) (ix3 e d k) := by
  have q1 := idx1 m h t
  rw [he] at q1
  rw [← V_arg3 m c]
  unfold iblk
  show V m c main_arg3 ((((cfgA m h).win 1).blk t).view.emb (ix3 0 d k)) = V m c main_arg3 _
  congr 1
  funext a
  apply Fin.ext
  match a with
  | ⟨0, _⟩ =>
    have q := congrFun q1 (0 : Fin 3)
    show ((cfgA m h).win 1).index t (0 : Fin 3) * 1 + 1 * 0 = e.val
    rw [q]
    show e.val * 1 + 1 * 0 = e.val
    omega
  | ⟨1, _⟩ =>
    have q := congrFun q1 (1 : Fin 3)
    show ((cfgA m h).win 1).index t (1 : Fin 3) * 1024 + 1 * d.val = d.val
    rw [q]
    show 0 * 1024 + 1 * d.val = d.val
    omega
  | ⟨2, _⟩ =>
    have q := congrFun q1 (2 : Fin 3)
    show ((cfgA m h).win 1).index t (2 : Fin 3) * 2048 + 1 * k.val = k.val
    rw [q]
    show 0 * 2048 + 1 * k.val = k.val
    omega

theorem blk2_at (e : Fin 32) (he : (expertAt (tbl0 m) (grid0.coords t 0).val (lt316 _)).toNat = e.val) (k : Fin 1024) (j : Fin 1024) :
    (iblk m h c 2 t (ix3 0 k j) : EReal) = m ((c.tc : Thread nD τ).loc main_arg5) (ix3 e k j) := by
  have q1 := idx2 m h t
  rw [he] at q1
  rw [← V_arg5 m c]
  unfold iblk
  show V m c main_arg5 ((((cfgA m h).win 2).blk t).view.emb (ix3 0 k j)) = V m c main_arg5 _
  congr 1
  funext a
  apply Fin.ext
  match a with
  | ⟨0, _⟩ =>
    have q := congrFun q1 (0 : Fin 3)
    show ((cfgA m h).win 2).index t (0 : Fin 3) * 1 + 1 * 0 = e.val
    rw [q]
    show e.val * 1 + 1 * 0 = e.val
    omega
  | ⟨1, _⟩ =>
    have q := congrFun q1 (1 : Fin 3)
    show ((cfgA m h).win 2).index t (1 : Fin 3) * 1024 + 1 * k.val = k.val
    rw [q]
    show 0 * 1024 + 1 * k.val = k.val
    omega
  | ⟨2, _⟩ =>
    have q := congrFun q1 (2 : Fin 3)
    show ((cfgA m h).win 2).index t (2 : Fin 3) * 1024 + 1 * j.val = j.val
    rw [q]
    show 0 * 1024 + 1 * j.val = j.val
    omega

theorem blk3_at (e : Fin 32) (he : (expertAt (tbl0 m) (grid0.coords t 0).val (lt316 _)).toNat = e.val) (k : Fin 1024) :
    (iblk m h c 3 t (ix3 0 0 k) : EReal) = m ((c.tc : Thread nD τ).loc main_arg4) (ix2 e ⟨2 * k.val, by have := k.isLt; omega⟩) := by
  have q1 := idx3 m h t
  rw [he] at q1
  rw [← V20_at m c e k]
  unfold iblk
  show V m c main_v20 ((((cfgA m h).win 3).blk t).view.emb (ix3 0 0 k)) = V m c main_v20 _
  congr 1
  funext a
  apply Fin.ext
  match a with
  | ⟨0, _⟩ =>
    have q := congrFun q1 (0 : Fin 3)
    show ((cfgA m h).win 3).index t (0 : Fin 3) * 1 + 1 * 0 = e.val
    rw [q]
    show e.val * 1 + 1 * 0 = e.val
    omega
  | ⟨1, _⟩ =>
    have q := congrFun q1 (1 : Fin 3)
    show ((cfgA m h).win 3).index t (1 : Fin 3) * 1 + 1 * 0 = 0
    rw [q]
    show 0 * 1 + 1 * 0 = 0
    omega
  | ⟨2, _⟩ =>
    have q := congrFun q1 (2 : Fin 3)
    show ((cfgA m h).win 3).index t (2 : Fin 3) * 1024 + 1 * k.val = k.val
    rw [q]
    show 0 * 1024 + 1 * k.val = k.val
    omega

theorem blk4_at (e : Fin 32) (he : (expertAt (tbl0 m) (grid0.coords t 0).val (lt316 _)).toNat = e.val) (k : Fin 1024) :
    (iblk m h c 4 t (ix3 0 0 k) : EReal) = m ((c.tc : Thread nD τ).loc main_arg4) (ix2 e ⟨2 * k.val + 1, by have := k.isLt; omega⟩) := by
  have q1 := idx4 m h t
  rw [he] at q1
  rw [← V22_at m c e k]
  unfold iblk
  show V m c main_v22 ((((cfgA m h).win 4).blk t).view.emb (ix3 0 0 k)) = V m c main_v22 _
  congr 1
  funext a
  apply Fin.ext
  match a with
  | ⟨0, _⟩ =>
    have q := congrFun q1 (0 : Fin 3)
    show ((cfgA m h).win 4).index t (0 : Fin 3) * 1 + 1 * 0 = e.val
    rw [q]
    show e.val * 1 + 1 * 0 = e.val
    omega
  | ⟨1, _⟩ =>
    have q := congrFun q1 (1 : Fin 3)
    show ((cfgA m h).win 4).index t (1 : Fin 3) * 1 + 1 * 0 = 0
    rw [q]
    show 0 * 1 + 1 * 0 = 0
    omega
  | ⟨2, _⟩ =>
    have q := congrFun q1 (2 : Fin 3)
    show ((cfgA m h).win 4).index t (2 : Fin 3) * 1024 + 1 * k.val = k.val
    rw [q]
    show 0 * 1024 + 1 * k.val = k.val
    omega

theorem blk5_at (e : Fin 32) (he : (expertAt (tbl0 m) (grid0.coords t 0).val (lt316 _)).toNat = e.val) (k : Fin 1024) :
    (iblk m h c 5 t (ix3 0 0 k) : EReal) = m ((c.tc : Thread nD τ).loc main_arg6) (ix2 e k) := by
  have q1 := idx5 m h t
  rw [he] at q1
  rw [← V23_at m c e k]
  unfold iblk
  show V m c main_v23 ((((cfgA m h).win 5).blk t).view.emb (ix3 0 0 k)) = V m c main_v23 _
  congr 1
  funext a
  apply Fin.ext
  match a with
  | ⟨0, _⟩ =>
    have q := congrFun q1 (0 : Fin 3)
    show ((cfgA m h).win 5).index t (0 : Fin 3) * 1 + 1 * 0 = e.val
    rw [q]
    show e.val * 1 + 1 * 0 = e.val
    omega
  | ⟨1, _⟩ =>
    have q := congrFun q1 (1 : Fin 3)
    show ((cfgA m h).win 5).index t (1 : Fin 3) * 1 + 1 * 0 = 0
    rw [q]
    show 0 * 1 + 1 * 0 = 0
    omega
  | ⟨2, _⟩ =>
    have q := congrFun q1 (2 : Fin 3)
    show ((cfgA m h).win 5).index t (2 : Fin 3) * 1024 + 1 * k.val = k.val
    rw [q]
    show 0 * 1024 + 1 * k.val = k.val
    omega

theorem blk6_sorts : Sorts (iblk m h c 6 t) := by
  intro k j
  refine Eq.trans ?_ (sorts m c k j)
  unfold iblk
  show V m c main_v18 ((((cfgA m h).win 6).blk t).view.emb (ix2 k j)) = V m c main_v18 _
  congr 1
  funext a
  apply Fin.ext
  match a with
  | ⟨0, _⟩ =>
    show 0 * 256 + 1 * k.val = k.val
    omega
  | ⟨1, _⟩ =>
    show 0 * 256 + 1 * j.val = j.val
    omega

/-- The result array. -/
def G : Vec Ideal S161792x1024 .f32 := Cert.ExpertsReferenceIdeal.Read.val_main_v60 (F := Ideal)
  (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

/-- The tables the index maps read are the arguments. -/
theorem expert_arg (n : Fin 316) : m ((c.tc : Thread nD τ).loc main_arg0) (ix1 n) = expertAt (tbl0 m) n.val n.isLt := by
  obtain rfl : c = 0 := Subsingleton.elim _ _
  show m (((0 : Dev nD) : Thread nD τ).loc main_arg0) (ix1 n) = m (((0 : Dev nD) : Thread nD τ).loc main_arg0) _
  congr 1
  funext a
  match a with
  | ⟨0, _⟩ => rfl

theorem active_arg : m ((c.tc : Thread nD τ).loc main_arg1) (ix1 0) = activeNo (tbl1 m) := by
  obtain rfl : c = 0 := Subsingleton.elim _ _
  show m (((0 : Dev nD) : Thread nD τ).loc main_arg1) (ix1 0) = m (((0 : Dev nD) : Thread nD τ).loc main_arg1) _
  congr 1
  funext a
  match a with
  | ⟨0, _⟩ => rfl

/-- What a grid point writes is the reference's result there. -/
theorem point_at (r : Fin 512) (j : Fin 1024) (i : S161792x1024.Idx) (h0 : (i 0).val = (grid0.coords t 0).val * 512 + r.val) (h1 : (i 1).val = j.val) :
    (oblk m h c t (ix2 r j) : EReal) = G m c i := by
  have hn := lt316 (grid0.coords t)
  have hr := r.isLt
  unfold G
  rw [Ref.ref_at _ _ _ _ _ _ _ (⟨(grid0.coords t 0).val, hn⟩ : Fin 316) r j ⟨(grid0.coords t 0).val * 512 + r.val, by omega⟩ rfl i h0 h1, active_arg m c]
  unfold oblk outV
  by_cases ha : ((grid0.coords t 0).val : ℤ) < (activeNo (tbl1 m)).toInt
  · have he := h.expert_lt (grid0.coords t 0).val hn
    rw [if_pos ((cond2_iff _ _).2 ha), if_pos ha]
    refine (active_at (blk6_sorts m h c t) (iblk m h c 0 t) (iblk m h c 1 t) (iblk m h c 2 t) (iblk m h c 3 t) (iblk m h c 4 t) (iblk m h c 5 t) r j).trans ?_
    refine Eq.trans ?_ (Ref.block_at _ _ _ _ _ _ (⟨(grid0.coords t 0).val, hn⟩ : Fin 316) (⟨(expertAt (tbl0 m) (grid0.coords t 0).val hn).toNat, he⟩ : Fin 32)
        (congrArg BitVec.toNat (expert_arg m c _)) r j (⟨(grid0.coords t 0).val * 512 + r.val, by omega⟩ : Fin 161792) rfl).symm
    refine congrArg₂ (· + ·) (Finset.sum_congr rfl fun k _ => congrArg₂ (· * ·) (congrArg₂ glu (congrArg₂ (· + ·) (Finset.sum_congr rfl fun d _ => congrArg₂ (· * ·) ?_ ?_) ?_)
      (congrArg₂ (· + ·) (Finset.sum_congr rfl fun d _ => congrArg₂ (· * ·) ?_ ?_) ?_)) ?_) ?_
    · exact blk0_at m h c t ha r d (⟨(grid0.coords t 0).val * 512 + r.val, by omega⟩ : Fin 161792) rfl
    · exact blk1_at m h c t (⟨(expertAt (tbl0 m) (grid0.coords t 0).val hn).toNat, he⟩ : Fin 32) rfl d _
    · exact blk3_at m h c t (⟨(expertAt (tbl0 m) (grid0.coords t 0).val hn).toNat, he⟩ : Fin 32) rfl k
    · exact blk0_at m h c t ha r d (⟨(grid0.coords t 0).val * 512 + r.val, by omega⟩ : Fin 161792) rfl
    · exact blk1_at m h c t (⟨(expertAt (tbl0 m) (grid0.coords t 0).val hn).toNat, he⟩ : Fin 32) rfl d _
    · exact blk4_at m h c t (⟨(expertAt (tbl0 m) (grid0.coords t 0).val hn).toNat, he⟩ : Fin 32) rfl k
    · exact blk2_at m h c t (⟨(expertAt (tbl0 m) (grid0.coords t 0).val hn).toNat, he⟩ : Fin 32) rfl k j
    · exact blk5_at m h c t (⟨(expertAt (tbl0 m) (grid0.coords t 0).val hn).toNat, he⟩ : Fin 32) rfl j
  · rw [if_neg (fun q => ha ((cond2_iff _ _).1 q)), if_neg ha, pay8_at]

end

theorem covers7 : ((cfgA m h).win 7).Covers := by
  refine Pipeline.Window.covers_of_index_surj _ rfl (fun a => ?_) fun β => ?_
  · match a with
    | ⟨0, _⟩ => exact (by decide : 0 < 512)
    | ⟨1, _⟩ => exact (by decide : 0 < 1024)
  · have b0 : (β (0 : Fin 2)).val < 316 := Nat.lt_of_lt_of_le (β (0 : Fin 2)).isLt (by show (161792 + 512 - 1) / 512 ≤ 316; decide)
    have b1 : (β (1 : Fin 2)).val < 1 := Nat.lt_of_lt_of_le (β (1 : Fin 2)).isLt (by show (1024 + 1024 - 1) / 1024 ≤ 1; decide)
    refine ⟨⟨(β (0 : Fin 2)).val, b0⟩, fun a => ?_⟩
    have e := idx7 m h ⟨(β (0 : Fin 2)).val, b0⟩
    rw [coord_val] at e
    match a with
    | ⟨0, _⟩ => exact congrFun e (0 : Fin 2)
    | ⟨1, _⟩ => exact (congrFun e (1 : Fin 2)).trans (by show 0 = (β (1 : Fin 2)).val; omega)

theorem final7 (c : Dev nD) : (dats m h 0 c).arrAt 7 (cfgA m h).N = G m c := by
  refine (dats m h 0 c).arrAt_eq_of_covers 7 _ (covers7 m h) fun t hf y => ?_
  rw [after_7]
  have e := idx7 m h t
  have y0 : (y (0 : Fin 2)).val < 512 := (y (0 : Fin 2)).isLt
  have y1 : (y (1 : Fin 2)).val < 1024 := (y (1 : Fin 2)).isLt
  have hy : ((cfgA m h).win 7).xinj ((cfgA m h).grid.coords t) y = ix2 (⟨(y (0 : Fin 2)).val, y0⟩ : Fin 512) (⟨(y (1 : Fin 2)).val, y1⟩ : Fin 1024) := by
    funext a
    match a with
    | ⟨0, _⟩ => rfl
    | ⟨1, _⟩ => rfl
  rw [hy]
  refine point_at m h c t ⟨(y (0 : Fin 2)).val, y0⟩ ⟨(y (1 : Fin 2)).val, y1⟩ _ ?_ ?_
  · have q := congrFun e (0 : Fin 2)
    show ((cfgA m h).win 7).index t (0 : Fin 2) * 512 + 1 * (y (0 : Fin 2)).val = (grid0.coords t 0).val * 512 + (y (0 : Fin 2)).val
    rw [q]
    show (grid0.coords t 0).val * 512 + 1 * (y (0 : Fin 2)).val = (grid0.coords t 0).val * 512 + (y (0 : Fin 2)).val
    omega
  · have q := congrFun e (1 : Fin 2)
    show ((cfgA m h).win 7).index t (1 : Fin 2) * 1024 + 1 * (y (1 : Fin 2)).val = (y (1 : Fin 2)).val
    rw [q]
    show 0 * 1024 + 1 * (y (1 : Fin 2)).val = (y (1 : Fin 2)).val
    omega

include h in
theorem run_value (g : Dev nD → PrngReg) : θ_run defs (onTc (τ := τ) (main (F := Ideal))) ⟨m, fun _ => 0, g⟩ (fun r => ∀ c : Dev nD,
    r.2.mem ((c.tc : Thread nD τ).loc main_v24) = G m c ∧ Kept m r c) :=
  (θ_run defs _ _).mono (fun r hr c =>
    ⟨((hr.1 c).1 7).trans (final7 m h c), ((hr.1 c).2 main_arg0 rest_mem0).trans (V_arg0 m c), ((hr.1 c).2 main_arg1 rest_mem1).trans (V_arg1 m c),
      ((hr.1 c).1 0).trans (((dats m h 0 c).arrAt_in 0 rfl _).trans (V_arg2 m c)),
      ((hr.1 c).1 1).trans (((dats m h 0 c).arrAt_in 1 rfl _).trans (V_arg3 m c)),
      ((hr.1 c).2 main_arg4 rest_mem4).trans (V_arg4 m c),
      ((hr.1 c).1 2).trans (((dats m h 0 c).arrAt_in 2 rfl _).trans (V_arg5 m c)),
      ((hr.1 c).2 main_arg6 rest_mem6).trans (V_arg6 m c)⟩) (run_main m g h)

/-- Both programs end with the same result. -/
theorem algebraic : algebraic_ExpertsIdeal_ExpertsReferenceIdeal := fun m g m' g' hp hm =>
  ⟨fun c => G m c, run_value m (pre_ok hp) g,
    (θ_run Cert.ExpertsReferenceIdeal.defs _ _).mono (fun r h c => ⟨(h c).1.trans (by
      obtain ⟨e0, e1, e2, e3, e4, e5, e6⟩ := hm c
      rw [Cert.ExpertsReferenceIdeal.Read.val_main_v60_eq, e0, e1, e2, e3, e4, e5, e6]
      rfl), (h c).2⟩) (Cert.ExpertsReferenceIdeal.Value.run m' g')⟩

end Cert.Proof.EI

end
-- ==== Proof.II.Model.lean ====
module

public import Idealize.ShloMosaic.Lib.Pointwise
public import Idealize.ShloMosaic.PureOps.Ideal.Laws

/-! The input projection and the spatial gating over the extended reals, as plain functions of rows: a row's root-mean-square
norm, its product with a column of weights, the rectifier, the norm of a row of rectified values, the gating of a block of
128 rows, and the sigmoid. -/

@[expose] public section

noncomputable section

namespace Cert.Proof.II

open Idealize.ShloMosaic

/-- A row over the root of its mean square, times the gains. -/
def nrm (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The normed row against a column of weights. -/
def prj (x g w : Fin 1024 → EReal) : EReal := ∑ k, nrm x g k * w k

/-- The rectifier. -/
def gel (z : EReal) : EReal :=
  z * (Ideal.ofBits FTy.f32 0x3F000000#32 * (1 + Ideal.tanh (Ideal.ofBits FTy.f32 0x3F4C422A#32 * (z + Ideal.ofBits FTy.f32 0x3D372713#32 * (z * (z * z))))))

/-- A row of rectified values less its mean. -/
def cen (z : Fin 512 → EReal) (k : Fin 512) : EReal :=
  gel (z k) - Ideal.div (∑ j, gel (z j)) (Ideal.ofBits FTy.f32 0x44000000#32)

/-- The same over its standard deviation, times the gains. -/
def lay (z s : Fin 512 → EReal) (k : Fin 512) : EReal :=
  cen z k * Ideal.rsqrt (Ideal.div (∑ j, cen z j * cen z j) (Ideal.ofBits FTy.f32 0x44000000#32) + Ideal.ofBits FTy.f32 0x358637BD#32) * s k

/-- A gating weight, kept where the column's half of the block does not come after the row's. -/
def msk (r s : Fin 128) (v : EReal) : EReal := if s.val / 64 ≤ r.val / 64 then v else 0

/-- One gated element: the rectified value times the block's weighted column and the bias. -/
def gat (u : EReal) (w : Fin 128 → EReal) (r : Fin 128) (v : Fin 128 → EReal) (b : EReal) : EReal :=
  gel u * ((∑ s, msk r s (w s) * v s) + b)

/-- The sigmoid. -/
def sgm (z : EReal) : EReal := Ideal.div 1 (1 + Ideal.exp (-z))

/-- The scale of the first 512 columns. -/
def qsc : EReal := (((Real.log 256)⁻¹ : ℝ) : EReal)

end Cert.Proof.II

end
-- ==== Proof.II.Tile.lean ====
module

public import proofs.«01_k».proof.Proof.Gen.InprojIdeal.Value
public import proofs.«01_k».proof.Proof.II.Model

/-! The sixteen tiles of the gated block, each at an index: the product with the two halves side by side is two products of
which one is zero. -/

@[expose] public section

noncomputable section

namespace Cert.Proof.II

open Cert.InprojIdeal Cert.InprojIdeal.Gen
open Idealize.ShloMosaic Idealize.SL.Sem

/-- A tile at row `a`, column `o`, as the body computes it. -/
def mix (a o : ℕ) (ha : a + 128 ≤ 512) (ho : o + 128 ≤ 512) (u : FVec Ideal S512x512 .f32) (v : FVec Ideal S512x512 .bf16) (l : IVec S128x128 1)
    (w : FVec Ideal S128x256 .bf16) (b : Vec Ideal S128x128 .f32) (r k : Fin 128) : EReal :=
  u (ix2 ⟨a + r.val, by omega⟩ ⟨o + k.val, by omega⟩) *
    ((∑ s : Fin 128, Scalar.select (l (ix2 s k)) (w (ix2 r ⟨s.val, by omega⟩) * v (ix2 ⟨a + s.val, by omega⟩ ⟨o + k.val, by omega⟩)) (0 : EReal))
      + (∑ s : Fin 128, Scalar.select (l (ix2 s k)) (0 : EReal) (w (ix2 r ⟨128 + s.val, by omega⟩) * v (ix2 ⟨a + s.val, by omega⟩ ⟨o + k.val, by omega⟩)))
      + b (ix2 r k))

section
variable (u : FVec Ideal S512x512 .f32) (v : FVec Ideal S512x512 .bf16) (l : IVec S128x128 1) (w : FVec Ideal S128x256 .bf16) (b : Vec Ideal S128x128 .f32)
  (r k : Fin 128)

theorem pay22_at : (k0_pay22 u v l w b (ix2 r k) : EReal) = mix 0 0 (by omega) (by omega) u v l w b r k := by
  pointwise [k0_pay22]
  simp only [mix, Nat.zero_add]

theorem pay23_at : (k0_pay23 u v l w b (ix2 r k) : EReal) = mix 0 128 (by omega) (by omega) u v l w b r k := by
  pointwise [k0_pay23]
  simp only [mix, Nat.zero_add]

theorem pay24_at : (k0_pay24 u v l w b (ix2 r k) : EReal) = mix 0 256 (by omega) (by omega) u v l w b r k := by
  pointwise [k0_pay24]
  simp only [mix, Nat.zero_add]

theorem pay27_at : (k0_pay27 u v l w b (ix2 r k) : EReal) = mix 128 0 (by omega) (by omega) u v l w b r k := by
  pointwise [k0_pay27]
  simp only [mix, Nat.zero_add]

theorem pay28_at : (k0_pay28 u v l w b (ix2 r k) : EReal) = mix 128 128 (by omega) (by omega) u v l w b r k := by
  pointwise [k0_pay28]
  simp only [mix, Nat.zero_add]

theorem pay31_at : (k0_pay31 u v l w b (ix2 r k) : EReal) = mix 128 384 (by omega) (by omega) u v l w b r k := by
  pointwise [k0_pay31]
  simp only [mix, Nat.zero_add]

theorem pay32_at : (k0_pay32 u v l w b (ix2 r k) : EReal) = mix 256 0 (by omega) (by omega) u v l w b r k := by
  pointwise [k0_pay32]
  simp only [mix, Nat.zero_add]

theorem pay36_at : (k0_pay36 u v l w b (ix2 r k) : EReal) = mix 256 256 (by omega) (by omega) u v l w b r k := by
  pointwise [k0_pay36]
  simp only [mix, Nat.zero_add]

theorem pay37_at : (k0_pay37 u v l w b (ix2 r k) : EReal) = mix 256 384 (by omega) (by omega) u v l w b r k := by
  pointwise [k0_pay37]
  simp only [mix, Nat.zero_add]

theorem pay38_at : (k0_pay38 u v l w b (ix2 r k) : EReal) = mix 384 0 (by omega) (by omega) u v l w b r k := by
  pointwise [k0_pay38]
  simp only [mix, Nat.zero_add]

theorem pay39_at : (k0_pay39 u v l w b (ix2 r k) : EReal) = mix 384 128 (by omega) (by omega) u v l w b r k := by
  pointwise [k0_pay39]
  simp only [mix, Nat.zero_add]

theorem pay42_at : (k0_pay42 u v l w b (ix2 r k) : EReal) = mix 384 384 (by omega) (by omega) u v l w b r k := by
  pointwise [k0_pay42]
  simp only [mix, Nat.zero_add]

theorem pay26_at : (k0_pay26 u (k0_pay25 v l w b) (ix2 r k) : EReal) = mix 0 384 (by omega) (by omega) u v l w b r k := by
  pointwise [k0_pay26, k0_pay25]
  simp only [mix, Nat.zero_add]

theorem pay30_at : (k0_pay30 u w (k0_pay29 v l) (constant S128x128 .f32 0x00000000#32) b (ix2 r k) : EReal) = mix 128 256 (by omega) (by omega) u v l w b r k := by
  pointwise [k0_pay30, k0_pay29]
  simp only [mix, Nat.zero_add]

theorem pay35_at : (k0_pay35 u l w (k0_pay33 v) (k0_pay34 (F := Ideal)) b (ix2 r k) : EReal) = mix 256 128 (by omega) (by omega) u v l w b r k := by
  pointwise [k0_pay35, k0_pay33, k0_pay34]
  simp only [mix, Nat.zero_add]

theorem pay41_at : (k0_pay41 u (k0_pay40 v l w) b (ix2 r k) : EReal) = mix 384 256 (by omega) (by omega) u v l w b r k := by
  pointwise [k0_pay41, k0_pay40]
  simp only [mix, Nat.zero_add]
end

/-- The lanes of the first half. -/
theorem low_at (s k : Fin 128) : k0_pay15 (ix2 s k) = if k.val < 64 then 1#1 else 0#1 := by
  pointwise [k0_pay15]
  revert k
  decide +kernel

/-- The body's row or column number over 64. -/
def half (n : ℕ) : BitVec 32 := Scalar.select
  (IntOp.andi
    (IntOp.cmpi .ne
      (IntOp.subi (BitVec.setWidth 32 (IntOp.cmpi .sgt (BitVec.ofNat 32 n) 0#32)) (BitVec.setWidth 32 (IntOp.cmpi .slt (BitVec.ofNat 32 n) 0#32)))
      (Scalar.subi (Scalar.extui (Scalar.cmpi .sgt 64#32 0#32)) (Scalar.extui (Scalar.cmpi .slt 64#32 0#32))))
    (IntOp.cmpi .ne (IntOp.remsi ArithUnit.vector (BitVec.ofNat 32 n) 64#32) 0#32))
  (IntOp.subi (IntOp.divsi ArithUnit.vector (BitVec.ofNat 32 n) 64#32) 1#32)
  (IntOp.divsi ArithUnit.vector (BitVec.ofNat 32 n) 64#32)

theorem half_eq (n : Fin 128) : half n.val = BitVec.ofNat 32 (n.val / 64) := by
  revert n
  decide +kernel

theorem sle_eq (p q : ℕ) (hp : p < 2) (hq : q < 2) : IntOp.cmpi .sle (BitVec.ofNat 32 p) (BitVec.ofNat 32 q) = if p ≤ q then 1#1 else 0#1 :=
  (by decide : ∀ p q : Fin 2, IntOp.cmpi .sle (BitVec.ofNat 32 p.val) (BitVec.ofNat 32 q.val) = if p.val ≤ q.val then 1#1 else 0#1) ⟨p, hp⟩ ⟨q, hq⟩

/-- The mask of the gating weights. -/
theorem mask_at (r s : Fin 128) :
    (k0_pay14 k0_pay11 (iota .tc S128x128 32 [1] iota_S128x128_d1_w32) 64#32 k0_pay12 k0_pay13 0#32) (ix2 r s) = if s.val / 64 ≤ r.val / 64 then 1#1 else 0#1 := by
  have hs := s.isLt
  have hr := r.isLt
  rw [← sle_eq _ _ (by omega) (by omega), ← half_eq, ← half_eq]
  pointwise [k0_pay14, k0_pay11, k0_pay12, k0_pay13]
  rfl

theorem sel_if (p : Prop) [Decidable p] (a b : EReal) : Scalar.select (if p then 1#1 else 0#1) a b = if p then a else b := by
  by_cases h : p
  · rw [if_pos h, if_pos h]; rfl
  · rw [if_neg h, if_neg h]; rfl

/-- A tile from its two weights: the lanes of the first half use the one, those of the second half the other. -/
theorem mix_eq (a o : ℕ) (ha) (ho) (u : FVec Ideal S512x512 .f32) (v : FVec Ideal S512x512 .bf16) (w : FVec Ideal S128x256 .bf16) (b : Vec Ideal S128x128 .f32) (r k : Fin 128)
    (w0 w1 : Fin 128 → EReal) (h0 : ∀ s : Fin 128, (w (ix2 r ⟨s.val, by omega⟩) : EReal) = msk r s (w0 s))
    (h1 : ∀ s : Fin 128, (w (ix2 r ⟨128 + s.val, by omega⟩) : EReal) = msk r s (w1 s)) :
    mix a o ha ho u v k0_pay15 w b r k = u (ix2 ⟨a + r.val, by omega⟩ ⟨o + k.val, by omega⟩) *
      ((∑ s : Fin 128, msk r s (if k.val < 64 then w0 s else w1 s) * v (ix2 ⟨a + s.val, by omega⟩ ⟨o + k.val, by omega⟩)) + b (ix2 r k)) := by
  unfold mix
  simp only [low_at, sel_if, h0, h1]
  by_cases hk : k.val < 64
  · simp only [if_pos hk, Finset.sum_const_zero, add_zero]
  · simp only [if_neg hk, Finset.sum_const_zero, zero_add]

section
variable (p q : Vec Ideal S1x128x128 .f32) (r s : Fin 128)

theorem pay20_lo : (k0_pay20 (k0_pay14 k0_pay11 (iota .tc S128x128 32 [1] iota_S128x128_d1_w32) 64#32 k0_pay12 k0_pay13 0#32) p q (ix2 r ⟨s.val, by omega⟩) : EReal) = msk r s (p (ix3 0 r s)) := by
  pointwise [k0_pay20]
  rw [mask_at, sel_if]
  rfl

theorem pay20_hi : (k0_pay20 (k0_pay14 k0_pay11 (iota .tc S128x128 32 [1] iota_S128x128_d1_w32) 64#32 k0_pay12 k0_pay13 0#32) p q (ix2 r ⟨128 + s.val, by omega⟩) : EReal) = msk r s (q (ix3 0 r s)) := by
  pointwise [k0_pay20]
  rw [mask_at, sel_if]
  rfl

end

end Cert.Proof.II

end
-- ==== Proof.II.Value.lean ====
module

public import proofs.«01_k».proof.Proof.II.Tile
public import proofs.«01_k».proof.Proof.EI.Value

/-! What one point of the input projection writes, at an index: the projected columns (the first 512 scaled), the gated
block, the two sigmoids. -/

@[expose] public section

noncomputable section

namespace Cert.Proof.II

open Cert.InprojIdeal Cert.InprojIdeal.Gen
open Idealize.ShloMosaic Idealize.SL.Sem

variable (x0 : Vec Ideal S512x1024 .f32) (x1 : Vec Ideal S1x1024 .f32) (x2 : Vec Ideal S1024x4608 .bf16) (x3 : Vec Ideal S8x128x128 .f32)
  (x4 : Vec Ideal S128x512 .f32) (x5 : Vec Ideal S1x512 .f32)

/-- Column `c` of the projected block's row `r`. -/
def pc (r : Fin 512) (c : Fin 4608) : EReal := prj (fun j => x0 (ix2 r j)) (fun j => x1 (ix2 0 j)) (fun k => x2 (ix2 k c))

theorem ld0 : View.ld x0 r0_0 = x0 := View.ld_unit_zero (by decide) _ _
theorem ld1 : View.ld x1 r0_1 = x1 := View.ld_unit_zero (by decide) _ _
theorem ld5 : View.ld x5 r0_10 = x5 := View.ld_unit_zero (by decide) _ _

/-- A strip of 512 columns of the weights. -/
theorem ldw (o : ℕ) (h) (k : Fin 1024) (c : Fin 512) (C : Fin 4608) (hC : C.val = o + c.val) :
    (View.ld x2 (Rect.unit (s := S1024x4608) ![0, o] S1024x512.size h) (ix2 k c) : EReal) = x2 (ix2 k C) := by
  show x2 ((Rect.unit (s := S1024x4608) ![0, o] S1024x512.size h).emb (ix2 k c)) = x2 _
  congr 1
  funext a
  apply Fin.ext
  match a with
  | ⟨0, _⟩ => show 0 + 1 * k.val = k.val; omega
  | ⟨1, _⟩ => show o + 1 * c.val = C.val; omega

/-- One group's gating weights. -/
theorem lds (e : ℕ) (h) (r s : Fin 128) (E : Fin 8) (hE : E.val = e) :
    (View.ld x3 (Rect.unit (s := S8x128x128) ![e, 0, 0] S1x128x128.size h) (ix3 0 r s) : EReal) = x3 (ix3 E r s) := by
  show x3 ((Rect.unit (s := S8x128x128) ![e, 0, 0] S1x128x128.size h).emb (ix3 0 r s)) = x3 _
  congr 1
  funext a
  apply Fin.ext
  match a with
  | ⟨0, _⟩ => show e + 1 * 0 = E.val; omega
  | ⟨1, _⟩ => show 0 + 1 * r.val = r.val; omega
  | ⟨2, _⟩ => show 0 + 1 * s.val = s.val; omega

/-- A strip of the bias. -/
theorem ldb (o : ℕ) (h) (r k : Fin 128) (C : Fin 512) (hC : C.val = o + k.val) :
    (View.ld x4 (Rect.unit (s := S128x512) ![0, o] S128x128.size h) (ix2 r k) : EReal) = x4 (ix2 r C) := by
  show x4 ((Rect.unit (s := S128x512) ![0, o] S128x128.size h).emb (ix2 r k)) = x4 _
  congr 1
  funext a
  apply Fin.ext
  match a with
  | ⟨0, _⟩ => show 0 + 1 * r.val = r.val; omega
  | ⟨1, _⟩ => show o + 1 * k.val = C.val; omega

theorem pay2_at (r : Fin 512) (k : Fin 1024) : (k0_pay2 x0 x1 (ix2 r k) : EReal) = nrm (fun j => x0 (ix2 r j)) (fun j => x1 (ix2 0 j)) k := by
  pointwise [k0_pay2]
  rfl

/-- A strip's product. -/
theorem strip (o : ℕ) (h) (r c : Fin 512) (C : Fin 4608) (hC : C.val = o + c.val) :
    (∑ k : Fin 1024, (k0_pay50 x0 x1 x2 x3 x4 x5 (ix2 r k) : EReal) * View.ld x2 (Rect.unit (s := S1024x4608) ![0, o] S1024x512.size h) (ix2 k c)) = pc x0 x1 x2 r C := by
  unfold k0_pay50 pc prj
  rw [ld0, ld1]
  exact Finset.sum_congr rfl fun k _ => congrArg₂ (· * ·) (pay2_at x0 x1 r k) (ldw x2 o h k c C hC)

theorem named_qsc : (Named.named κ "q_scale" 0x3E38AA3B#32 : Ideal .f32) = qsc := rfl

/-! The products of the body over their operands. -/

section
variable (a : FVec Ideal S512x1024 .bf16) (w : Vec Ideal S1024x512 .bf16) (g : Vec Ideal S1x1024 .f32) (x : Vec Ideal S512x1024 .f32) (s : Vec Ideal S1x512 .f32) (r c : Fin 512)

theorem pay3_at : (k0_pay3 x g w (ix2 r c) : EReal) = (∑ k : Fin 1024, (k0_pay2 x g (ix2 r k) : EReal) * w (ix2 k c)) * qsc := by
  pointwise [k0_pay3]
  rw [named_qsc]

theorem pay4_at : (k0_pay4 x g w (ix2 r c) : EReal) = ∑ k : Fin 1024, (k0_pay2 x g (ix2 r k) : EReal) * w (ix2 k c) := by
  pointwise [k0_pay4]

theorem pay5_at : (k0_pay5 x g w (ix2 r c) : EReal) = ∑ k : Fin 1024, (k0_pay2 x g (ix2 r k) : EReal) * w (ix2 k c) := by
  pointwise [k0_pay5]

theorem pay6_at : (k0_pay6 a w (ix2 r c) : EReal) = gel (∑ k : Fin 1024, (a (ix2 r k) : EReal) * w (ix2 k c)) := by
  pointwise [k0_pay6]
  rfl

theorem pay7_at : (k0_pay7 a w (ix2 r c) : EReal) = cen (fun j => ∑ k : Fin 1024, (a (ix2 r k) : EReal) * w (ix2 k j)) c := by
  pointwise [k0_pay7]
  rfl

theorem pay10_at : (k0_pay10 (k0_pay7 a w) (k0_pay8 a w) (k0_pay9 (F := Ideal)) s (ix2 r c) : EReal)
    = lay (fun j => ∑ k : Fin 1024, (a (ix2 r k) : EReal) * w (ix2 k j)) (fun j => s (ix2 0 j)) c := by
  pointwise [k0_pay10, k0_pay8, k0_pay9]
  simp only [pay7_at]
  rfl

theorem pay43_at : (k0_pay43 a w (ix2 r c) : EReal) = sgm (∑ k : Fin 1024, (a (ix2 r k) : EReal) * w (ix2 k c)) := by
  pointwise [k0_pay43]
  rw [EI.half_bits, EI.gate_eq]
  rfl

theorem pay47_at : (k0_pay47 a w (ix2 r c) : EReal) = sgm (∑ k : Fin 1024, (a (ix2 r k) : EReal) * w (ix2 k c)) := by
  pointwise [k0_pay47]
  rw [EI.half_bits, EI.gate_eq]
  rfl

theorem pay46_at : (k0_pay46 (k0_pay44 a w) (k0_pay45 (F := Ideal)) (ix2 r c) : EReal) = sgm (∑ k : Fin 1024, (a (ix2 r k) : EReal) * w (ix2 k c)) := by
  pointwise [k0_pay46, k0_pay44, k0_pay45]
  rw [EI.half_bits, EI.gate_eq]
  rfl

theorem pay1_at : (k0_pay1 (k0_pay48 a w) (k0_pay49 (F := Ideal)) (ix2 r c) : EReal) = sgm (∑ k : Fin 1024, (a (ix2 r k) : EReal) * w (ix2 k c)) := by
  pointwise [k0_pay1, k0_pay48, k0_pay49]
  rw [EI.half_bits, EI.gate_eq]
  rfl

end

/-! The four blocks. -/

/-- The projected block. -/
def B6 (y : S512x1536.Idx) : EReal :=
  if (y (1 : Fin 2)).val < 512 then pc x0 x1 x2 (y (0 : Fin 2)) ⟨(y (1 : Fin 2)).val, Nat.lt_of_lt_of_le (y (1 : Fin 2)).isLt (by decide)⟩ * qsc
  else pc x0 x1 x2 (y (0 : Fin 2)) ⟨(y (1 : Fin 2)).val, Nat.lt_of_lt_of_le (y (1 : Fin 2)).isLt (by decide)⟩

/-- The gated block. -/
def B7 (y : S512x512.Idx) : EReal :=
  gat (pc x0 x1 x2 (y (0 : Fin 2)) ⟨1536 + (y (1 : Fin 2)).val, by have h : (y (1 : Fin 2)).val < 512 := (y (1 : Fin 2)).isLt; omega⟩)
    (fun s => x3 (ix3 ⟨(y (1 : Fin 2)).val / 64, by have h : (y (1 : Fin 2)).val < 512 := (y (1 : Fin 2)).isLt; omega⟩
      ⟨(y (0 : Fin 2)).val % 128, by omega⟩ s))
    ⟨(y (0 : Fin 2)).val % 128, by omega⟩
    (fun s => lay (fun k => pc x0 x1 x2 ⟨(y (0 : Fin 2)).val / 128 * 128 + s.val, by have h : (y (0 : Fin 2)).val < 512 := (y (0 : Fin 2)).isLt; omega⟩ ⟨2048 + k.val, by omega⟩)
      (fun j => x5 (ix2 0 j)) (y (1 : Fin 2)))
    (x4 (ix2 ⟨(y (0 : Fin 2)).val % 128, by omega⟩ (y (1 : Fin 2))))

/-- A block of sigmoids of the columns from `o` on. -/
def B8 (o : ℕ) (ho : o + 1024 ≤ 4608) (y : S512x1024.Idx) : EReal :=
  sgm (pc x0 x1 x2 (y (0 : Fin 2)) ⟨o + (y (1 : Fin 2)).val, by have h : (y (1 : Fin 2)).val < 1024 := (y (1 : Fin 2)).isLt; omega⟩)

theorem emb2 {m n p q : ℕ} (a o : ℕ) (h) (r : Fin p) (c : Fin q) (R : Fin m) (C : Fin n) (hR : R.val = a + r.val) (hC : C.val = o + c.val) :
    (Rect.unit (s := ⟨2, ![m, n]⟩) ![a, o] ![p, q] h).emb (ix2 r c) = ix2 R C := by
  funext b
  apply Fin.ext
  match b with
  | ⟨0, _⟩ => show a + 1 * r.val = R.val; omega
  | ⟨1, _⟩ => show o + 1 * c.val = C.val; omega

theorem split2 {m n : ℕ} (z : (⟨2, ![m, n]⟩ : Shape).Idx) : ∃ (r : Fin m) (c : Fin n), z = ix2 r c :=
  ⟨z (0 : Fin 2), z (1 : Fin 2), funext fun b => match b with
    | ⟨0, _⟩ => rfl
    | ⟨1, _⟩ => rfl⟩

theorem out6_at (y : S512x1536.Idx) : (out0_6 x0 x1 x2 x3 x4 x5 y : EReal) = B6 x0 x1 x2 y := by
  unfold out0_6
  refine View.canon_apply_of_pieces (Val := Elt Ideal) (fun y => B6 x0 x1 x2 y) _ ?_ y (cover0_6 _ _ _ y)
  intro p hp
  simp only [List.mem_cons, List.not_mem_nil, or_false] at hp
  rcases hp with rfl | rfl | rfl
  · intro z
    obtain ⟨r, c, rfl⟩ : ∃ (r c : Fin 512), z = ix2 r c := split2 z
    refine Eq.trans ?_ (congrArg (B6 x0 x1 x2) (emb2 (m := 512) (n := 1536) (p := 512) (q := 512) 0 1024 inb_S512x1536_S512x512_0_1024 r c r ⟨1024 + c.val, by omega⟩ (Nat.zero_add _).symm rfl).symm)
    refine (pay5_at _ _ _ r c).trans ?_
    refine (strip x0 x1 x2 x3 x4 x5 1024 _ r c ⟨1024 + c.val, by omega⟩ rfl).trans ?_
    exact (if_neg (by show ¬ (1024 + c.val < 512); omega)).symm
  · intro z
    obtain ⟨r, c, rfl⟩ : ∃ (r c : Fin 512), z = ix2 r c := split2 z
    refine Eq.trans ?_ (congrArg (B6 x0 x1 x2) (emb2 (m := 512) (n := 1536) (p := 512) (q := 512) 0 512 inb_S512x1536_S512x512_0_512 r c r ⟨512 + c.val, by omega⟩ (Nat.zero_add _).symm rfl).symm)
    refine (pay4_at _ _ _ r c).trans ?_
    refine (strip x0 x1 x2 x3 x4 x5 512 _ r c ⟨512 + c.val, by omega⟩ rfl).trans ?_
    exact (if_neg (by show ¬ (512 + c.val < 512); omega)).symm
  · intro z
    obtain ⟨r, c, rfl⟩ : ∃ (r c : Fin 512), z = ix2 r c := split2 z
    refine Eq.trans ?_ (congrArg (B6 x0 x1 x2) (emb2 (m := 512) (n := 1536) (p := 512) (q := 512) 0 0 inb_S512x1536_S512x512_0_0 r c r ⟨c.val, by omega⟩ (Nat.zero_add _).symm (Nat.zero_add _).symm).symm)
    refine (pay3_at _ _ _ r c).trans ?_
    refine (congrArg (· * qsc) (strip x0 x1 x2 x3 x4 x5 0 _ r c ⟨c.val, by omega⟩ (Nat.zero_add _).symm)).trans ?_
    exact (if_pos c.isLt).symm

theorem out8_at (y : S512x1024.Idx) : (out0_8 x0 x1 x2 x3 x4 x5 y : EReal) = B8 x0 x1 x2 2560 (by decide) y := by
  unfold out0_8
  refine View.canon_apply_of_pieces (Val := Elt Ideal) (fun y => B8 x0 x1 x2 2560 (by decide) y) _ ?_ y (cover0_8 _ _ y)
  intro p hp
  simp only [List.mem_cons, List.not_mem_nil, or_false] at hp
  rcases hp with rfl | rfl
  · intro z
    obtain ⟨r, c, rfl⟩ : ∃ (r c : Fin 512), z = ix2 r c := split2 z
    refine Eq.trans ?_ (congrArg (B8 x0 x1 x2 2560 (by decide)) (emb2 (m := 512) (n := 1024) (p := 512) (q := 512) 0 512 inb_S512x1024_S512x512_0_512 r c r ⟨512 + c.val, by omega⟩ (Nat.zero_add _).symm rfl).symm)
    refine (pay47_at _ _ r c).trans ?_
    exact congrArg sgm (strip x0 x1 x2 x3 x4 x5 3072 _ r c ⟨2560 + (512 + c.val), by omega⟩ (by show 2560 + (512 + c.val) = 3072 + c.val; omega))
  · intro z
    obtain ⟨r, c, rfl⟩ : ∃ (r c : Fin 512), z = ix2 r c := split2 z
    refine Eq.trans ?_ (congrArg (B8 x0 x1 x2 2560 (by decide)) (emb2 (m := 512) (n := 1024) (p := 512) (q := 512) 0 0 inb_S512x1024_S512x512_0_0 r c r ⟨c.val, by omega⟩ (Nat.zero_add _).symm (Nat.zero_add _).symm).symm)
    refine (pay43_at _ _ r c).trans ?_
    exact congrArg sgm (strip x0 x1 x2 x3 x4 x5 2560 _ r c ⟨2560 + c.val, by omega⟩ rfl)

theorem out9_at (y : S512x1024.Idx) : (out0_9 x0 x1 x2 x3 x4 x5 y : EReal) = B8 x0 x1 x2 3584 (by decide) y := by
  unfold out0_9
  refine View.canon_apply_of_pieces (Val := Elt Ideal) (fun y => B8 x0 x1 x2 3584 (by decide) y) _ ?_ y (cover0_9 _ _ y)
  intro p hp
  simp only [List.mem_cons, List.not_mem_nil, or_false] at hp
  rcases hp with rfl | rfl
  · intro z
    obtain ⟨r, c, rfl⟩ : ∃ (r c : Fin 512), z = ix2 r c := split2 z
    refine Eq.trans ?_ (congrArg (B8 x0 x1 x2 3584 (by decide)) (emb2 (m := 512) (n := 1024) (p := 512) (q := 512) 0 512 inb_S512x1024_S512x512_0_512 r c r ⟨512 + c.val, by omega⟩ (Nat.zero_add _).symm rfl).symm)
    refine (pay1_at _ _ r c).trans ?_
    exact congrArg sgm (strip x0 x1 x2 x3 x4 x5 4096 _ r c ⟨3584 + (512 + c.val), by omega⟩ (by show 3584 + (512 + c.val) = 4096 + c.val; omega))
  · intro z
    obtain ⟨r, c, rfl⟩ : ∃ (r c : Fin 512), z = ix2 r c := split2 z
    refine Eq.trans ?_ (congrArg (B8 x0 x1 x2 3584 (by decide)) (emb2 (m := 512) (n := 1024) (p := 512) (q := 512) 0 0 inb_S512x1024_S512x512_0_0 r c r ⟨c.val, by omega⟩ (Nat.zero_add _).symm (Nat.zero_add _).symm).symm)
    refine (pay46_at _ _ r c).trans ?_
    exact congrArg sgm (strip x0 x1 x2 x3 x4 x5 3584 _ r c ⟨3584 + c.val, by omega⟩ rfl)

/-! The gated block. -/

theorem pay51_at (r c : Fin 512) : (k0_pay51 x0 x1 x2 x3 x4 x5 (ix2 r c) : EReal) = gel (pc x0 x1 x2 r ⟨1536 + c.val, by omega⟩) := by
  unfold k0_pay51
  refine (pay6_at _ _ r c).trans ?_
  exact congrArg gel (strip x0 x1 x2 x3 x4 x5 1536 _ r c ⟨1536 + c.val, by omega⟩ rfl)

theorem pay53_at (r c : Fin 512) : (k0_pay53 x0 x1 x2 x3 x4 x5 (ix2 r c) : EReal)
    = lay (fun k => pc x0 x1 x2 r ⟨2048 + k.val, by omega⟩) (fun j => x5 (ix2 0 j)) c := by
  unfold k0_pay53
  refine (pay10_at _ _ _ r c).trans ?_
  rw [ld5]
  refine congrArg (fun f => lay f _ c) (funext fun j => ?_)
  exact strip x0 x1 x2 x3 x4 x5 2048 _ r j ⟨2048 + j.val, by omega⟩ rfl

/-- A tile of the gated block. -/
theorem tile (a o j : ℕ) (ha : a + 128 ≤ 512) (ho : o + 128 ≤ 512) (hb) (ham : a % 128 = 0) (hj : o = 128 * j) (w : FVec Ideal S128x256 .bf16) (r k : Fin 128)
    (h0 : ∀ s : Fin 128, (w (ix2 r ⟨s.val, by omega⟩) : EReal) = msk r s (x3 (ix3 ⟨2 * j, by omega⟩ r s)))
    (h1 : ∀ s : Fin 128, (w (ix2 r ⟨128 + s.val, by omega⟩) : EReal) = msk r s (x3 (ix3 ⟨2 * j + 1, by omega⟩ r s))) :
    mix a o ha ho (k0_pay51 x0 x1 x2 x3 x4 x5) (k0_pay53 x0 x1 x2 x3 x4 x5) k0_pay15 w
      (View.ld x4 (Rect.unit (s := S128x512) ![0, o] S128x128.size hb)) r k = B7 x0 x1 x2 x3 x4 x5 (ix2 ⟨a + r.val, by omega⟩ ⟨o + k.val, by omega⟩) := by
  rw [mix_eq a o ha ho _ _ w _ r k (fun s => x3 (ix3 ⟨2 * j, by omega⟩ r s)) (fun s => x3 (ix3 ⟨2 * j + 1, by omega⟩ r s)) h0 h1, ldb x4 o hb r k ⟨o + k.val, by omega⟩ rfl]
  simp only [pay51_at, pay53_at]
  have hr : (⟨(a + r.val) % 128, Nat.mod_lt _ (by decide)⟩ : Fin 128) = r := Fin.ext (by show (a + r.val) % 128 = r.val; omega)
  unfold B7 gat
  show _ * _ = _ * ((∑ s, msk ⟨(a + r.val) % 128, _⟩ s (x3 (ix3 ⟨(o + k.val) / 64, _⟩ ⟨(a + r.val) % 128, _⟩ s))
    * lay (fun k' => pc x0 x1 x2 ⟨(a + r.val) / 128 * 128 + s.val, _⟩ _) _ _) + x4 (ix2 ⟨(a + r.val) % 128, _⟩ _))
  rw [hr]
  refine congrArg₂ (· * ·) rfl (congrArg (· + _) (Finset.sum_congr rfl fun s _ => congrArg₂ (· * ·) (congrArg (msk r s) ?_) ?_))
  · by_cases hk : k.val < 64
    · rw [if_pos hk]
      exact congrArg (fun e => x3 (ix3 e r s)) (Fin.ext (by show 2 * j = (o + k.val) / 64; omega))
    · rw [if_neg hk]
      exact congrArg (fun e => x3 (ix3 e r s)) (Fin.ext (by show 2 * j + 1 = (o + k.val) / 64; omega))
  · exact congrArg (fun e => lay (fun k' => pc x0 x1 x2 e ⟨2048 + k'.val, by omega⟩) (fun j => x5 (ix2 0 j)) ⟨o + k.val, by omega⟩)
      (Fin.ext (by show a + s.val = (a + r.val) / 128 * 128 + s.val; omega))

section
variable (r s : Fin 128)

/-- The gating weights of groups 0 and 1 side by side, masked. -/
theorem pay59_lo : (k0_pay59 x0 x1 x2 x3 x4 x5 (ix2 r ⟨s.val, by omega⟩) : EReal) = msk r s (x3 (ix3 0 r s)) :=
  (pay20_lo _ _ r s).trans (congrArg (msk r s) (lds x3 0 _ r s 0 rfl))
theorem pay59_hi : (k0_pay59 x0 x1 x2 x3 x4 x5 (ix2 r ⟨128 + s.val, by omega⟩) : EReal) = msk r s (x3 (ix3 1 r s)) :=
  (pay20_hi _ _ r s).trans (congrArg (msk r s) (lds x3 1 _ r s 1 rfl))

/-- Of groups 2 and 3. -/
theorem pay60_lo : (k0_pay60 x0 x1 x2 x3 x4 x5 (ix2 r ⟨s.val, by omega⟩) : EReal) = msk r s (x3 (ix3 2 r s)) :=
  (pay20_lo _ _ r s).trans (congrArg (msk r s) (lds x3 2 _ r s 2 rfl))
theorem pay60_hi : (k0_pay60 x0 x1 x2 x3 x4 x5 (ix2 r ⟨128 + s.val, by omega⟩) : EReal) = msk r s (x3 (ix3 3 r s)) :=
  (pay20_hi _ _ r s).trans (congrArg (msk r s) (lds x3 3 _ r s 3 rfl))

/-- Of groups 4 and 5. -/
theorem pay61_lo : (k0_pay61 x0 x1 x2 x3 x4 x5 (ix2 r ⟨s.val, by omega⟩) : EReal) = msk r s (x3 (ix3 4 r s)) :=
  (pay20_lo _ _ r s).trans (congrArg (msk r s) (lds x3 4 _ r s 4 rfl))
theorem pay61_hi : (k0_pay61 x0 x1 x2 x3 x4 x5 (ix2 r ⟨128 + s.val, by omega⟩) : EReal) = msk r s (x3 (ix3 5 r s)) :=
  (pay20_hi _ _ r s).trans (congrArg (msk r s) (lds x3 5 _ r s 5 rfl))

/-- Of groups 6 and 7. -/
theorem pay62_lo : (k0_pay62 x0 x1 x2 x3 x4 x5 (ix2 r ⟨s.val, by omega⟩) : EReal) = msk r s (x3 (ix3 6 r s)) :=
  (pay20_lo _ _ r s).trans (congrArg (msk r s) (lds x3 6 _ r s 6 rfl))
theorem pay62_hi : (k0_pay62 x0 x1 x2 x3 x4 x5 (ix2 r ⟨128 + s.val, by omega⟩) : EReal) = msk r s (x3 (ix3 7 r s)) :=
  (pay20_hi _ _ r s).trans (congrArg (msk r s) (lds x3 7 _ r s 7 rfl))

end

theorem out7_at (y : S512x512.Idx) : (out0_7 x0 x1 x2 x3 x4 x5 y : EReal) = B7 x0 x1 x2 x3 x4 x5 y := by
  unfold out0_7
  refine View.canon_apply_of_pieces (Val := Elt Ideal) (fun y => B7 x0 x1 x2 x3 x4 x5 y) _ ?_ y (cover0_7 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 384 384 inb_S512x512_S128x128_384_384 r k ⟨384 + r.val, by omega⟩ ⟨384 + k.val, by omega⟩ rfl rfl).symm)
    refine (pay42_at _ _ _ _ _ r k).trans ?_
    exact tile x0 x1 x2 x3 x4 x5 384 384 3 (by decide) (by decide) _ rfl rfl _ r k (pay62_lo x0 x1 x2 x3 x4 x5 r) (pay62_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 384 256 inb_S512x512_S128x128_384_256 r k ⟨384 + r.val, by omega⟩ ⟨256 + k.val, by omega⟩ rfl rfl).symm)
    refine (pay41_at _ _ _ _ _ r k).trans ?_
    exact tile x0 x1 x2 x3 x4 x5 384 256 2 (by decide) (by decide) _ rfl rfl _ r k (pay61_lo x0 x1 x2 x3 x4 x5 r) (pay61_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 384 128 inb_S512x512_S128x128_384_128 r k ⟨384 + r.val, by omega⟩ ⟨128 + k.val, by omega⟩ rfl rfl).symm)
    refine (pay39_at _ _ _ _ _ r k).trans ?_
    exact tile x0 x1 x2 x3 x4 x5 384 128 1 (by decide) (by decide) _ rfl rfl _ r k (pay60_lo x0 x1 x2 x3 x4 x5 r) (pay60_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 384 0 inb_S512x512_S128x128_384_0 r k ⟨384 + r.val, by omega⟩ ⟨0 + k.val, by omega⟩ rfl rfl).symm)
    refine (pay38_at _ _ _ _ _ r k).trans ?_
    exact tile x0 x1 x2 x3 x4 x5 384 0 0 (by decide) (by decide) _ rfl rfl _ r k (pay59_lo x0 x1 x2 x3 x4 x5 r) (pay59_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 256 384 inb_S512x512_S128x128_256_384 r k ⟨256 + r.val, by omega⟩ ⟨384 + k.val, by omega⟩ rfl rfl).symm)
    refine (pay37_at _ _ _ _ _ r k).trans ?_
    exact tile x0 x1 x2 x3 x4 x5 256 384 3 (by decide) (by decide) _ rfl rfl _ r k (pay62_lo x0 x1 x2 x3 x4 x5 r) (pay62_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 256 256 inb_S512x512_S128x128_256_256 r k ⟨256 + r.val, by omega⟩ ⟨256 + k.val, by omega⟩ rfl rfl).symm)
    refine (pay36_at _ _ _ _ _ r k).trans ?_
    exact tile x0 x1 x2 x3 x4 x5 256 256 2 (by decide) (by decide) _ rfl rfl _ r k (pay61_lo x0 x1 x2 x3 x4 x5 r) (pay61_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 256 128 inb_S512x512_S128x128_256_128 r k ⟨256 + r.val, by omega⟩ ⟨128 + k.val, by omega⟩ rfl rfl).symm)
    refine (pay35_at _ _ _ _ _ r k).trans ?_
    exact tile x0 x1 x2 x3 x4 x5 256 128 1 (by decide) (by decide) _ rfl rfl _ r k (pay60_lo x0 x1 x2 x3 x4 x5 r) (pay60_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 256 0 inb_S512x512_S128x128_256_0 r k ⟨256 + r.val, by omega⟩ ⟨0 + k.val, by omega⟩ rfl rfl).symm)
    refine (pay32_at _ _ _ _ _ r k).trans ?_
    exact tile x0 x1 x2 x3 x4 x5 256 0 0 (by decide) (by decide) _ rfl rfl _ r k (pay59_lo x0 x1 x2 x3 x4 x5 r) (pay59_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 128 384 inb_S512x512_S128x128_128_384 r k ⟨128 + r.val, by omega⟩ ⟨384 + k.val, by omega⟩ rfl rfl).symm)
    refine (pay31_at _ _ _ _ _ r k).trans ?_
    exact tile x0 x1 x2 x3 x4 x5 128 384 3 (by decide) (by decide) _ rfl rfl _ r k (pay62_lo x0 x1 x2 x3 x4 x5 r) (pay62_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 128 256 inb_S512x512_S128x128_128_256 r k ⟨128 + r.val, by omega⟩ ⟨256 + k.val, by omega⟩ rfl rfl).symm)
    refine (pay30_at _ _ _ _ _ r k).trans ?_
    exact tile x0 x1 x2 x3 x4 x5 128 256 2 (by decide) (by decide) _ rfl rfl _ r k (pay61_lo x0 x1 x2 x3 x4 x5 r) (pay61_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 128 128 inb_S512x512_S128x128_128_128 r k ⟨128 + r.val, by omega⟩ ⟨128 + k.val, by omega⟩ rfl rfl).symm)
    refine (pay28_at _ _ _ _ _ r k).trans ?_
    exact tile x0 x1 x2 x3 x4 x5 128 128 1 (by decide) (by decide) _ rfl rfl _ r k (pay60_lo x0 x1 x2 x3 x4 x5 r) (pay60_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 128 0 inb_S512x512_S128x128_128_0 r k ⟨128 + r.val, by omega⟩ ⟨0 + k.val, by omega⟩ rfl rfl).symm)
    refine (pay27_at _ _ _ _ _ r k).trans ?_
    exact tile x0 x1 x2 x3 x4 x5 128 0 0 (by decide) (by decide) _ rfl rfl _ r k (pay59_lo x0 x1 x2 x3 x4 x5 r) (pay59_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 0 384 inb_S512x512_S128x128_0_384 r k ⟨0 + r.val, by omega⟩ ⟨384 + k.val, by omega⟩ rfl rfl).symm)
    refine (pay26_at _ _ _ _ _ r k).trans ?_
    exact tile x0 x1 x2 x3 x4 x5 0 384 3 (by decide) (by decide) _ rfl rfl _ r k (pay62_lo x0 x1 x2 x3 x4 x5 r) (pay62_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 0 256 inb_S512x512_S128x128_0_256 r k ⟨0 + r.val, by omega⟩ ⟨256 + k.val, by omega⟩ rfl rfl).symm)
    refine (pay24_at _ _ _ _ _ r k).trans ?_
    exact tile x0 x1 x2 x3 x4 x5 0 256 2 (by decide) (by decide) _ rfl rfl _ r k (pay61_lo x0 x1 x2 x3 x4 x5 r) (pay61_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 0 128 inb_S512x512_S128x128_0_128 r k ⟨0 + r.val, by omega⟩ ⟨128 + k.val, by omega⟩ rfl rfl).symm)
    refine (pay23_at _ _ _ _ _ r k).trans ?_
    exact tile x0 x1 x2 x3 x4 x5 0 128 1 (by decide) (by decide) _ rfl rfl _ r k (pay60_lo x0 x1 x2 x3 x4 x5 r) (pay60_hi x0 x1 x2 x3 x4 x5 r)
  · intro z
    obtain ⟨r, k, rfl⟩ : ∃ (r k : Fin 128), z = ix2 r k := split2 z
    refine Eq.trans ?_ (congrArg (B7 x0 x1 x2 x3 x4 x5) (emb2 (m := 512) (n := 512) (p := 128) (q := 128) 0 0 inb_S512x512_S128x128_0_0 r k ⟨0 + r.val, by omega⟩ ⟨0 + k.val, by omega⟩ rfl rfl).symm)
    refine (pay22_at _ _ _ _ _ r k).trans ?_
    exact tile x0 x1 x2 x3 x4 x5 0 0 0 (by decide) (by decide) _ rfl rfl _ r k (pay59_lo x0 x1 x2 x3 x4 x5 r) (pay59_hi x0 x1 x2 x3 x4 x5 r)

end Cert.Proof.II

end
-- ==== Proof.II.Ref.lean ====
module

public import proofs.«01_k».proof.Proof.II.Model
public import proofs.«01_k».proof.Proof.KI.Host
public import proofs.«01_k».proof.Proof.Gen.InprojReferenceIdeal.Read

/-! The input projection's reference, read at an index of each of its results. -/

@[expose] public section

noncomputable section

namespace Cert.Proof.II.Ref

open Cert.InprojReferenceIdeal Cert.InprojReferenceIdeal.Gen Cert.InprojReferenceIdeal.Read
open Idealize.ShloMosaic Idealize.SL.Sem

variable (x0 : (⟨S32768x1024, .f32⟩ : BufTy).Contents (Elt Ideal)) (x1 : (⟨S1024, .f32⟩ : BufTy).Contents (Elt Ideal))
  (x2 : (⟨S1024x4608, .f32⟩ : BufTy).Contents (Elt Ideal)) (x3 : (⟨S512, .f32⟩ : BufTy).Contents (Elt Ideal))
  (x4 : (⟨S8x128x128, .f32⟩ : BufTy).Contents (Elt Ideal)) (x5 : (⟨S8x128, .f32⟩ : BufTy).Contents (Elt Ideal))

/-- An element of the projection. -/
def PR (r : Fin 32768) (k : Fin 4608) : EReal := prj (fun j => x0 (ix2 r j)) (fun j => x1 (ix1 j)) (fun j => x2 (ix2 j k))

theorem v12 (r : Fin 32768) (k : Fin 1024) : (val_main_v12 (F := Ideal) x0 x1 (ix2 r k) : EReal) = nrm (fun j => x0 (ix2 r j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v13 (r : Fin 32768) (k : Fin 4608) : (val_main_v13 (F := Ideal) x0 x1 x2 (ix2 r k) : EReal) = PR x0 x1 x2 r k := by
  pointwise [val_main_v13]
  simp only [v12]
  rfl

/-- The rectifier, its cube multiplied from the left. -/
theorem gel_left (z : EReal) :
    z * (Ideal.ofBits FTy.f32 0x3F000000#32 * (1 + Ideal.tanh (Ideal.ofBits FTy.f32 0x3F4C422A#32 * (z + Ideal.ofBits FTy.f32 0x3D372713#32 * (z * z * z))))) = gel z := by
  rw [mul_assoc z z z]
  rfl

theorem v27 (r : Fin 32768) (k : Fin 512) : (val_main_v27 (F := Ideal) x0 x1 x2 (ix2 r k) : EReal) = gel (PR x0 x1 x2 r ⟨1536 + k.val, by omega⟩) := by
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, val_main_cst_5]
  rw [v13]
  exact gel_left _

theorem v41 (r : Fin 32768) (k : Fin 512) : (val_main_v41 (F := Ideal) x0 x1 x2 (ix2 r k) : EReal) = gel (PR x0 x1 x2 r ⟨2048 + k.val, by omega⟩) := by
  pointwise [val_main_v41, val_main_v40, val_main_v39, val_main_v38, val_main_v37, val_main_v36, val_main_v35, val_main_v34, val_main_v33, val_main_v32, val_main_v31, val_main_v30, val_main_v29, val_main_v28, val_main_cst_6, val_main_cst_7, val_main_cst_8, val_main_cst_9]
  rw [v13]
  exact gel_left _

theorem v47 (r : Fin 32768) (k : Fin 512) : (val_main_v47 (F := Ideal) x0 x1 x2 (ix2 r k) : EReal) = cen (fun k => PR x0 x1 x2 r ⟨2048 + k.val, by omega⟩) k := by
  pointwise [val_main_v47, val_main_v46, val_main_v45, val_main_v44, val_main_v43, val_main_v42, val_main_cst_10, val_main_cst_11]
  simp only [v41]
  rfl

theorem v62 (r : Fin 32768) (k : Fin 512) : (val_main_v62 (F := Ideal) x0 x1 x2 x3 (ix2 r k) : EReal)
    = lay (fun k => PR x0 x1 x2 r ⟨2048 + k.val, by omega⟩) (fun j => x3 (ix1 j)) k := by
  have h : val_main_v54 (F := Ideal) x0 x1 x2 = val_main_v47 (F := Ideal) x0 x1 x2 := rfl
  pointwise [val_main_v62, val_main_v61, val_main_v60, val_main_v59, val_main_v58, val_main_v57, val_main_v56, val_main_v55, val_main_v52, val_main_v51, val_main_v50, val_main_v49, val_main_v48, val_main_cst_12, val_main_cst_13, val_main_cst_14]
  simp only [h, v47]
  rfl

/-- A row or column number over 64, as the host divides. -/
def halfH (n : ℕ) : BitVec 32 := Scalar.select
  (IntOp.andi
    (IntOp.cmpi .ne (if BitVec.ofNat 32 n = 0 then 0 else if (BitVec.ofNat 32 n).msb = true then -1 else 1 : BitVec 32)
      (if (64#32) = 0 then 0 else if BitVec.msb (64#32) = true then -1 else 1 : BitVec 32))
    (IntOp.cmpi .ne (IntOp.remsi ArithUnit.host (BitVec.ofNat 32 n) (64#32)) 0#32))
  (IntOp.subi (IntOp.divsi ArithUnit.host (BitVec.ofNat 32 n) (64#32)) 1#32)
  (IntOp.divsi ArithUnit.host (BitVec.ofNat 32 n) (64#32))

theorem halfH_eq (n : Fin 128) : halfH n.val = BitVec.ofNat 32 (n.val / 64) := by
  revert n
  decide +kernel

theorem le_word (p q : ℕ) (hp : p < 2) (hq : q < 2) : IntOp.cmpi .sle (BitVec.ofNat 32 p) (BitVec.ofNat 32 q) = if p ≤ q then 1#1 else 0#1 :=
  (by decide : ∀ p q : Fin 2, IntOp.cmpi .sle (BitVec.ofNat 32 p.val) (BitVec.ofNat 32 q.val) = if p.val ≤ q.val then 1#1 else 0#1) ⟨p, hp⟩ ⟨q, hq⟩

theorem zero_word : Ideal.ofBits FTy.f32 0#32 = 0 := by
  simp [Ideal.ofBits, Ideal.ieee, -EReal.coe_mul]

theorem v72 (g : Fin 8) (r s : Fin 128) : (val_main_v72 (F := Ideal) x4 (ix3 g r s) : EReal) = msk r s (x4 (ix3 g r s)) := by
  pointwise [val_main_v72, val_main_call2_v2, val_main_call2_v1, val_main_call2_v0, val_main_cst_16, val_main_v71, val_main_v70, val_main_v69, val_main_v68, val_main_v67, val_main_v66, val_main_v65, val_main_v64, val_main_v63, val_main_c, val_main_c_15,
    val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0,
    val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0]
  have hs := s.isLt
  have hr := r.isLt
  show Scalar.select (IntOp.cmpi .sle (halfH s.val) (halfH r.val)) (x4 (ix3 g r s)) (Ideal.ofBits FTy.f32 0#32) = _
  rw [halfH_eq, halfH_eq, le_word _ _ (by omega) (by omega), zero_word]
  unfold msk
  by_cases h : s.val / 64 ≤ r.val / 64
  · rw [if_pos h, if_pos h]; rfl
  · rw [if_neg h, if_neg h]; rfl

/-- The second result. -/
theorem v91 (r : Fin 32768) (k : Fin 512) : (val_main_v91 (F := Ideal) x0 x1 x2 x3 x4 x5 (ix2 r k) : EReal)
    = gat (PR x0 x1 x2 r ⟨1536 + k.val, by omega⟩) (fun s => x4 (ix3 (⟨k.val / 64, by omega⟩ : Fin 8) (⟨r.val % 128, by omega⟩ : Fin 128) s)) ⟨r.val % 128, by omega⟩
      (fun s => lay (fun k => PR x0 x1 x2 ⟨r.val / 128 * 128 + s.val, by omega⟩ ⟨2048 + k.val, by omega⟩) (fun j => x3 (ix1 j)) k)
      (x5 (ix2 (⟨k.val / 64, by omega⟩ : Fin 8) (⟨r.val % 128, by omega⟩ : Fin 128))) := by
  pointwise [val_main_v91, val_main_v81, val_main_v80, val_main_v79, val_main_v78, val_main_v77, val_main_v76, val_main_v75, val_main_v74, val_main_v73]
  simp only [v27, v62, v72]
  unfold gat
  refine congrArg (gel _ * ·) (congrArg (· + _) (Finset.sum_congr rfl fun s _ => mul_comm _ _))

theorem scale_eq : Ideal.div 1 (Ideal.ofBits FTy.f32 1090519040#32 * Ideal.log (Ideal.ofBits FTy.f32 1073741824#32)) = qsc := by
  refine Cert.Proof.KI.qc_eq.trans ?_
  have h : Real.log 256 = 8 * Real.log 2 := by
    rw [show (256 : ℝ) = 2 ^ (8 : ℕ) by norm_num, Real.log_pow]
    norm_num
  unfold qsc Cert.Proof.Sb.il2
  rw [h, ← EReal.coe_mul, mul_inv]
  congr 1
  ring

/-- The first result. -/
theorem v90 (r : Fin 32768) (k : Fin 1536) : (val_main_v90 (F := Ideal) x0 x1 x2 (ix2 r k) : EReal)
    = if k.val < 512 then PR x0 x1 x2 r ⟨k.val, by omega⟩ * qsc else PR x0 x1 x2 r ⟨k.val, by omega⟩ := by
  pointwise [val_main_v90, val_main_v89, val_main_v88, val_main_v87, val_main_v86, val_main_v85, val_main_v84, val_main_v83, val_main_v82, val_main_cst_17, val_main_cst_18, val_main_cst_19]
  by_cases h : k.val < 512
  · rw [dif_pos h, if_pos h, v13, scale_eq]
  · rw [dif_neg h, if_neg h, v13]
    exact congrArg (PR x0 x1 x2 r) (Fin.ext (by show 512 + (k.val - 512) = k.val; omega))

/-- The third result. -/
theorem v99 (r : Fin 32768) (k : Fin 1024) : (val_main_v99 (F := Ideal) x0 x1 x2 (ix2 r k) : EReal) = sgm (PR x0 x1 x2 r ⟨2560 + k.val, by omega⟩) := by
  pointwise [val_main_v99, val_main_v98, val_main_v97, val_main_v96, val_main_v95, val_main_v94, val_main_v93, val_main_v92, val_main_cst_20, val_main_cst_21]
  rw [v13]
  rfl

/-- The fourth result. -/
theorem v107 (r : Fin 32768) (k : Fin 1024) : (val_main_v107 (F := Ideal) x0 x1 x2 (ix2 r k) : EReal) = sgm (PR x0 x1 x2 r ⟨3584 + k.val, by omega⟩) := by
  pointwise [val_main_v107, val_main_v106, val_main_v105, val_main_v104, val_main_v103, val_main_v102, val_main_v101, val_main_v100, val_main_cst_22, val_main_cst_23]
  rw [v13]
  rfl

end Cert.Proof.II.Ref

end
-- ==== Proof.II.Host.lean ====
module

public import proofs.«01_k».proof.Proof.II.Value
public import proofs.«01_k».proof.Proof.II.Ref
public import proofs.«01_k».proof.Proof.Gen.InprojIdeal.Value
public import Idealize.ShloMosaic.Lib.StableHlo.ReadAt

/-! The input projection's operands: the host operations before the call, and each grid point's blocks, read at an index. -/

@[expose] public section

noncomputable section

namespace Cert.Proof.II

open Cert.InprojIdeal Cert.InprojIdeal.Gen
open Idealize.ShloMosaic Idealize.ShloMosaic.TcCoe Idealize.SL.Sem

variable (m : (ℓ : Loc nD τ sig) → Buf (Elt Ideal) ℓ)

theorem V3_at (c : Dev nD) (k : Fin 1024) : (V m c main_v3 (ix2 0 k) : EReal) = m ((c.tc : Thread nD τ).loc main_arg1) (ix1 k) := by
  unfold V
  after_reads_at

theorem V4_at (c : Dev nD) (j : Fin 1024) (k : Fin 4608) : (V m c main_v4 (ix2 j k) : EReal) = m ((c.tc : Thread nD τ).loc main_arg2) (ix2 j k) := by
  unfold V
  after_reads_at

theorem V5_at (c : Dev nD) (k : Fin 512) : (V m c main_v5 (ix2 0 k) : EReal) = m ((c.tc : Thread nD τ).loc main_arg3) (ix1 k) := by
  unfold V
  after_reads_at

theorem V2_at (c : Dev nD) (r : Fin 128) (k : Fin 512) : (V m c main_v2 (ix2 r k) : EReal) = m ((c.tc : Thread nD τ).loc main_arg5) (ix2 (⟨k.val / 64, by omega⟩ : Fin 8) r) := by
  unfold V
  after_reads_at

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)
theorem idx8 : ∀ t : Fin cfg0.N, win0_8.index t = ![(grid0.coords t 0).val, 0] := (by decide +kernel : ∀ t : Fin grid0.N, _)
theorem idx9 : ∀ t : Fin cfg0.N, win0_9.index t = ![(grid0.coords t 0).val, 0] := (by decide +kernel : ∀ t : Fin grid0.N, _)

section
variable (c : Dev nD) (t : Fin cfg0.N)

theorem c0 : (grid0.coords t 0).val < 64 := (grid0.coords t 0).isLt

theorem blk0_at (r : Fin 512) (k : Fin 1024) (R : Fin 32768) (hR : R.val = (grid0.coords t 0).val * 512 + r.val) : (iblk m c 0 t (ix2 r k) : EReal) = m ((c.tc : Thread nD τ).loc main_arg0) (ix2 R k) := by
  have e := idx0 t
  rw [← V_main_arg0 m c]
  unfold iblk
  show V m c main_arg0 (((cfg0.win 0).blk t).view.emb (ix2 r k)) = V m c main_arg0 _
  congr 1
  funext a
  apply Fin.ext
  match a with
  | ⟨0, _⟩ =>
    have q := congrFun e (0 : Fin 2)
    show win0_0.index t (0 : Fin 2) * 512 + 1 * r.val = R.val
    rw [q]
    show (grid0.coords t 0).val * 512 + 1 * r.val = R.val
    omega
  | ⟨1, _⟩ =>
    have q := congrFun e (1 : Fin 2)
    show win0_0.index t (1 : Fin 2) * 1024 + 1 * k.val = k.val
    rw [q]
    show 0 * 1024 + 1 * k.val = k.val
    omega

theorem blk1_at (k : Fin 1024) : (iblk m c 1 t (ix2 0 k) : EReal) = m ((c.tc : Thread nD τ).loc main_arg1) (ix1 k) := by
  have e := idx1 t
  rw [← V3_at m c k]
  unfold iblk
  show V m c main_v3 (((cfg0.win 1).blk t).view.emb (ix2 0 k)) = V m c main_v3 _
  congr 1
  funext a
  apply Fin.ext
  match a with
  | ⟨0, _⟩ =>
    have q := congrFun e (0 : Fin 2)
    show win0_1.index t (0 : Fin 2) * 1 + 1 * 0 = 0
    rw [q]
    show 0 * 1 + 1 * 0 = 0
    omega
  | ⟨1, _⟩ =>
    have q := congrFun e (1 : Fin 2)
    show win0_1.index t (1 : Fin 2) * 1024 + 1 * k.val = k.val
    rw [q]
    show 0 * 1024 + 1 * k.val = k.val
    omega

theorem blk2_at (j : Fin 1024) (k : Fin 4608) : (iblk m c 2 t (ix2 j k) : EReal) = m ((c.tc : Thread nD τ).loc main_arg2) (ix2 j k) := by
  have e := idx2 t
  rw [← V4_at m c j k]
  unfold iblk
  show V m c main_v4 (((cfg0.win 2).blk t).view.emb (ix2 j k)) = V m c main_v4 _
  congr 1
  funext a
  apply Fin.ext
  match a with
  | ⟨0, _⟩ =>
    have q := congrFun e (0 : Fin 2)
    show win0_2.index t (0 : Fin 2) * 1024 + 1 * j.val = j.val
    rw [q]
    show 0 * 1024 + 1 * j.val = j.val
    omega
  | ⟨1, _⟩ =>
    have q := congrFun e (1 : Fin 2)
    show win0_2.index t (1 : Fin 2) * 4608 + 1 * k.val = k.val
    rw [q]
    show 0 * 4608 + 1 * k.val = k.val
    omega

theorem blk3_at (g : Fin 8) (r s : Fin 128) : (iblk m c 3 t (ix3 g r s) : EReal) = m ((c.tc : Thread nD τ).loc main_arg4) (ix3 g r s) := by
  have e := idx3 t
  rw [← V_main_arg4 m c]
  unfold iblk
  show V m c main_arg4 (((cfg0.win 3).blk t).view.emb (ix3 g r s)) = V m c main_arg4 _
  congr 1
  funext a
  apply Fin.ext
  match a with
  | ⟨0, _⟩ =>
    have q := congrFun e (0 : Fin 3)
    show win0_3.index t (0 : Fin 3) * 8 + 1 * g.val = g.val
    rw [q]
    show 0 * 8 + 1 * g.val = g.val
    omega
  | ⟨1, _⟩ =>
    have q := congrFun e (1 : Fin 3)
    show win0_3.index t (1 : Fin 3) * 128 + 1 * r.val = r.val
    rw [q]
    show 0 * 128 + 1 * r.val = r.val
    omega
  | ⟨2, _⟩ =>
    have q := congrFun e (2 : Fin 3)
    show win0_3.index t (2 : Fin 3) * 128 + 1 * s.val = s.val
    rw [q]
    show 0 * 128 + 1 * s.val = s.val
    omega

theorem blk4_at (r : Fin 128) (k : Fin 512) : (iblk m c 4 t (ix2 r k) : EReal) = m ((c.tc : Thread nD τ).loc main_arg5) (ix2 (⟨k.val / 64, by omega⟩ : Fin 8) r) := by
  have e := idx4 t
  rw [← V2_at m c r k]
  unfold iblk
  show V m c main_v2 (((cfg0.win 4).blk t).view.emb (ix2 r k)) = V m c main_v2 _
  congr 1
  funext a
  apply Fin.ext
  match a with
  | ⟨0, _⟩ =>
    have q := congrFun e (0 : Fin 2)
    show win0_4.index t (0 : Fin 2) * 128 + 1 * r.val = r.val
    rw [q]
    show 0 * 128 + 1 * r.val = r.val
    omega
  | ⟨1, _⟩ =>
    have q := congrFun e (1 : Fin 2)
    show win0_4.index t (1 : Fin 2) * 512 + 1 * k.val = k.val
    rw [q]
    show 0 * 512 + 1 * k.val = k.val
    omega

theorem blk5_at (k : Fin 512) : (iblk m c 5 t (ix2 0 k) : EReal) = m ((c.tc : Thread nD τ).loc main_arg3) (ix1 k) := by
  have e := idx5 t
  rw [← V5_at m c k]
  unfold iblk
  show V m c main_v5 (((cfg0.win 5).blk t).view.emb (ix2 0 k)) = V m c main_v5 _
  congr 1
  funext a
  apply Fin.ext
  match a with
  | ⟨0, _⟩ =>
    have q := congrFun e (0 : Fin 2)
    show win0_5.index t (0 : Fin 2) * 1 + 1 * 0 = 0
    rw [q]
    show 0 * 1 + 1 * 0 = 0
    omega
  | ⟨1, _⟩ =>
    have q := congrFun e (1 : Fin 2)
    show win0_5.index t (1 : Fin 2) * 512 + 1 * k.val = k.val
    rw [q]
    show 0 * 512 + 1 * k.val = k.val
    omega

end

end Cert.Proof.II

end
-- ==== Proof.II.Final.lean ====
module

public import proofs.«01_k».proof.Proof.II.Host
public import proofs.«01_k».proof.Proof.Gen.InprojReferenceIdeal.Run
public import proofs.«01_k».proof.Defs
public import Idealize.ShloMosaic.Lib.Pipeline.ValueKit

/-! The input projection's call and its reference end with the same four results, element by element over the extended reals. -/

@[expose] public section

noncomputable section

namespace Cert.Proof.II

open Cert.InprojIdeal Cert.InprojIdeal.Gen
open Idealize.ShloMosaic Idealize.ShloMosaic.TcCoe Idealize.SL.Sem

variable (m : (ℓ : Loc nD τ sig) → Buf (Elt Ideal) ℓ) (c : Dev nD)

/-- The projection of the arguments. -/
def PM (r : Fin 32768) (k : Fin 4608) : EReal := Ref.PR (m ((c.tc : Thread nD τ).loc main_arg0)) (m ((c.tc : Thread nD τ).loc main_arg1)) (m ((c.tc : Thread nD τ).loc main_arg2)) r k

section
variable (t : Fin cfg0.N)

/-- A grid point's projection is its rows' of the whole. -/
theorem pc_at (r : Fin 512) (k : Fin 4608) (R : Fin 32768) (hR : R.val = (grid0.coords t 0).val * 512 + r.val) :
    pc (iblk m c 0 t) (iblk m c 1 t) (iblk m c 2 t) r k = PM m c R k := by
  unfold pc PM Ref.PR
  exact congr (congr (congrArg prj (funext fun j => blk0_at m c t r j R hR)) (funext fun j => blk1_at m c t j)) (funext fun j => blk2_at m c t j k)

theorem point6 (r : Fin 512) (k : Fin 1536) (R : Fin 32768) (hR : R.val = (grid0.coords t 0).val * 512 + r.val) :
    B6 (iblk m c 0 t) (iblk m c 1 t) (iblk m c 2 t) (ix2 r k) = if k.val < 512 then PM m c R ⟨k.val, by omega⟩ * qsc else PM m c R ⟨k.val, by omega⟩ :=
  ite_congr rfl (fun _ => congrArg (· * qsc) (pc_at m c t r _ R hR)) (fun _ => pc_at m c t r _ R hR)

theorem point7 (r k : Fin 512) (R : Fin 32768) (hR : R.val = (grid0.coords t 0).val * 512 + r.val) :
    B7 (iblk m c 0 t) (iblk m c 1 t) (iblk m c 2 t) (iblk m c 3 t) (iblk m c 4 t) (iblk m c 5 t) (ix2 r k)
    = gat (PM m c R ⟨1536 + k.val, by omega⟩)
      (fun s => m ((c.tc : Thread nD τ).loc main_arg4) (ix3 (⟨k.val / 64, by omega⟩ : Fin 8) (⟨R.val % 128, by omega⟩ : Fin 128) s)) ⟨R.val % 128, by omega⟩
      (fun s => lay (fun k => PM m c ⟨R.val / 128 * 128 + s.val, by omega⟩ ⟨2048 + k.val, by omega⟩) (fun j => m ((c.tc : Thread nD τ).loc main_arg3) (ix1 j)) k)
      (m ((c.tc : Thread nD τ).loc main_arg5) (ix2 (⟨k.val / 64, by omega⟩ : Fin 8) (⟨R.val % 128, by omega⟩ : Fin 128))) := by
  have hr : (⟨R.val % 128, by omega⟩ : Fin 128) = ⟨r.val % 128, by omega⟩ := Fin.ext (by show R.val % 128 = r.val % 128; omega)
  rw [hr]
  refine congr (congr (congr (congr (congrArg gat ?_) ?_) rfl) ?_) ?_
  · exact pc_at m c t r _ R hR
  · exact funext fun s => blk3_at m c t _ _ s
  · refine funext fun s => congrFun (congr (congrArg lay ?_) ?_) k
    · refine funext fun j => pc_at m c t _ _ _ ?_
      show R.val / 128 * 128 + s.val = (grid0.coords t 0).val * 512 + (r.val / 128 * 128 + s.val)
      omega
    · exact funext fun j => blk5_at m c t j
  · exact blk4_at m c t _ _

theorem point8 (o : ℕ) (ho : o + 1024 ≤ 4608) (r : Fin 512) (k : Fin 1024) (R : Fin 32768) (hR : R.val = (grid0.coords t 0).val * 512 + r.val) :
    B8 (iblk m c 0 t) (iblk m c 1 t) (iblk m c 2 t) o ho (ix2 r k) = sgm (PM m c R ⟨o + k.val, by omega⟩) :=
  congrArg sgm (pc_at m c t r _ R hR)

end

/-- The first result array. -/
def G6 : Vec Ideal S32768x1536 .bf16 := Cert.InprojReferenceIdeal.Read.val_main_v90 (F := Ideal) (m ((c.tc : Thread nD τ).loc main_arg0)) (m ((c.tc : Thread nD τ).loc main_arg1)) (m ((c.tc : Thread nD τ).loc main_arg2))

/-- The second result array. -/
def G7 : Vec Ideal S32768x512 .bf16 := Cert.InprojReferenceIdeal.Read.val_main_v91 (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- The third result array. -/
def G8 : Vec Ideal S32768x1024 .bf16 := Cert.InprojReferenceIdeal.Read.val_main_v99 (F := Ideal) (m ((c.tc : Thread nD τ).loc main_arg0)) (m ((c.tc : Thread nD τ).loc main_arg1)) (m ((c.tc : Thread nD τ).loc main_arg2))

/-- The fourth result array. -/
def G9 : Vec Ideal S32768x1024 .bf16 := Cert.InprojReferenceIdeal.Read.val_main_v107 (F := Ideal) (m ((c.tc : Thread nD τ).loc main_arg0)) (m ((c.tc : Thread nD τ).loc main_arg1)) (m ((c.tc : Thread nD τ).loc main_arg2))

theorem whole6 (t : Fin cfg0.N) (r : Fin 512) (k : Fin 1536) (R : Fin 32768) (hR : R.val = (grid0.coords t 0).val * 512 + r.val) :
    (out0_6 (iblk m c 0 t) (iblk m c 1 t) (iblk m c 2 t) (iblk m c 3 t) (iblk m c 4 t) (iblk m c 5 t) (ix2 r k) : EReal) = G6 m c (ix2 R k) :=
  (out6_at (iblk m c 0 t) (iblk m c 1 t) (iblk m c 2 t) (iblk m c 3 t) (iblk m c 4 t) (iblk m c 5 t) (ix2 r k)).trans ((point6 m c t r k R hR).trans (Ref.v90 (m ((c.tc : Thread nD τ).loc main_arg0)) (m ((c.tc : Thread nD τ).loc main_arg1)) (m ((c.tc : Thread nD τ).loc main_arg2)) R k).symm)

theorem final6 : (dats m 0 c).arrAt 6 cfg0.N = G6 m c := by
  refine (dats m 0 c).arrAt_eq_of_covers 6 _ (by decide +kernel) fun t hf y => ?_
  rw [after0_6]
  have e := idx6 t
  have ht := c0 t
  have h0 : (y (0 : Fin 2)).val < 512 := (y (0 : Fin 2)).isLt
  have h1 : (y (1 : Fin 2)).val < 1536 := (y (1 : Fin 2)).isLt
  have hy : (cfg0.win 6).xinj (cfg0.grid.coords t) y = ix2 (⟨(y (0 : Fin 2)).val, h0⟩ : Fin 512) (⟨(y (1 : Fin 2)).val, h1⟩ : Fin 1536) := by
    funext a
    match a with
    | ⟨0, _⟩ => rfl
    | ⟨1, _⟩ => rfl
  rw [hy]
  refine (cast_eq _ _).trans ?_
  refine (whole6 m c t ⟨(y (0 : Fin 2)).val, h0⟩ ⟨(y (1 : Fin 2)).val, h1⟩ ⟨(grid0.coords t 0).val * 512 + (y (0 : Fin 2)).val, by omega⟩ rfl).trans ?_
  refine congrArg (G6 m c) ?_
  funext a
  apply Fin.ext
  match a with
  | ⟨0, _⟩ =>
    have h := congrFun e (0 : Fin 2)
    show (grid0.coords t 0).val * 512 + (y (0 : Fin 2)).val = win0_6.index t (0 : Fin 2) * 512 + 1 * (y (0 : Fin 2)).val
    rw [h]
    show (grid0.coords t 0).val * 512 + (y (0 : Fin 2)).val = (grid0.coords t 0).val * 512 + 1 * (y (0 : Fin 2)).val
    omega
  | ⟨1, _⟩ =>
    have h := congrFun e (1 : Fin 2)
    show (y (1 : Fin 2)).val = win0_6.index t (1 : Fin 2) * 1536 + 1 * (y (1 : Fin 2)).val
    rw [h]
    show (y (1 : Fin 2)).val = 0 * 1536 + 1 * (y (1 : Fin 2)).val
    omega

theorem whole7 (t : Fin cfg0.N) (r : Fin 512) (k : Fin 512) (R : Fin 32768) (hR : R.val = (grid0.coords t 0).val * 512 + r.val) :
    (out0_7 (iblk m c 0 t) (iblk m c 1 t) (iblk m c 2 t) (iblk m c 3 t) (iblk m c 4 t) (iblk m c 5 t) (ix2 r k) : EReal) = G7 m c (ix2 R k) :=
  (out7_at (iblk m c 0 t) (iblk m c 1 t) (iblk m c 2 t) (iblk m c 3 t) (iblk m c 4 t) (iblk m c 5 t) (ix2 r k)).trans ((point7 m c t r k R hR).trans (Ref.v91 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) R k).symm)

theorem final7 : (dats m 0 c).arrAt 7 cfg0.N = G7 m c := by
  refine (dats m 0 c).arrAt_eq_of_covers 7 _ (by decide +kernel) fun t hf y => ?_
  rw [after0_7]
  have e := idx7 t
  have ht := c0 t
  have h0 : (y (0 : Fin 2)).val < 512 := (y (0 : Fin 2)).isLt
  have h1 : (y (1 : Fin 2)).val < 512 := (y (1 : Fin 2)).isLt
  have hy : (cfg0.win 7).xinj (cfg0.grid.coords t) y = ix2 (⟨(y (0 : Fin 2)).val, h0⟩ : Fin 512) (⟨(y (1 : Fin 2)).val, h1⟩ : Fin 512) := by
    funext a
    match a with
    | ⟨0, _⟩ => rfl
    | ⟨1, _⟩ => rfl
  rw [hy]
  refine (cast_eq _ _).trans ?_
  refine (whole7 m c t ⟨(y (0 : Fin 2)).val, h0⟩ ⟨(y (1 : Fin 2)).val, h1⟩ ⟨(grid0.coords t 0).val * 512 + (y (0 : Fin 2)).val, by omega⟩ rfl).trans ?_
  refine congrArg (G7 m c) ?_
  funext a
  apply Fin.ext
  match a with
  | ⟨0, _⟩ =>
    have h := congrFun e (0 : Fin 2)
    show (grid0.coords t 0).val * 512 + (y (0 : Fin 2)).val = win0_7.index t (0 : Fin 2) * 512 + 1 * (y (0 : Fin 2)).val
    rw [h]
    show (grid0.coords t 0).val * 512 + (y (0 : Fin 2)).val = (grid0.coords t 0).val * 512 + 1 * (y (0 : Fin 2)).val
    omega
  | ⟨1, _⟩ =>
    have h := congrFun e (1 : Fin 2)
    show (y (1 : Fin 2)).val = win0_7.index t (1 : Fin 2) * 512 + 1 * (y (1 : Fin 2)).val
    rw [h]
    show (y (1 : Fin 2)).val = 0 * 512 + 1 * (y (1 : Fin 2)).val
    omega

theorem whole8 (t : Fin cfg0.N) (r : Fin 512) (k : Fin 1024) (R : Fin 32768) (hR : R.val = (grid0.coords t 0).val * 512 + r.val) :
    (out0_8 (iblk m c 0 t) (iblk m c 1 t) (iblk m c 2 t) (iblk m c 3 t) (iblk m c 4 t) (iblk m c 5 t) (ix2 r k) : EReal) = G8 m c (ix2 R k) :=
  (out8_at (iblk m c 0 t) (iblk m c 1 t) (iblk m c 2 t) (iblk m c 3 t) (iblk m c 4 t) (iblk m c 5 t) (ix2 r k)).trans ((point8 m c t 2560 (by decide) r k R hR).trans (Ref.v99 (m ((c.tc : Thread nD τ).loc main_arg0)) (m ((c.tc : Thread nD τ).loc main_arg1)) (m ((c.tc : Thread nD τ).loc main_arg2)) R k).symm)

theorem final8 : (dats m 0 c).arrAt 8 cfg0.N = G8 m c := by
  refine (dats m 0 c).arrAt_eq_of_covers 8 _ (by decide +kernel) fun t hf y => ?_
  rw [after0_8]
  have e := idx8 t
  have ht := c0 t
  have h0 : (y (0 : Fin 2)).val < 512 := (y (0 : Fin 2)).isLt
  have h1 : (y (1 : Fin 2)).val < 1024 := (y (1 : Fin 2)).isLt
  have hy : (cfg0.win 8).xinj (cfg0.grid.coords t) y = ix2 (⟨(y (0 : Fin 2)).val, h0⟩ : Fin 512) (⟨(y (1 : Fin 2)).val, h1⟩ : Fin 1024) := by
    funext a
    match a with
    | ⟨0, _⟩ => rfl
    | ⟨1, _⟩ => rfl
  rw [hy]
  refine (cast_eq _ _).trans ?_
  refine (whole8 m c t ⟨(y (0 : Fin 2)).val, h0⟩ ⟨(y (1 : Fin 2)).val, h1⟩ ⟨(grid0.coords t 0).val * 512 + (y (0 : Fin 2)).val, by omega⟩ rfl).trans ?_
  refine congrArg (G8 m c) ?_
  funext a
  apply Fin.ext
  match a with
  | ⟨0, _⟩ =>
    have h := congrFun e (0 : Fin 2)
    show (grid0.coords t 0).val * 512 + (y (0 : Fin 2)).val = win0_8.index t (0 : Fin 2) * 512 + 1 * (y (0 : Fin 2)).val
    rw [h]
    show (grid0.coords t 0).val * 512 + (y (0 : Fin 2)).val = (grid0.coords t 0).val * 512 + 1 * (y (0 : Fin 2)).val
    omega
  | ⟨1, _⟩ =>
    have h := congrFun e (1 : Fin 2)
    show (y (1 : Fin 2)).val = win0_8.index t (1 : Fin 2) * 1024 + 1 * (y (1 : Fin 2)).val
    rw [h]
    show (y (1 : Fin 2)).val = 0 * 1024 + 1 * (y (1 : Fin 2)).val
    omega

theorem whole9 (t : Fin cfg0.N) (r : Fin 512) (k : Fin 1024) (R : Fin 32768) (hR : R.val = (grid0.coords t 0).val * 512 + r.val) :
    (out0_9 (iblk m c 0 t) (iblk m c 1 t) (iblk m c 2 t) (iblk m c 3 t) (iblk m c 4 t) (iblk m c 5 t) (ix2 r k) : EReal) = G9 m c (ix2 R k) :=
  (out9_at (iblk m c 0 t) (iblk m c 1 t) (iblk m c 2 t) (iblk m c 3 t) (iblk m c 4 t) (iblk m c 5 t) (ix2 r k)).trans ((point8 m c t 3584 (by decide) r k R hR).trans (Ref.v107 (m ((c.tc : Thread nD τ).loc main_arg0)) (m ((c.tc : Thread nD τ).loc main_arg1)) (m ((c.tc : Thread nD τ).loc main_arg2)) R k).symm)

theorem final9 : (dats m 0 c).arrAt 9 cfg0.N = G9 m c := by
  refine (dats m 0 c).arrAt_eq_of_covers 9 _ (by decide +kernel) fun t hf y => ?_
  rw [after0_9]
  have e := idx9 t
  have ht := c0 t
  have h0 : (y (0 : Fin 2)).val < 512 := (y (0 : Fin 2)).isLt
  have h1 : (y (1 : Fin 2)).val < 1024 := (y (1 : Fin 2)).isLt
  have hy : (cfg0.win 9).xinj (cfg0.grid.coords t) y = ix2 (⟨(y (0 : Fin 2)).val, h0⟩ : Fin 512) (⟨(y (1 : Fin 2)).val, h1⟩ : Fin 1024) := by
    funext a
    match a with
    | ⟨0, _⟩ => rfl
    | ⟨1, _⟩ => rfl
  rw [hy]
  refine (cast_eq _ _).trans ?_
  refine (whole9 m c t ⟨(y (0 : Fin 2)).val, h0⟩ ⟨(y (1 : Fin 2)).val, h1⟩ ⟨(grid0.coords t 0).val * 512 + (y (0 : Fin 2)).val, by omega⟩ rfl).trans ?_
  refine congrArg (G9 m c) ?_
  funext a
  apply Fin.ext
  match a with
  | ⟨0, _⟩ =>
    have h := congrFun e (0 : Fin 2)
    show (grid0.coords t 0).val * 512 + (y (0 : Fin 2)).val = win0_9.index t (0 : Fin 2) * 512 + 1 * (y (0 : Fin 2)).val
    rw [h]
    show (grid0.coords t 0).val * 512 + (y (0 : Fin 2)).val = (grid0.coords t 0).val * 512 + 1 * (y (0 : Fin 2)).val
    omega
  | ⟨1, _⟩ =>
    have h := congrFun e (1 : Fin 2)
    show (y (1 : Fin 2)).val = win0_9.index t (1 : Fin 2) * 1024 + 1 * (y (1 : Fin 2)).val
    rw [h]
    show (y (1 : Fin 2)).val = 0 * 1024 + 1 * (y (1 : Fin 2)).val
    omega

/-- Both programs end with the same results. -/
theorem algebraic : algebraic_InprojIdeal_InprojReferenceIdeal := fun m g m' g' _ hm =>
  ⟨fun c => G6 m c, fun c => G7 m c, fun c => G8 m c, fun c => G9 m c,
    (θ_run defs _ _).mono (fun r h c => ⟨(h c).1.trans (final6 m c), (h c).2.1.trans (final7 m c), (h c).2.2.1.trans (final8 m c),
      (h c).2.2.2.1.trans (final9 m c), (h c).2.2.2.2⟩) (Value.run_blocks m g),
    (θ_run Cert.InprojReferenceIdeal.defs _ _).mono (fun r h c => by
      obtain ⟨e0, e1, e2, e3, e4, e5⟩ := hm c
      refine ⟨(h c).1.trans ?_, (h c).2.1.trans ?_, (h c).2.2.1.trans ?_, (h c).2.2.2.1.trans ?_, (h c).2.2.2.2⟩
      · rw [Cert.InprojReferenceIdeal.Read.val_main_v90_eq, e0, e1, e2]; rfl
      · rw [Cert.InprojReferenceIdeal.Read.val_main_v91_eq, e0, e1, e2, e3, e4, e5]; rfl
      · rw [Cert.InprojReferenceIdeal.Read.val_main_v99_eq, e0, e1, e2]; rfl
      · rw [Cert.InprojReferenceIdeal.Read.val_main_v107_eq, e0, e1, e2]; rfl) (Cert.InprojReferenceIdeal.Value.run m' g')⟩

end Cert.Proof.II

end
-- ==== Proof.lean ====
module

public import proofs.«01_k».proof.Defs
public import proofs.«01_k».proof.Proof.K.Run
public import proofs.«01_k».proof.Proof.KI.Run
public import proofs.«01_k».proof.Proof.Gen.ReferenceIdeal.Run
public import proofs.«01_k».proof.Proof.Gen.ReferenceIdeal.Read
public import proofs.«01_k».proof.Proof.KI.Final
public import proofs.«01_k».proof.Proof.EI.Final
public import proofs.«01_k».proof.Proof.II.Final
public import proofs.«01_k».proof.Proof.Gen.ExpertsReferenceIdeal.Run
public import proofs.«01_k».proof.Proof.Gen.ExpertsReferenceIdeal.Read
public import proofs.«01_k».proof.Proof.Gen.Inproj.Launch
public import proofs.«01_k».proof.Proof.Gen.Inproj.Points
public import proofs.«01_k».proof.Proof.Gen.Inproj.Frame
public import proofs.«01_k».proof.Proof.Gen.Inproj.Skeleton
public import proofs.«01_k».proof.Proof.Gen.InprojIdeal.Launch
public import proofs.«01_k».proof.Proof.Gen.InprojIdeal.Points
public import proofs.«01_k».proof.Proof.Gen.InprojIdeal.Value
public import proofs.«01_k».proof.Proof.Gen.InprojIdeal.Skeleton
public import proofs.«01_k».proof.Proof.Gen.InprojReferenceIdeal.Run
public import proofs.«01_k».proof.Proof.Gen.InprojReferenceIdeal.Read
public import Idealize.ShloMosaic.Adequacy
public import Idealize.ShloMosaic.Init

@[expose] public section

noncomputable section

namespace Cert.Proof

open Idealize.ShloMosaic Idealize.SL.Sem

/-- The claims: of each of the three calls the three frames, the idealization and the equal values. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Inproj.Gen.facts, Cert.InprojIdeal.Gen.facts, Cert.InprojReferenceIdeal.Gen.facts, Cert.Pre_tables_ok.Gen.facts,
  fun m ρ _ => K.frame m ρ,
  fun m ρ _ => KI.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run m ρ),
  fun m ρ h => E.frame m ρ (E.pre_ok h),
  fun m ρ h => EI.frame m ρ (EI.pre_ok h),
  fun m ρ _ => (θ_run Cert.ExpertsReferenceIdeal.defs _ _).mono
    (fun r h => ⟨fun c => (h c).2, Idealize.ShloMosaic.sem_eq_zero_of_no_sems (by decide) r.2⟩)
    (Cert.ExpertsReferenceIdeal.Value.run m ρ),
  fun m ρ _ => Cert.Inproj.Gen.frame m ρ,
  fun m ρ _ => Cert.InprojIdeal.Gen.frame m ρ,
  fun m ρ _ => (θ_run Cert.InprojReferenceIdeal.defs _ _).mono
    (fun r h => ⟨fun c => (h c).2.2.2.2, Idealize.ShloMosaic.sem_eq_zero_of_no_sems (by decide) r.2⟩)
    (Cert.InprojReferenceIdeal.Value.run m ρ),
  ⟨IdealRules.named_const.statement Cert.KernelIdeal.κ "inv_ln2" .f32 0x3FB8AA3B#32 _ rfl,
    IdealRules.named_const.statement Cert.KernelIdeal.κ "underflow" .f32 0xC3200000#32 ⊥ rfl⟩,
  KI.algebraic,
  trivial, EI.algebraic,
  IdealRules.named_const.statement Cert.InprojIdeal.κ "q_scale" .f32 0x3E38AA3B#32 _ rfl, II.algebraic⟩

end Cert.Proof

end
